-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_ReferenceDIdeal (m : (ℓ : Loc Cert.ReferenceDIdeal.nD Cert.ReferenceDIdeal.τ Cert.ReferenceDIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2)
      ∧ r.2.mem ((c.tc : Thread Cert.KernelD.nD Cert.KernelD.τ).loc Cert.KernelD.main_arg3) = m ((c.tc : Thread Cert.KernelD.nD Cert.KernelD.τ).loc Cert.KernelD.main_arg3)
      ∧ r.2.mem ((c.tc : Thread Cert.KernelD.nD Cert.KernelD.τ).loc Cert.KernelD.main_arg4) = m ((c.tc : Thread Cert.KernelD.nD Cert.KernelD.τ).loc Cert.KernelD.main_arg4)
      ∧ r.2.mem ((c.tc : Thread Cert.KernelD.nD Cert.KernelD.τ).loc Cert.KernelD.main_arg5) = m ((c.tc : Thread Cert.KernelD.nD Cert.KernelD.τ).loc Cert.KernelD.main_arg5))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
      ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4)
      ∧ r.2.mem ((c.tc : Thread Cert.ReferenceDIdeal.nD Cert.ReferenceDIdeal.τ).loc Cert.ReferenceDIdeal.main_arg5) = m ((c.tc : Thread Cert.ReferenceDIdeal.nD Cert.ReferenceDIdeal.τ).loc Cert.ReferenceDIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)) (v5 : (c : Dev Cert.KernelIdeal.nD) → Buf (Elt Ideal) ((c.tc : Thread Cert.KernelIdeal.nD Cert.KernelIdeal.τ).loc Cert.KernelIdeal.main_v18_5)) (v6 : (c : Dev Cert.KernelIdeal.nD) → Buf (Elt Ideal) ((c.tc : Thread Cert.KernelIdeal.nD Cert.KernelIdeal.τ).loc Cert.KernelIdeal.main_v18_6)) (v7 : (c : Dev Cert.KernelIdeal.nD) → Buf (Elt Ideal) ((c.tc : Thread Cert.KernelIdeal.nD Cert.KernelIdeal.τ).loc Cert.KernelIdeal.main_v18_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_v18_5) = v5 c
          ∧ r.2.mem ((c.tc : Thread Cert.KernelIdeal.nD Cert.KernelIdeal.τ).loc Cert.KernelIdeal.main_v18_6) = v6 c
          ∧ r.2.mem ((c.tc : Thread Cert.KernelIdeal.nD Cert.KernelIdeal.τ).loc Cert.KernelIdeal.main_v18_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_v15_3) = v3 c
          ∧ r.2.mem ((c.tc : Thread Cert.ReferenceIdeal.nD Cert.ReferenceIdeal.τ).loc Cert.ReferenceIdeal.main_v15_4) = v4 c
          ∧ r.2.mem ((c.tc : Thread Cert.ReferenceIdeal.nD Cert.ReferenceIdeal.τ).loc Cert.ReferenceIdeal.main_v15_5) = v5 c
          ∧ r.2.mem ((c.tc : Thread Cert.ReferenceIdeal.nD Cert.ReferenceIdeal.τ).loc Cert.ReferenceIdeal.main_v15_6) = v6 c
          ∧ r.2.mem ((c.tc : Thread Cert.ReferenceIdeal.nD Cert.ReferenceIdeal.τ).loc Cert.ReferenceIdeal.main_v15_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)) →
    ∃ (v0 : (c : Dev Cert.KernelOIdeal.nD) → Buf (Elt Ideal) ((c.tc : Thread Cert.KernelOIdeal.nD Cert.KernelOIdeal.τ).loc Cert.KernelOIdeal.main_v5_0)) (v1 : (c : Dev Cert.KernelOIdeal.nD) → Buf (Elt Ideal) ((c.tc : Thread Cert.KernelOIdeal.nD Cert.KernelOIdeal.τ).loc Cert.KernelOIdeal.main_v5_1)) (v2 : (c : Dev Cert.KernelOIdeal.nD) → Buf (Elt Ideal) ((c.tc : Thread Cert.KernelOIdeal.nD Cert.KernelOIdeal.τ).loc Cert.KernelOIdeal.main_v5_2)) (v3 : (c : Dev Cert.KernelOIdeal.nD) → Buf (Elt Ideal) ((c.tc : Thread Cert.KernelOIdeal.nD Cert.KernelOIdeal.τ).loc Cert.KernelOIdeal.main_v5_3)) (v4 : (c : Dev Cert.KernelOIdeal.nD) → Buf (Elt Ideal) ((c.tc : Thread Cert.KernelOIdeal.nD Cert.KernelOIdeal.τ).loc Cert.KernelOIdeal.main_v5_4)) (v5 : (c : Dev Cert.KernelOIdeal.nD) → Buf (Elt Ideal) ((c.tc : Thread Cert.KernelOIdeal.nD Cert.KernelOIdeal.τ).loc Cert.KernelOIdeal.main_v5_5)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v5_0) = v0 c
          ∧ r.2.mem ((c.tc : Thread Cert.KernelOIdeal.nD Cert.KernelOIdeal.τ).loc Cert.KernelOIdeal.main_v5_1) = v1 c
          ∧ r.2.mem ((c.tc : Thread Cert.KernelOIdeal.nD Cert.KernelOIdeal.τ).loc Cert.KernelOIdeal.main_v5_2) = v2 c
          ∧ r.2.mem ((c.tc : Thread Cert.KernelOIdeal.nD Cert.KernelOIdeal.τ).loc Cert.KernelOIdeal.main_v5_3) = v3 c
          ∧ r.2.mem ((c.tc : Thread Cert.KernelOIdeal.nD Cert.KernelOIdeal.τ).loc Cert.KernelOIdeal.main_v5_4) = v4 c
          ∧ r.2.mem ((c.tc : Thread Cert.KernelOIdeal.nD Cert.KernelOIdeal.τ).loc Cert.KernelOIdeal.main_v5_5) = v5 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v1_0) = v0 c
          ∧ r.2.mem ((c.tc : Thread Cert.ReferenceOIdeal.nD Cert.ReferenceOIdeal.τ).loc Cert.ReferenceOIdeal.main_v1_1) = v1 c
          ∧ r.2.mem ((c.tc : Thread Cert.ReferenceOIdeal.nD Cert.ReferenceOIdeal.τ).loc Cert.ReferenceOIdeal.main_v1_2) = v2 c
          ∧ r.2.mem ((c.tc : Thread Cert.ReferenceOIdeal.nD Cert.ReferenceOIdeal.τ).loc Cert.ReferenceOIdeal.main_v1_3) = v3 c
          ∧ r.2.mem ((c.tc : Thread Cert.ReferenceOIdeal.nD Cert.ReferenceOIdeal.τ).loc Cert.ReferenceOIdeal.main_v1_4) = v4 c
          ∧ r.2.mem ((c.tc : Thread Cert.ReferenceOIdeal.nD Cert.ReferenceOIdeal.τ).loc Cert.ReferenceOIdeal.main_v1_5) = v5 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5))

def preserves_KernelD_KernelDIdeal : Prop :=
  True

def algebraic_KernelDIdeal_ReferenceDIdeal [hKernelDIdeal : Cert.KernelDIdeal.Facts] [hReferenceDIdeal : Cert.ReferenceDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)
      ∧ m' ((c.tc : Thread Cert.ReferenceDIdeal.nD Cert.ReferenceDIdeal.τ).loc Cert.ReferenceDIdeal.main_arg3) = m ((c.tc : Thread Cert.KernelDIdeal.nD Cert.KernelDIdeal.τ).loc Cert.KernelDIdeal.main_arg3)
      ∧ m' ((c.tc : Thread Cert.ReferenceDIdeal.nD Cert.ReferenceDIdeal.τ).loc Cert.ReferenceDIdeal.main_arg4) = m ((c.tc : Thread Cert.KernelDIdeal.nD Cert.KernelDIdeal.τ).loc Cert.KernelDIdeal.main_arg4)
      ∧ m' ((c.tc : Thread Cert.ReferenceDIdeal.nD Cert.ReferenceDIdeal.τ).loc Cert.ReferenceDIdeal.main_arg5) = m ((c.tc : Thread Cert.KernelDIdeal.nD Cert.KernelDIdeal.τ).loc Cert.KernelDIdeal.main_arg5)) →
    ∃ (v0 : (c : Dev Cert.KernelDIdeal.nD) → Buf (Elt Ideal) ((c.tc : Thread Cert.KernelDIdeal.nD Cert.KernelDIdeal.τ).loc Cert.KernelDIdeal.main_v2_0)) (v1 : (c : Dev Cert.KernelDIdeal.nD) → Buf (Elt Ideal) ((c.tc : Thread Cert.KernelDIdeal.nD Cert.KernelDIdeal.τ).loc Cert.KernelDIdeal.main_v2_1)) (v2 : (c : Dev Cert.KernelDIdeal.nD) → Buf (Elt Ideal) ((c.tc : Thread Cert.KernelDIdeal.nD Cert.KernelDIdeal.τ).loc Cert.KernelDIdeal.main_v2_2)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v2_0) = v0 c
          ∧ r.2.mem ((c.tc : Thread Cert.KernelDIdeal.nD Cert.KernelDIdeal.τ).loc Cert.KernelDIdeal.main_v2_1) = v1 c
          ∧ r.2.mem ((c.tc : Thread Cert.KernelDIdeal.nD Cert.KernelDIdeal.τ).loc Cert.KernelDIdeal.main_v2_2) = v2 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
          ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
          ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
          ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v0_0) = v0 c
          ∧ r.2.mem ((c.tc : Thread Cert.ReferenceDIdeal.nD Cert.ReferenceDIdeal.τ).loc Cert.ReferenceDIdeal.main_v0_1) = v1 c
          ∧ r.2.mem ((c.tc : Thread Cert.ReferenceDIdeal.nD Cert.ReferenceDIdeal.τ).loc Cert.ReferenceDIdeal.main_v0_2) = v2 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2)
          ∧ r.2.mem ((c.tc : Thread Cert.ReferenceDIdeal.nD Cert.ReferenceDIdeal.τ).loc Cert.ReferenceDIdeal.main_arg3) = m' ((c.tc : Thread Cert.ReferenceDIdeal.nD Cert.ReferenceDIdeal.τ).loc Cert.ReferenceDIdeal.main_arg3)
          ∧ r.2.mem ((c.tc : Thread Cert.ReferenceDIdeal.nD Cert.ReferenceDIdeal.τ).loc Cert.ReferenceDIdeal.main_arg4) = m' ((c.tc : Thread Cert.ReferenceDIdeal.nD Cert.ReferenceDIdeal.τ).loc Cert.ReferenceDIdeal.main_arg4)
          ∧ r.2.mem ((c.tc : Thread Cert.ReferenceDIdeal.nD Cert.ReferenceDIdeal.τ).loc Cert.ReferenceDIdeal.main_arg5) = m' ((c.tc : Thread Cert.ReferenceDIdeal.nD Cert.ReferenceDIdeal.τ).loc Cert.ReferenceDIdeal.main_arg5))

def Claim : Prop :=
  ∃ (hKernel : Cert.Kernel.Facts) (hKernelIdeal : Cert.KernelIdeal.Facts) (hReferenceIdeal : Cert.ReferenceIdeal.Facts) (hKernelO : Cert.KernelO.Facts) (hKernelOIdeal : Cert.KernelOIdeal.Facts) (hReferenceOIdeal : Cert.ReferenceOIdeal.Facts) (hKernelD : Cert.KernelD.Facts) (hKernelDIdeal : Cert.KernelDIdeal.Facts) (hReferenceDIdeal : Cert.ReferenceDIdeal.Facts),
    quiescent_Kernel (hKernel := hKernel)
    ∧ quiescent_KernelIdeal (hKernelIdeal := hKernelIdeal)
    ∧ quiescent_ReferenceIdeal (hReferenceIdeal := hReferenceIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelD (hKernelD := hKernelD)
    ∧ quiescent_KernelDIdeal (hKernelDIdeal := hKernelDIdeal)
    ∧ quiescent_ReferenceDIdeal (hReferenceDIdeal := hReferenceDIdeal)
    ∧ preserves_Kernel_KernelIdeal
    ∧ algebraic_KernelIdeal_ReferenceIdeal (hKernelIdeal := hKernelIdeal) (hReferenceIdeal := hReferenceIdeal)
    ∧ preserves_KernelO_KernelOIdeal
    ∧ algebraic_KernelOIdeal_ReferenceOIdeal (hKernelOIdeal := hKernelOIdeal) (hReferenceOIdeal := hReferenceOIdeal)
    ∧ preserves_KernelD_KernelDIdeal
    ∧ algebraic_KernelDIdeal_ReferenceDIdeal (hKernelDIdeal := hKernelDIdeal) (hReferenceDIdeal := hReferenceDIdeal)
-- ==== Kernel.lean ====
abbrev S6x256x2880 : Shape := ⟨3, ![6, 256, 2880]⟩
abbrev S3x30x96x2880 : Shape := ⟨4, ![3, 30, 96, 2880]⟩
abbrev S3x30x96 : Shape := ⟨3, ![3, 30, 96]⟩
abbrev S30x96 : Shape := ⟨2, ![30, 96]⟩
abbrev S48 : Shape := ⟨1, ![48]⟩
abbrev S_ : Shape := ⟨0, ![]⟩
abbrev S256 : Shape := ⟨1, ![256]⟩
abbrev S256x1 : Shape := ⟨2, ![256, 1]⟩
abbrev S1x48 : Shape := ⟨2, ![1, 48]⟩
abbrev S256x48 : Shape := ⟨2, ![256, 48]⟩
abbrev S48x256 : Shape := ⟨2, ![48, 256]⟩
abbrev S6x2880x256 : Shape := ⟨3, ![6, 2880, 256]⟩
abbrev S6x1x256 : Shape := ⟨3, ![6, 1, 256]⟩
abbrev S6x30x96x256 : Shape := ⟨4, ![6, 30, 96, 256]⟩
abbrev S6x30x256 : Shape := ⟨3, ![6, 30, 256]⟩
abbrev S3x1x96x2880 : Shape := ⟨4, ![3, 1, 96, 2880]⟩
abbrev S6x1x96x256 : Shape := ⟨4, ![6, 1, 96, 256]⟩
abbrev S1x2880x256 : Shape := ⟨3, ![1, 2880, 256]⟩
abbrev S2880x256 : Shape := ⟨2, ![2880, 256]⟩
abbrev S1x256 : Shape := ⟨2, ![1, 256]⟩
abbrev S252x1x256 : Shape := ⟨3, ![252, 1, 256]⟩
abbrev S1x1x256 : Shape := ⟨3, ![1, 1, 256]⟩
abbrev S1x96 : Shape := ⟨2, ![1, 96]⟩
abbrev S128x96 : Shape := ⟨2, ![128, 96]⟩
abbrev S96x128 : Shape := ⟨2, ![96, 128]⟩
abbrev S96x256 : Shape := ⟨2, ![96, 256]⟩
abbrev S1x1x96 : Shape := ⟨3, ![1, 1, 96]⟩
abbrev S288x2880 : Shape := ⟨2, ![288, 2880]⟩
abbrev S256x256 : Shape := ⟨2, ![256, 256]⟩
abbrev S288x256 : Shape := ⟨2, ![288, 256]⟩
abbrev S1x1x96x256 : Shape := ⟨4, ![1, 1, 96, 256]⟩
abbrev S128x256 : Shape := ⟨2, ![128, 256]⟩
abbrev S256x128 : Shape := ⟨2, ![256, 128]⟩

abbrev nBuf : Space → Nat
  | .hbm => 33
  | .vmem => 18
  | .smem => 0
  | _ => 0

abbrev bufTy : (tb : Table) → Fin (tcTables nBuf tb) → BufTy
  | .hbm, ⟨0, _⟩ => ⟨S6x256x2880, .bf16⟩
  | .hbm, ⟨1, _⟩ => ⟨S3x30x96x2880, .fp8e4m3⟩
  | .hbm, ⟨2, _⟩ => ⟨S3x30x96, .f32⟩
  | .hbm, ⟨3, _⟩ => ⟨S30x96, .f32⟩
  | .hbm, ⟨4, _⟩ => ⟨S48, .f32⟩
  | .hbm, ⟨5, _⟩ => ⟨S_, .f32⟩
  | .hbm, ⟨6, _⟩ => ⟨S48, .f32⟩
  | .hbm, ⟨7, _⟩ => ⟨S48, .f32⟩
  | .hbm, ⟨8, _⟩ => ⟨S_, .f32⟩
  | .hbm, ⟨9, _⟩ => ⟨S48, .f32⟩
  | .hbm, ⟨10, _⟩ => ⟨S48, .f32⟩
  | .hbm, ⟨11, _⟩ => ⟨S_, .f32⟩
  | .hbm, ⟨12, _⟩ => ⟨S48, .f32⟩
  | .hbm, ⟨13, _⟩ => ⟨S48, .f32⟩
  | .hbm, ⟨14, _⟩ => ⟨S256, .f32⟩
  | .hbm, ⟨15, _⟩ => ⟨S256x1, .f32⟩
  | .hbm, ⟨16, _⟩ => ⟨S1x48, .f32⟩
  | .hbm, ⟨17, _⟩ => ⟨S256x48, .f32⟩
  | .hbm, ⟨18, _⟩ => ⟨S256x48, .f32⟩
  | .hbm, ⟨19, _⟩ => ⟨S256x48, .f32⟩
  | .hbm, ⟨20, _⟩ => ⟨S256x48, .f32⟩
  | .hbm, ⟨21, _⟩ => ⟨S48x256, .f32⟩
  | .hbm, ⟨22, _⟩ => ⟨S256x48, .f32⟩
  | .hbm, ⟨23, _⟩ => ⟨S48x256, .f32⟩
  | .hbm, ⟨24, _⟩ => ⟨S6x2880x256, .bf16⟩
  | .hbm, ⟨25, _⟩ => ⟨S6x2880x256, .fp8e4m3⟩
  | .hbm, ⟨26, _⟩ => ⟨S6x1x256, .f32⟩
  | .hbm, ⟨27, _⟩ => ⟨S6x30x96x256, .fp8e4m3⟩
  | .hbm, ⟨28, _⟩ => ⟨S6x30x256, .f32⟩
  | .hbm, ⟨29, _⟩ => ⟨S6x30x96x256, .fp8e4m3⟩
  | .hbm, ⟨30, _⟩ => ⟨S6x30x256, .f32⟩
  | .hbm, ⟨31, _⟩ => ⟨S6x30x96x256, .f32⟩
  | .hbm, ⟨32, _⟩ => ⟨S6x1x256, .f32⟩
  | .local _ .vmem, ⟨0, _⟩ => ⟨S6x2880x256, .bf16⟩
  | .local _ .vmem, ⟨1, _⟩ => ⟨S3x1x96x2880, .fp8e4m3⟩
  | .local _ .vmem, ⟨2, _⟩ => ⟨S3x1x96x2880, .fp8e4m3⟩
  | .local _ .vmem, ⟨3, _⟩ => ⟨S3x30x96, .f32⟩
  | .local _ .vmem, ⟨4, _⟩ => ⟨S30x96, .f32⟩
  | .local _ .vmem, ⟨5, _⟩ => ⟨S48x256, .f32⟩
  | .local _ .vmem, ⟨6, _⟩ => ⟨S48x256, .f32⟩
  | .local _ .vmem, ⟨7, _⟩ => ⟨S6x2880x256, .fp8e4m3⟩
  | .local _ .vmem, ⟨8, _⟩ => ⟨S6x1x256, .f32⟩
  | .local _ .vmem, ⟨9, _⟩ => ⟨S6x1x96x256, .fp8e4m3⟩
  | .local _ .vmem, ⟨10, _⟩ => ⟨S6x1x96x256, .fp8e4m3⟩
  | .local _ .vmem, ⟨11, _⟩ => ⟨S6x30x256, .f32⟩
  | .local _ .vmem, ⟨12, _⟩ => ⟨S6x1x96x256, .fp8e4m3⟩
  | .local _ .vmem, ⟨13, _⟩ => ⟨S6x1x96x256, .fp8e4m3⟩
  | .local _ .vmem, ⟨14, _⟩ => ⟨S6x30x256, .f32⟩
  | .local _ .vmem, ⟨15, _⟩ => ⟨S6x1x96x256, .f32⟩
  | .local _ .vmem, ⟨16, _⟩ => ⟨S6x1x96x256, .f32⟩
  | .local _ .vmem, ⟨17, _⟩ => ⟨S6x1x256, .f32⟩
  | _, _ => ⟨S6x256x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev main_v18_5 : Ref sig .tc := ⟨.hbm, 30, rfl⟩
abbrev main_v18_6 : Ref sig .tc := ⟨.hbm, 31, rfl⟩
abbrev main_v18_7 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16
abbrev cc0_sem13_0 : DmaSem sig := 17

abbrev nD : Nat := 1
abbrev τ : Topo := Topo.v7x

variable {F : FTy → Type} [FloatOps F]

abbrev grid0 : Pipeline.Grid := ⟨1, ![30], ![false]⟩

def k0_off1 (i : grid0.Coords) : Fin 2 → Nat :=
  let arg0 : BitVec 32 := BitVec.ofNat 32 (i 0).val
  let v7 : Index := Scalar.indexCast arg0
  let c0_4 : Index := 0#32
  ![v7.toNat, 0]
def k0_off2 (i : grid0.Coords) : Fin 3 → Nat :=
  let c0_5 : Index := 0#32
  let arg0 : BitVec 32 := BitVec.ofNat 32 (i 0).val
  let v13 : Index := Scalar.indexCast arg0
  let c0_6 : Index := 0#32
  ![0, v13.toNat, 0]
def k0_off3 (i : grid0.Coords) : Fin 3 → Nat :=
  let c1 : Index := 1#32
  let arg0 : BitVec 32 := BitVec.ofNat 32 (i 0).val
  let v20 : Index := Scalar.indexCast arg0
  let c0_7 : Index := 0#32
  ![1, v20.toNat, 0]
def k0_off4 (i : grid0.Coords) : Fin 3 → Nat :=
  let c2 : Index := 2#32
  let arg0 : BitVec 32 := BitVec.ofNat 32 (i 0).val
  let v27 : Index := Scalar.indexCast arg0
  let c0_8 : Index := 0#32
  ![2, v27.toNat, 0]
def k0_off5 (i : grid0.Coords) : Fin 3 → Nat :=
  let c0_55 : Index := 0#32
  let arg0 : BitVec 32 := BitVec.ofNat 32 (i 0).val
  let v172 : Index := Scalar.indexCast arg0
  let c0_56 : Index := 0#32
  ![0, v172.toNat, 0]
def k0_off6 (i : grid0.Coords) : Fin 3 → Nat :=
  let c1_123 : Index := 1#32
  let arg0 : BitVec 32 := BitVec.ofNat 32 (i 0).val
  let v350 : Index := Scalar.indexCast arg0
  let c0_124 : Index := 0#32
  ![1, v350.toNat, 0]
def k0_off7 (i : grid0.Coords) : Fin 3 → Nat :=
  let c2_191 : Index := 2#32
  let arg0 : BitVec 32 := BitVec.ofNat 32 (i 0).val
  let v528 : Index := Scalar.indexCast arg0
  let c0_192 : Index := 0#32
  ![2, v528.toNat, 0]
def k0_off8 (i : grid0.Coords) : Fin 3 → Nat :=
  let c3_258 : Index := 3#32
  let arg0 : BitVec 32 := BitVec.ofNat 32 (i 0).val
  let v706 : Index := Scalar.indexCast arg0
  let c0_259 : Index := 0#32
  ![3, v706.toNat, 0]
def k0_off9 (i : grid0.Coords) : Fin 3 → Nat :=
  let c4_325 : Index := 4#32
  let arg0 : BitVec 32 := BitVec.ofNat 32 (i 0).val
  let v884 : Index := Scalar.indexCast arg0
  let c0_326 : Index := 0#32
  ![4, v884.toNat, 0]
def k0_off10 (i : grid0.Coords) : Fin 3 → Nat :=
  let c5_392 : Index := 5#32
  let arg0 : BitVec 32 := BitVec.ofNat 32 (i 0).val
  let v1062 : Index := Scalar.indexCast arg0
  let c0_393 : Index := 0#32
  ![5, v1062.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S6x2880x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x1x96x2880 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x30x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x2880x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6x1x96x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S6x30x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S6x1x96x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S6x30x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S6x1x96x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S6x1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S6x256x2880 : Shape := ⟨3, ![6, 256, 2880]⟩
abbrev S3x30x96x2880 : Shape := ⟨4, ![3, 30, 96, 2880]⟩
abbrev S3x30x96 : Shape := ⟨3, ![3, 30, 96]⟩
abbrev S30x96 : Shape := ⟨2, ![30, 96]⟩
abbrev S48 : Shape := ⟨1, ![48]⟩
abbrev S_ : Shape := ⟨0, ![]⟩
abbrev S256 : Shape := ⟨1, ![256]⟩
abbrev S256x1 : Shape := ⟨2, ![256, 1]⟩
abbrev S1x48 : Shape := ⟨2, ![1, 48]⟩
abbrev S256x48 : Shape := ⟨2, ![256, 48]⟩
abbrev S6x2880x256 : Shape := ⟨3, ![6, 2880, 256]⟩
abbrev S6x1x256 : Shape := ⟨3, ![6, 1, 256]⟩
abbrev S6x30x96x256 : Shape := ⟨4, ![6, 30, 96, 256]⟩
abbrev S6x30x256 : Shape := ⟨3, ![6, 30, 256]⟩
abbrev S1x256x1x48 : Shape := ⟨4, ![1, 256, 1, 48]⟩
abbrev S6x256 : Shape := ⟨2, ![6, 256]⟩
abbrev S6x256x1 : Shape := ⟨3, ![6, 256, 1]⟩
abbrev S1536x2880 : Shape := ⟨2, ![1536, 2880]⟩
abbrev S8640x2880 : Shape := ⟨2, ![8640, 2880]⟩
abbrev S1536x8640 : Shape := ⟨2, ![1536, 8640]⟩
abbrev S6x256x3x30x96 : Shape := ⟨5, ![6, 256, 3, 30, 96]⟩
abbrev S6x256x1x1x1 : Shape := ⟨5, ![6, 256, 1, 1, 1]⟩
abbrev S1x1x3x30x96 : Shape := ⟨5, ![1, 1, 3, 30, 96]⟩
abbrev S6x256x1x30x96 : Shape := ⟨5, ![6, 256, 1, 30, 96]⟩
abbrev S6x256x30x96 : Shape := ⟨4, ![6, 256, 30, 96]⟩
abbrev S6x256x30x48 : Shape := ⟨4, ![6, 256, 30, 48]⟩
abbrev S6x256x30 : Shape := ⟨3, ![6, 256, 30]⟩
abbrev S6x256x30x1 : Shape := ⟨4, ![6, 256, 30, 1]⟩
abbrev S1x1x30x96 : Shape := ⟨4, ![1, 1, 30, 96]⟩
abbrev S6x30x256x96 : Shape := ⟨4, ![6, 30, 256, 96]⟩
abbrev S180x256x96 : Shape := ⟨3, ![180, 256, 96]⟩
abbrev S180x256x256 : Shape := ⟨3, ![180, 256, 256]⟩
abbrev S6x30x256x1 : Shape := ⟨4, ![6, 30, 256, 1]⟩
abbrev S180x256x1 : Shape := ⟨3, ![180, 256, 1]⟩
abbrev S180x1x256 : Shape := ⟨3, ![180, 1, 256]⟩
abbrev S180x256 : Shape := ⟨2, ![180, 256]⟩

abbrev nBuf : Space → Nat
  | .hbm => 30
  | .vmem => 14
  | .smem => 0
  | _ => 0

abbrev bufTy : (tb : Table) → Fin (tcTables nBuf tb) → BufTy
  | .hbm, ⟨0, _⟩ => ⟨S6x256x2880, .bf16⟩
  | .hbm, ⟨1, _⟩ => ⟨S3x30x96x2880, .fp8e4m3⟩
  | .hbm, ⟨2, _⟩ => ⟨S3x30x96, .f32⟩
  | .hbm, ⟨3, _⟩ => ⟨S30x96, .f32⟩
  | .hbm, ⟨4, _⟩ => ⟨S48, .f32⟩
  | .hbm, ⟨5, _⟩ => ⟨S_, .f32⟩
  | .hbm, ⟨6, _⟩ => ⟨S48, .f32⟩
  | .hbm, ⟨7, _⟩ => ⟨S48, .f32⟩
  | .hbm, ⟨8, _⟩ => ⟨S_, .f32⟩
  | .hbm, ⟨9, _⟩ => ⟨S48, .f32⟩
  | .hbm, ⟨10, _⟩ => ⟨S48, .f32⟩
  | .hbm, ⟨11, _⟩ => ⟨S_, .f32⟩
  | .hbm, ⟨12, _⟩ => ⟨S48, .f32⟩
  | .hbm, ⟨13, _⟩ => ⟨S48, .f32⟩
  | .hbm, ⟨14, _⟩ => ⟨S256, .f32⟩
  | .hbm, ⟨15, _⟩ => ⟨S256x1, .f32⟩
  | .hbm, ⟨16, _⟩ => ⟨S1x48, .f32⟩
  | .hbm, ⟨17, _⟩ => ⟨S256x48, .f32⟩
  | .hbm, ⟨18, _⟩ => ⟨S256x48, .f32⟩
  | .hbm, ⟨19, _⟩ => ⟨S256x48, .f32⟩
  | .hbm, ⟨20, _⟩ => ⟨S256x48, .f32⟩
  | .hbm, ⟨21, _⟩ => ⟨S256x48, .f32⟩
  | .hbm, ⟨22, _⟩ => ⟨S6x2880x256, .fp8e4m3⟩
  | .hbm, ⟨23, _⟩ => ⟨S6x1x256, .f32⟩
  | .hbm, ⟨24, _⟩ => ⟨S6x30x96x256, .fp8e4m3⟩
  | .hbm, ⟨25, _⟩ => ⟨S6x30x256, .f32⟩
  | .hbm, ⟨26, _⟩ => ⟨S6x30x96x256, .fp8e4m3⟩
  | .hbm, ⟨27, _⟩ => ⟨S6x30x256, .f32⟩
  | .hbm, ⟨28, _⟩ => ⟨S6x30x96x256, .f32⟩
  | .hbm, ⟨29, _⟩ => ⟨S6x1x256, .f32⟩
  | .local _ .vmem, ⟨0, _⟩ => ⟨S6x256x2880, .bf16⟩
  | .local _ .vmem, ⟨1, _⟩ => ⟨S3x30x96x2880, .fp8e4m3⟩
  | .local _ .vmem, ⟨2, _⟩ => ⟨S3x30x96, .f32⟩
  | .local _ .vmem, ⟨3, _⟩ => ⟨S30x96, .f32⟩
  | .local _ .vmem, ⟨4, _⟩ => ⟨S256x48, .f32⟩
  | .local _ .vmem, ⟨5, _⟩ => ⟨S256x48, .f32⟩
  | .local _ .vmem, ⟨6, _⟩ => ⟨S6x2880x256, .fp8e4m3⟩
  | .local _ .vmem, ⟨7, _⟩ => ⟨S6x1x256, .f32⟩
  | .local _ .vmem, ⟨8, _⟩ => ⟨S6x30x96x256, .fp8e4m3⟩
  | .local _ .vmem, ⟨9, _⟩ => ⟨S6x30x256, .f32⟩
  | .local _ .vmem, ⟨10, _⟩ => ⟨S6x30x96x256, .fp8e4m3⟩
  | .local _ .vmem, ⟨11, _⟩ => ⟨S6x30x256, .f32⟩
  | .local _ .vmem, ⟨12, _⟩ => ⟨S6x30x96x256, .f32⟩
  | .local _ .vmem, ⟨13, _⟩ => ⟨S6x1x256, .f32⟩
  | _, _ => ⟨S6x256x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev main_v15_6 : Ref sig .tc := ⟨.hbm, 28, rfl⟩
abbrev main_v15_7 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S6x256x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x30x96x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x30x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2880x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x30x96x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x30x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x30x96x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x30x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x30x96x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== KernelO.lean ====
abbrev S6x2880x256 : Shape := ⟨3, ![6, 2880, 256]⟩
abbrev S6x1x256 : Shape := ⟨3, ![6, 1, 256]⟩
abbrev S2880x30x96 : Shape := ⟨3, ![2880, 30, 96]⟩
abbrev S2880 : Shape := ⟨1, ![2880]⟩
abbrev S6x256x2880 : Shape := ⟨3, ![6, 256, 2880]⟩
abbrev S30x96x2880 : Shape := ⟨3, ![30, 96, 2880]⟩
abbrev S2880x2880 : Shape := ⟨2, ![2880, 2880]⟩
abbrev S1x2880 : Shape := ⟨2, ![1, 2880]⟩
abbrev S1536x2880 : Shape := ⟨2, ![1536, 2880]⟩
abbrev S1x2880x256 : Shape := ⟨3, ![1, 2880, 256]⟩
abbrev S1x1x256 : Shape := ⟨3, ![1, 1, 256]⟩
abbrev S256x2880 : Shape := ⟨2, ![256, 2880]⟩
abbrev S2880x128 : Shape := ⟨2, ![2880, 128]⟩
abbrev S128x2880 : Shape := ⟨2, ![128, 2880]⟩
abbrev S1x256 : Shape := ⟨2, ![1, 256]⟩
abbrev S252x1x256 : Shape := ⟨3, ![252, 1, 256]⟩
abbrev S2880x256 : Shape := ⟨2, ![2880, 256]⟩
abbrev S256 : Shape := ⟨1, ![256]⟩

abbrev nBuf : Space → Nat
  | .hbm => 17
  | .vmem => 24
  | .smem => 0
  | _ => 0

abbrev bufTy : (tb : Table) → Fin (tcTables nBuf tb) → BufTy
  | .hbm, ⟨0, _⟩ => ⟨S6x2880x256, .f32⟩
  | .hbm, ⟨1, _⟩ => ⟨S6x1x256, .f32⟩
  | .hbm, ⟨2, _⟩ => ⟨S2880x30x96, .fp8e4m3⟩
  | .hbm, ⟨3, _⟩ => ⟨S2880, .f32⟩
  | .hbm, ⟨4, _⟩ => ⟨S2880, .f32⟩
  | .hbm, ⟨5, _⟩ => ⟨S6x256x2880, .bf16⟩
  | .hbm, ⟨6, _⟩ => ⟨S6x2880x256, .bf16⟩
  | .hbm, ⟨7, _⟩ => ⟨S30x96x2880, .fp8e4m3⟩
  | .hbm, ⟨8, _⟩ => ⟨S2880x2880, .fp8e4m3⟩
  | .hbm, ⟨9, _⟩ => ⟨S1x2880, .f32⟩
  | .hbm, ⟨10, _⟩ => ⟨S1x2880, .f32⟩
  | .hbm, ⟨11, _⟩ => ⟨S6x2880x256, .fp8e4m3⟩
  | .hbm, ⟨12, _⟩ => ⟨S6x1x256, .f32⟩
  | .hbm, ⟨13, _⟩ => ⟨S6x2880x256, .fp8e4m3⟩
  | .hbm, ⟨14, _⟩ => ⟨S6x1x256, .f32⟩
  | .hbm, ⟨15, _⟩ => ⟨S1536x2880, .fp8e4m3⟩
  | .hbm, ⟨16, _⟩ => ⟨S6x2880x256, .f32⟩
  | .local _ .vmem, ⟨0, _⟩ => ⟨S1x2880x256, .f32⟩
  | .local _ .vmem, ⟨1, _⟩ => ⟨S1x2880x256, .f32⟩
  | .local _ .vmem, ⟨2, _⟩ => ⟨S1x1x256, .f32⟩
  | .local _ .vmem, ⟨3, _⟩ => ⟨S1x1x256, .f32⟩
  | .local _ .vmem, ⟨4, _⟩ => ⟨S2880x2880, .fp8e4m3⟩
  | .local _ .vmem, ⟨5, _⟩ => ⟨S1x2880, .f32⟩
  | .local _ .vmem, ⟨6, _⟩ => ⟨S1x2880, .f32⟩
  | .local _ .vmem, ⟨7, _⟩ => ⟨S1x2880x256, .bf16⟩
  | .local _ .vmem, ⟨8, _⟩ => ⟨S1x2880x256, .bf16⟩
  | .local _ .vmem, ⟨9, _⟩ => ⟨S1x2880x256, .fp8e4m3⟩
  | .local _ .vmem, ⟨10, _⟩ => ⟨S1x2880x256, .fp8e4m3⟩
  | .local _ .vmem, ⟨11, _⟩ => ⟨S1x1x256, .f32⟩
  | .local _ .vmem, ⟨12, _⟩ => ⟨S1x1x256, .f32⟩
  | .local _ .vmem, ⟨13, _⟩ => ⟨S1x2880x256, .fp8e4m3⟩
  | .local _ .vmem, ⟨14, _⟩ => ⟨S1x2880x256, .fp8e4m3⟩
  | .local _ .vmem, ⟨15, _⟩ => ⟨S1x1x256, .f32⟩
  | .local _ .vmem, ⟨16, _⟩ => ⟨S1x1x256, .f32⟩
  | .local _ .vmem, ⟨17, _⟩ => ⟨S256x2880, .fp8e4m3⟩
  | .local _ .vmem, ⟨18, _⟩ => ⟨S256x2880, .fp8e4m3⟩
  | .local _ .vmem, ⟨19, _⟩ => ⟨S1x2880x256, .f32⟩
  | .local _ .vmem, ⟨20, _⟩ => ⟨S1x2880x256, .f32⟩
  | .local _ .vmem, ⟨21, _⟩ => ⟨S2880x2880, .fp8e4m3⟩
  | .local _ .vmem, ⟨22, _⟩ => ⟨S2880x128, .f32⟩
  | .local _ .vmem, ⟨23, _⟩ => ⟨S2880x128, .f32⟩
  | _, _ => ⟨S6x2880x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2880x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2880x2880 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2880x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2880x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2880x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2880 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2880x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceOIdeal.lean ====
abbrev S6x2880x256 : Shape := ⟨3, ![6, 2880, 256]⟩
abbrev S6x1x256 : Shape := ⟨3, ![6, 1, 256]⟩
abbrev S2880x30x96 : Shape := ⟨3, ![2880, 30, 96]⟩
abbrev S2880 : Shape := ⟨1, ![2880]⟩
abbrev S6x256x2880 : Shape := ⟨3, ![6, 256, 2880]⟩
abbrev S2880x2880 : Shape := ⟨2, ![2880, 2880]⟩
abbrev S1536x2880 : Shape := ⟨2, ![1536, 2880]⟩
abbrev S6x256x1 : Shape := ⟨3, ![6, 256, 1]⟩
abbrev S1x1x2880 : Shape := ⟨3, ![1, 1, 2880]⟩
abbrev S6x256 : Shape := ⟨2, ![6, 256]⟩

abbrev nBuf : Space → Nat
  | .hbm => 13
  | .vmem => 12
  | .smem => 0
  | _ => 0

abbrev bufTy : (tb : Table) → Fin (tcTables nBuf tb) → BufTy
  | .hbm, ⟨0, _⟩ => ⟨S6x2880x256, .f32⟩
  | .hbm, ⟨1, _⟩ => ⟨S6x1x256, .f32⟩
  | .hbm, ⟨2, _⟩ => ⟨S2880x30x96, .fp8e4m3⟩
  | .hbm, ⟨3, _⟩ => ⟨S2880, .f32⟩
  | .hbm, ⟨4, _⟩ => ⟨S2880, .f32⟩
  | .hbm, ⟨5, _⟩ => ⟨S6x256x2880, .bf16⟩
  | .hbm, ⟨6, _⟩ => ⟨S2880x2880, .fp8e4m3⟩
  | .hbm, ⟨7, _⟩ => ⟨S6x2880x256, .fp8e4m3⟩
  | .hbm, ⟨8, _⟩ => ⟨S6x1x256, .f32⟩
  | .hbm, ⟨9, _⟩ => ⟨S6x2880x256, .fp8e4m3⟩
  | .hbm, ⟨10, _⟩ => ⟨S6x1x256, .f32⟩
  | .hbm, ⟨11, _⟩ => ⟨S1536x2880, .fp8e4m3⟩
  | .hbm, ⟨12, _⟩ => ⟨S6x2880x256, .f32⟩
  | .local _ .vmem, ⟨0, _⟩ => ⟨S6x2880x256, .f32⟩
  | .local _ .vmem, ⟨1, _⟩ => ⟨S6x1x256, .f32⟩
  | .local _ .vmem, ⟨2, _⟩ => ⟨S2880x2880, .fp8e4m3⟩
  | .local _ .vmem, ⟨3, _⟩ => ⟨S2880, .f32⟩
  | .local _ .vmem, ⟨4, _⟩ => ⟨S2880, .f32⟩
  | .local _ .vmem, ⟨5, _⟩ => ⟨S6x256x2880, .bf16⟩
  | .local _ .vmem, ⟨6, _⟩ => ⟨S6x2880x256, .fp8e4m3⟩
  | .local _ .vmem, ⟨7, _⟩ => ⟨S6x1x256, .f32⟩
  | .local _ .vmem, ⟨8, _⟩ => ⟨S6x2880x256, .fp8e4m3⟩
  | .local _ .vmem, ⟨9, _⟩ => ⟨S6x1x256, .f32⟩
  | .local _ .vmem, ⟨10, _⟩ => ⟨S1536x2880, .fp8e4m3⟩
  | .local _ .vmem, ⟨11, _⟩ => ⟨S6x2880x256, .f32⟩
  | _, _ => ⟨S6x2880x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6x2880x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880x2880 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x2880 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2880x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x2880x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x2880 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x2880x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelD.lean ====
abbrev S1536x7680 : Shape := ⟨2, ![1536, 7680]⟩
abbrev S1536x128 : Shape := ⟨2, ![1536, 128]⟩
abbrev S2880x7680 : Shape := ⟨2, ![2880, 7680]⟩
abbrev S2880 : Shape := ⟨1, ![2880]⟩
abbrev S6x2880x256 : Shape := ⟨3, ![6, 2880, 256]⟩
abbrev S1x2880 : Shape := ⟨2, ![1, 2880]⟩
abbrev S6x1x256 : Shape := ⟨3, ![6, 1, 256]⟩
abbrev S256x7680 : Shape := ⟨2, ![256, 7680]⟩
abbrev S256x128 : Shape := ⟨2, ![256, 128]⟩
abbrev S576x7680 : Shape := ⟨2, ![576, 7680]⟩
abbrev S1x2880x256 : Shape := ⟨3, ![1, 2880, 256]⟩
abbrev S1x1x256 : Shape := ⟨3, ![1, 1, 256]⟩
abbrev S2880x128 : Shape := ⟨2, ![2880, 128]⟩
abbrev S2880x256 : Shape := ⟨2, ![2880, 256]⟩
abbrev S128x2880 : Shape := ⟨2, ![128, 2880]⟩
abbrev S256 : Shape := ⟨1, ![256]⟩
abbrev S256x1 : Shape := ⟨2, ![256, 1]⟩
abbrev S252x256x1 : Shape := ⟨3, ![252, 256, 1]⟩
abbrev S1x256x1 : Shape := ⟨3, ![1, 256, 1]⟩
abbrev S128x256 : Shape := ⟨2, ![128, 256]⟩
abbrev S1x256 : Shape := ⟨2, ![1, 256]⟩
abbrev S252x1x256 : Shape := ⟨3, ![252, 1, 256]⟩
abbrev S256x512 : Shape := ⟨2, ![256, 512]⟩
abbrev S576x256 : Shape := ⟨2, ![576, 256]⟩
abbrev S576x128 : Shape := ⟨2, ![576, 128]⟩

abbrev nBuf : Space → Nat
  | .hbm => 11
  | .vmem => 19
  | .smem => 0
  | _ => 0

abbrev bufTy : (tb : Table) → Fin (tcTables nBuf tb) → BufTy
  | .hbm, ⟨0, _⟩ => ⟨S1536x7680, .f32⟩
  | .hbm, ⟨1, _⟩ => ⟨S1536x128, .f32⟩
  | .hbm, ⟨2, _⟩ => ⟨S2880x7680, .fp8e4m3⟩
  | .hbm, ⟨3, _⟩ => ⟨S2880, .f32⟩
  | .hbm, ⟨4, _⟩ => ⟨S2880, .f32⟩
  | .hbm, ⟨5, _⟩ => ⟨S6x2880x256, .f32⟩
  | .hbm, ⟨6, _⟩ => ⟨S1x2880, .f32⟩
  | .hbm, ⟨7, _⟩ => ⟨S1x2880, .f32⟩
  | .hbm, ⟨8, _⟩ => ⟨S1536x7680, .fp8e4m3⟩
  | .hbm, ⟨9, _⟩ => ⟨S6x1x256, .f32⟩
  | .hbm, ⟨10, _⟩ => ⟨S6x2880x256, .bf16⟩
  | .local _ .vmem, ⟨0, _⟩ => ⟨S256x7680, .f32⟩
  | .local _ .vmem, ⟨1, _⟩ => ⟨S256x7680, .f32⟩
  | .local _ .vmem, ⟨2, _⟩ => ⟨S256x128, .f32⟩
  | .local _ .vmem, ⟨3, _⟩ => ⟨S256x128, .f32⟩
  | .local _ .vmem, ⟨4, _⟩ => ⟨S576x7680, .fp8e4m3⟩
  | .local _ .vmem, ⟨5, _⟩ => ⟨S576x7680, .fp8e4m3⟩
  | .local _ .vmem, ⟨6, _⟩ => ⟨S1x2880, .f32⟩
  | .local _ .vmem, ⟨7, _⟩ => ⟨S1x2880, .f32⟩
  | .local _ .vmem, ⟨8, _⟩ => ⟨S1x2880x256, .f32⟩
  | .local _ .vmem, ⟨9, _⟩ => ⟨S1x2880x256, .f32⟩
  | .local _ .vmem, ⟨10, _⟩ => ⟨S256x7680, .fp8e4m3⟩
  | .local _ .vmem, ⟨11, _⟩ => ⟨S256x7680, .fp8e4m3⟩
  | .local _ .vmem, ⟨12, _⟩ => ⟨S1x1x256, .f32⟩
  | .local _ .vmem, ⟨13, _⟩ => ⟨S1x1x256, .f32⟩
  | .local _ .vmem, ⟨14, _⟩ => ⟨S1x2880x256, .bf16⟩
  | .local _ .vmem, ⟨15, _⟩ => ⟨S1x2880x256, .bf16⟩
  | .local _ .vmem, ⟨16, _⟩ => ⟨S2880x128, .f32⟩
  | .local _ .vmem, ⟨17, _⟩ => ⟨S2880x128, .f32⟩
  | .local _ .vmem, ⟨18, _⟩ => ⟨S2880x256, .f32⟩
  | _, _ => ⟨S1536x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![6, 5], ![false, false]⟩

def k0_off1 (i : grid0.Coords) : Fin 2 → Nat :=
  let arg1 : BitVec 32 := BitVec.ofNat 32 (i 1).val
  let c576_i32 : BitVec 32 := 576#32
  let v8 : BitVec 32 := Scalar.muli arg1 c576_i32
  let v17 : Index := Scalar.indexCast v8
  let c0_10 : Index := 0#32
  ![v17.toNat, 0]
def k0_off2 (i : grid0.Coords) : Fin 2 → Nat :=
  let arg1 : BitVec 32 := BitVec.ofNat 32 (i 1).val
  let c576_i32 : BitVec 32 := 576#32
  let v8 : BitVec 32 := Scalar.muli arg1 c576_i32
  let v21 : Index := Scalar.indexCast v8
  let c0_11 : Index := 0#32
  ![v21.toNat, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x7680 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S576x7680 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2880x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x7680 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2880x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceDIdeal.lean ====
abbrev S1536x7680 : Shape := ⟨2, ![1536, 7680]⟩
abbrev S1536x128 : Shape := ⟨2, ![1536, 128]⟩
abbrev S2880x7680 : Shape := ⟨2, ![2880, 7680]⟩
abbrev S2880 : Shape := ⟨1, ![2880]⟩
abbrev S6x2880x256 : Shape := ⟨3, ![6, 2880, 256]⟩
abbrev S6x1x256 : Shape := ⟨3, ![6, 1, 256]⟩
abbrev S1536 : Shape := ⟨1, ![1536]⟩
abbrev S1536x1 : Shape := ⟨2, ![1536, 1]⟩
abbrev S6x256x1 : Shape := ⟨3, ![6, 256, 1]⟩
abbrev S1536x2880 : Shape := ⟨2, ![1536, 2880]⟩
abbrev S6x256x2880 : Shape := ⟨3, ![6, 256, 2880]⟩
abbrev S1x1x2880 : Shape := ⟨3, ![1, 1, 2880]⟩
abbrev S6x256 : Shape := ⟨2, ![6, 256]⟩

abbrev nBuf : Space → Nat
  | .hbm => 9
  | .vmem => 9
  | .smem => 0
  | _ => 0

abbrev bufTy : (tb : Table) → Fin (tcTables nBuf tb) → BufTy
  | .hbm, ⟨0, _⟩ => ⟨S1536x7680, .f32⟩
  | .hbm, ⟨1, _⟩ => ⟨S1536x128, .f32⟩
  | .hbm, ⟨2, _⟩ => ⟨S2880x7680, .fp8e4m3⟩
  | .hbm, ⟨3, _⟩ => ⟨S2880, .f32⟩
  | .hbm, ⟨4, _⟩ => ⟨S2880, .f32⟩
  | .hbm, ⟨5, _⟩ => ⟨S6x2880x256, .f32⟩
  | .hbm, ⟨6, _⟩ => ⟨S1536x7680, .fp8e4m3⟩
  | .hbm, ⟨7, _⟩ => ⟨S6x1x256, .f32⟩
  | .hbm, ⟨8, _⟩ => ⟨S6x2880x256, .bf16⟩
  | .local _ .vmem, ⟨0, _⟩ => ⟨S1536x7680, .f32⟩
  | .local _ .vmem, ⟨1, _⟩ => ⟨S1536x128, .f32⟩
  | .local _ .vmem, ⟨2, _⟩ => ⟨S2880x7680, .fp8e4m3⟩
  | .local _ .vmem, ⟨3, _⟩ => ⟨S2880, .f32⟩
  | .local _ .vmem, ⟨4, _⟩ => ⟨S2880, .f32⟩
  | .local _ .vmem, ⟨5, _⟩ => ⟨S6x2880x256, .f32⟩
  | .local _ .vmem, ⟨6, _⟩ => ⟨S1536x7680, .fp8e4m3⟩
  | .local _ .vmem, ⟨7, _⟩ => ⟨S6x1x256, .f32⟩
  | .local _ .vmem, ⟨8, _⟩ => ⟨S6x2880x256, .bf16⟩
  | _, _ => ⟨S1536x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x7680 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880x7680 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2880x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x7680 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x2880x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Runs.lean ====
/-
  Hand-written: the body's conditional in closed form and the staging memrefs, of the idealized kernel.
-/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S6x2880x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1x96x2880 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x30x96 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S30x96 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S6x2880x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S6x1x96x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S6x30x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S6x1x96x256 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S6x30x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S6x1x96x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S6x1x256 .f32 := win0_13.stage (cfg0.slots t 13)
abbrev hs0_13 (t : Fin cfg0.N) : (ms0_13 t).IsWhole := hstage0_13 ((cfg0.slots t 13).cast nbuf0_13)

end Cert.KernelIdeal.Hand

end
-- ==== Proof.Heads.lean ====
/-
  What one batch entry of one head computes, and what one grid point leaves in each output.
-/
module

public import proofs.«01_k».proof.Proof.Runs
public import Idealize.ShloMosaic.Lib.WritesUnit
public import Idealize.ShloMosaic.Lib.Pointwise.Index

@[expose] public section

set_option maxRecDepth 16384

noncomputable section

namespace Cert.KernelIdeal.Hand

open Cert.KernelIdeal Cert.KernelIdeal.Gen
open Idealize.ShloMosaic

variable {F : FTy → Type} [FloatOps F]

/-! ## What one batch entry of one head computes, over the loaded operands

  The body repeats the same text for the six batch entries; the printed text is cut into payloads at other places
  each time. Here the first entry's payloads, composed, name what every entry computes. -/

/-- The operands of one head that all its batch entries share, as the body loads them: the two rotary tables, the
    head's row of the query/key scale, its three rows of the weight scales, its block of the weights. -/
structure Shared (F : FTy → Type) [FloatOps F] where
  cos : Vec F S48x256 .f32
  sin : Vec F S48x256 .f32
  sqk : Vec F S1x96 .f32
  wsq : Vec F S1x1x96 .f32
  wsk : Vec F S1x1x96 .f32
  wsv : Vec F S1x1x96 .f32
  w : Vec F S3x1x96x2880 .fp8e4m3

/-- The codes of one batch entry of the input, -/
def xCodes (x : Vec F S1x2880x256 .bf16) : FVec F S1x2880x256 .fp8e4m3 := k0_pay6 (k0_pay5 x)

/-- and its scales. -/
def xScales (x : Vec F S1x2880x256 .bf16) : FVec F S1x1x256 .f32 := k0_pay7 (k0_pay4 x)

variable (L : Shared F) (xc : Vec F S1x2880x256 .fp8e4m3) (xs : Vec F S1x1x256 .f32)

/-- The rotated, normalised queries; -/
def qn : FVec F S96x256 .f32 :=
  k0_pay49 (k0_pay41 L.cos) (k0_pay42 L.sin) (k0_pay43 L.sqk) (k0_pay44 L.wsq) (k0_pay47 L.w) xc xs

/-- the keys; -/
def kn : FVec F S96x256 .f32 :=
  k0_pay50 (k0_pay41 L.cos) (k0_pay42 L.sin) (k0_pay43 L.sqk) (k0_pay45 L.wsk) (k0_pay47 L.w) xc xs

/-- the values. -/
def vn : FVec F S96x256 .bf16 := k0_pay51 (k0_pay46 L.wsv) (k0_pay47 L.w) xc xs

/-- The queries' absolute values. -/
def qabs : FVec F S96x256 .f32 :=
  k0_pay52 (k0_pay41 L.cos) (k0_pay42 L.sin) (k0_pay43 L.sqk) (k0_pay44 L.wsq) (k0_pay47 L.w) xc xs

/-- The queries' codes and scales, -/
def qCodes : FVec F S96x256 .fp8e4m3 := k0_pay59 (qn L xc xs) (k0_pay54 (qabs L xc xs))
def qScales : FVec F S1x256 .f32 := k0_pay55 (qabs L xc xs)

/-- the keys' codes and scales. -/
def kCodes : FVec F S96x256 .fp8e4m3 := k0_pay60 (kn L xc xs) (k0_pay56 (kn L xc xs))
def kScales : FVec F S1x256 .f32 := k0_pay58 (k0_pay56 (kn L xc xs))

/-- The index vectors of keys and queries in the score matrix. -/
def keyPos : IVec S256x256 32 := iota .tc S256x256 32 [0] iota_S256x256_d0_w32
def queryPos : IVec S256x256 32 := iota .tc S256x256 32 [1] iota_S256x256_d1_w32

/-- The attention's output. -/
def attn : FVec F S96x256 .f32 :=
  k0_pay65 keyPos queryPos (vn L xc xs) (qScales L xc xs) (kScales L xc xs) (qCodes L xc xs) (kCodes L xc xs)

/-- The same as the arrays hold them: with the unit axes of one batch entry of one head. -/
def qCodes4 : FVec F S1x1x96x256 .fp8e4m3 := k0_pay61 (qn L xc xs) (k0_pay54 (qabs L xc xs))
def kCodes4 : FVec F S1x1x96x256 .fp8e4m3 := k0_pay62 (kn L xc xs) (k0_pay56 (kn L xc xs))
def qScales3 : FVec F S1x1x256 .f32 := k0_pay63 (qScales L xc xs)
def kScales3 : FVec F S1x1x256 .f32 := k0_pay64 (kScales L xc xs)
def attn4 : FVec F S1x1x96x256 .f32 :=
  k0_pay66 keyPos queryPos (vn L xc xs) (qScales L xc xs) (kScales L xc xs) (qCodes L xc xs) (kCodes L xc xs)

/-- The running maximum of the output's absolute value, over what it was before this head. -/
def runMax (prev : Vec F S1x1x256 .f32) : FVec F S1x1x256 .f32 :=
  k0_pay69 (k0_pay67 prev) (k0_pay68 keyPos queryPos (vn L xc xs) (qScales L xc xs) (kScales L xc xs) (qCodes L xc xs) (kCodes L xc xs))

/-! ## The rectangles -/

/-- Batch entry `b` of the input and of its codes, -/
def rX (b : Fin 6) : Rect S6x2880x256 :=
  Rect.unit ![b.val, 0, 0] S1x2880x256.size (by
    have := b.isLt; intro a; fin_cases a <;> simp <;> omega)

/-- and of a scale array. -/
def rS (b : Fin 6) : Rect S6x1x256 :=
  Rect.unit ![b.val, 0, 0] S1x1x256.size (by
    have := b.isLt; intro a; fin_cases a <;> simp <;> omega)

/-- Head `i`'s shared operands read of the windows' blocks. -/
def shared (i : grid0.Coords) (x1 : Vec F S3x1x96x2880 .fp8e4m3) (x2 : Vec F S3x30x96 .f32) (x3 : Vec F S30x96 .f32)
    (x4 x5 : Vec F S48x256 .f32) : Shared F where
  cos := View.ld x4 (Rect.unit (s := S48x256) ![0, 0] S48x256.size inb_S48x256_S48x256_0_0)
  sin := View.ld x5 (Rect.unit (s := S48x256) ![0, 0] S48x256.size inb_S48x256_S48x256_0_0)
  sqk := View.ld x3 (Rect.unit (s := S30x96) (k0_off1 i) S1x96.size (k0_off1_inb i))
  wsq := View.ld x2 (Rect.unit (s := S3x30x96) (k0_off2 i) S1x1x96.size (k0_off2_inb i))
  wsk := View.ld x2 (Rect.unit (s := S3x30x96) (k0_off3 i) S1x1x96.size (k0_off3_inb i))
  wsv := View.ld x2 (Rect.unit (s := S3x30x96) (k0_off4 i) S1x1x96.size (k0_off4_inb i))
  w := View.ld x1 (Rect.unit (s := S3x1x96x2880) ![0, 0, 0, 0] S3x1x96x2880.size inb_S3x1x96x2880_S3x1x96x2880_0_0_0_0)

/-! ## What one point leaves in each output, as predicates of the contents -/

variable (X6 : Vec F S6x2880x256 .fp8e4m3) (X7 : Vec F S6x1x256 .f32)

/-- A per-head block of codes or of output: entry `b` is `P b`. -/
def IsBlk {e : EltTy} (P : Fin 6 → S1x1x96x256.Idx → Elt F e) (X : S6x1x96x256.Idx → Elt F e) : Prop :=
  ∀ (b : Fin 6) (r : Fin 96) (s : Fin 256), X (ix4 b (0 : Fin 1) r s) = P b (ix4 (0 : Fin 1) (0 : Fin 1) r s)

/-- A scale array after head `i`: row `i` of entry `b` is `P b`, the other rows as they were. -/
def IsRow (i : grid0.Coords) (P : Fin 6 → S1x1x256.Idx → F .f32) (Y X : S6x30x256.Idx → F .f32) : Prop :=
  ∀ (b : Fin 6) (r : Fin 30) (s : Fin 256),
    X (ix3 b r s) = if r.val = (i 0).val then P b (ix3 (0 : Fin 1) (0 : Fin 1) s) else Y (ix3 b r s)

/-- A whole array with one row per batch entry: entry `b` is `P b`. -/
def IsScale (P : Fin 6 → S1x1x256.Idx → F .f32) (X : S6x1x256.Idx → F .f32) : Prop :=
  ∀ (b : Fin 6) (s : Fin 256), X (ix3 b (0 : Fin 1) s) = P b (ix3 (0 : Fin 1) (0 : Fin 1) s)

/-- The code array of the input: entry `b` is `P b`. -/
def IsCodes (P : Fin 6 → S1x2880x256.Idx → F .fp8e4m3) (X : S6x2880x256.Idx → F .fp8e4m3) : Prop :=
  ∀ (b : Fin 6) (d : Fin 2880) (s : Fin 256), X (ix3 b d s) = P b (ix3 (0 : Fin 1) d s)

/-! ## A list of six stores, one per batch entry, read back -/

section Six

variable {sig : RefSig} {κ : Kind} {sp : Space} {s : Shape} {e : EltTy} {Val : EltTy → Type}

theorem read_six (v : View sig κ sp s e) (f : v.ty.Contents Val) (tsz : Fin s.rank → ℕ) (off : Fin 6 → Fin s.rank → ℕ)
    (inb : ∀ i a, off i a + tsz a ≤ s.size a) (P : Fin 6 → (⟨s.rank, tsz⟩ : Shape).Idx → Val e) (b : Fin 6)
    (y : s.Idx) (x : (⟨s.rank, tsz⟩ : Shape).Idx) (ax : Fin s.rank) (hx : ∀ a, (y a).val = off b a + (x a).val)
    (h0 : ∀ b', off b' ax = b'.val) (h1 : tsz ax = 1) :
    v.read Val (v.writes Val f (View.tilePieces tsz off inb P 6 le_rfl)) y = P b x := by
  refine View.read_tilePieces v f tsz off inb P 6 le_rfl y b b.isLt x hx ax fun b' hb => ?_
  have e1 := hx ax
  have e2 : (x ax).val < 1 := lt_of_lt_of_eq (x ax).isLt h1
  rw [h0 b] at e1; rw [h0 b', h1]
  have : b'.val ≠ b.val := fun h => hb (Fin.ext h)
  omega

end Six

/-! ## The row offsets of the scale arrays -/

/-- The offsets of the stores into a per-head scale array, entry by entry. -/
def offQ (i : grid0.Coords) (b : Fin 6) : Fin 3 → ℕ :=
  match b with
  | ⟨0, _⟩ => k0_off5 i
  | ⟨1, _⟩ => k0_off6 i
  | ⟨2, _⟩ => k0_off7 i
  | ⟨3, _⟩ => k0_off8 i
  | ⟨4, _⟩ => k0_off9 i
  | ⟨5, _⟩ => k0_off10 i

theorem offQ_eq (i : grid0.Coords) (b : Fin 6) : offQ i b = ![b.val, (i 0).val, 0] := by
  have h : (i 0).val < 30 := (i 0).isLt
  have e : (BitVec.ofNat 32 (i 0).val).toNat = (i 0).val := by
    rw [BitVec.toNat_ofNat]; exact Nat.mod_eq_of_lt (by omega)
  fin_cases b <;>
    simp [offQ, k0_off5, k0_off6, k0_off7, k0_off8, k0_off9, k0_off10, Scalar.indexCast, e]

theorem offQ_inb (i : grid0.Coords) (b : Fin 6) (a : Fin 3) : offQ i b a + S1x1x256.size a ≤ S6x30x256.size a := by
  rw [offQ_eq]
  have h := (i 0).isLt
  have hb := b.isLt
  have h' : (i 0).val < 30 := h
  fin_cases a <;> simp <;> omega

/-! ## The predicates of six stores -/

section Stores

theorem inb4 (i : Fin 6) (a : Fin 4) : (![i.val, 0, 0, 0] : Fin 4 → ℕ) a + S1x1x96x256.size a ≤ S6x1x96x256.size a := by
  have := i.isLt
  fin_cases a <;> simp <;> omega

theorem inb3 (i : Fin 6) (a : Fin 3) : (![i.val, 0, 0] : Fin 3 → ℕ) a + S1x1x256.size a ≤ S6x1x256.size a := by
  have := i.isLt
  fin_cases a <;> simp <;> omega

theorem inbX (i : Fin 6) (a : Fin 3) : (![i.val, 0, 0] : Fin 3 → ℕ) a + S1x2880x256.size a ≤ S6x2880x256.size a := by
  have := i.isLt
  fin_cases a <;> simp <;> omega

variable {e : EltTy}

theorem isBlk_six (v : View sig .tc .vmem S6x1x96x256 e) (f : v.ty.Contents (Elt F)) (inb : ∀ (i : Fin 6) (a : Fin 4), (![i.val, 0, 0, 0] : Fin 4 → ℕ) a + S1x1x96x256.size a ≤ S6x1x96x256.size a)
    (P : Fin 6 → S1x1x96x256.Idx → Elt F e) :
    IsBlk P (v.read (Elt F) (v.writes (Elt F) f (View.tilePieces (s := S6x1x96x256) S1x1x96x256.size (fun i => ![i.val, 0, 0, 0]) inb P 6 le_rfl))) := by
  intro b r s
  refine read_six v f _ _ _ P b _ _ (0 : Fin 4) (fun a => ?_) (fun b' => rfl) rfl
  fin_cases a <;> simp [ix4]

theorem isScale_six (v : View sig .tc .vmem S6x1x256 .f32) (f : v.ty.Contents (Elt F)) (inb : ∀ (i : Fin 6) (a : Fin 3), (![i.val, 0, 0] : Fin 3 → ℕ) a + S1x1x256.size a ≤ S6x1x256.size a)
    (P : Fin 6 → S1x1x256.Idx → F .f32) :
    IsScale P (v.read (Elt F) (v.writes (Elt F) f (View.tilePieces (s := S6x1x256) S1x1x256.size (fun i => ![i.val, 0, 0]) inb P 6 le_rfl))) := by
  intro b s
  refine read_six v f _ _ _ P b _ _ (0 : Fin 3) (fun a => ?_) (fun b' => rfl) rfl
  fin_cases a <;> simp [ix3]

theorem isCodes_six (v : View sig .tc .vmem S6x2880x256 .fp8e4m3) (f : v.ty.Contents (Elt F)) (inb : ∀ (i : Fin 6) (a : Fin 3), (![i.val, 0, 0] : Fin 3 → ℕ) a + S1x2880x256.size a ≤ S6x2880x256.size a)
    (P : Fin 6 → S1x2880x256.Idx → F .fp8e4m3) :
    IsCodes P (v.read (Elt F) (v.writes (Elt F) f (View.tilePieces (s := S6x2880x256) S1x2880x256.size (fun i => ![i.val, 0, 0]) inb P 6 le_rfl))) := by
  intro b d s
  refine read_six v f _ _ _ P b _ _ (0 : Fin 3) (fun a => ?_) (fun b' => rfl) rfl
  fin_cases a <;> simp [ix3]

theorem isRow_six (v : View sig .tc .vmem S6x30x256 .f32) (f : v.ty.Contents (Elt F)) (i : grid0.Coords)
    (P : Fin 6 → S1x1x256.Idx → F .f32) :
    IsRow i P (v.read (Elt F) f) (v.read (Elt F) (v.writes (Elt F) f (View.tilePieces (s := S6x30x256) S1x1x256.size (offQ i) (offQ_inb i) P 6 le_rfl))) := by
  intro b r s
  by_cases hr : r.val = (i 0).val
  · rw [if_pos hr]
    refine read_six v f _ _ _ P b _ _ (0 : Fin 3) (fun a => ?_) (fun b' => by rw [offQ_eq]; rfl) rfl
    rw [offQ_eq]
    fin_cases a <;> simp [ix3, hr]
  · rw [if_neg hr]
    refine View.read_tilePieces_miss v f _ _ _ P 6 le_rfl _ (1 : Fin 3) (fun b' _ => ?_)
    rw [offQ_eq]
    have : ((ix3 b r s : S6x30x256.Idx) 1).val = r.val := rfl
    rw [this]
    show r.val < (i 0).val ∨ (i 0).val + 1 ≤ r.val
    omega

theorem IsBlk.congr {P Q : Fin 6 → S1x1x96x256.Idx → Elt F e} {X : S6x1x96x256.Idx → Elt F e} (h : IsBlk P X) (e' : ∀ b, P b = Q b) : IsBlk Q X :=
  (funext e' : P = Q) ▸ h
theorem IsScale.congr {P Q : Fin 6 → S1x1x256.Idx → F .f32} {X : S6x1x256.Idx → F .f32} (h : IsScale P X) (e' : ∀ b, P b = Q b) : IsScale Q X :=
  (funext e' : P = Q) ▸ h
theorem IsCodes.congr {P Q : Fin 6 → S1x2880x256.Idx → F .fp8e4m3} {X : S6x2880x256.Idx → F .fp8e4m3} (h : IsCodes P X) (e' : ∀ b, P b = Q b) : IsCodes Q X :=
  (funext e' : P = Q) ▸ h
theorem IsRow.congr {i : grid0.Coords} {P Q : Fin 6 → S1x1x256.Idx → F .f32} {X Y Y' : S6x30x256.Idx → F .f32} (h : IsRow i P Y X) (hY : Y = Y') (e' : ∀ b, P b = Q b) : IsRow i Q Y' X :=
  hY ▸ (funext e' : P = Q) ▸ h

theorem readAt_unread {s : Shape} {m : Memref sig .tc .vmem s e} (h : m.IsWhole) (y : s.Idx → Elt F e) (r : Rect s) :
    m.view.readAt (Elt F) r.toLoadRect (h.unread y) = View.ld y r := by
  rw [View.readAt_eq_ld, h.read_unread]

end Stores

end Cert.KernelIdeal.Hand

end
-- ==== Proof.Entries.lean ====
/-
  The body repeats its text for the six batch entries, and the printed text is cut into payloads at other places each time:
  the composition of each entry's payloads is the one named in `Heads`, by unfolding.
-/
module

public import proofs.«01_k».proof.Proof.Heads

@[expose] public section

set_option maxRecDepth 16384

noncomputable section

namespace Cert.KernelIdeal.Hand

open Cert.KernelIdeal Cert.KernelIdeal.Gen
open Idealize.ShloMosaic

variable {F : FTy → Type} [FloatOps F]

theorem e0_xc (x : Vec F S1x2880x256 .bf16) :
    (let zv1147 := k0_pay5 x
    (k0_pay6 zv1147)) = xCodes x := rfl

theorem e0_xs (x : Vec F S1x2880x256 .bf16) :
    (let zv1140 := k0_pay4 x
    (k0_pay7 zv1140)) = xScales x := rfl

theorem e0_q (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv64 := k0_pay49 zv4 zv6 zv12 zv19 zv35 xc xs
    let zv88 := k0_pay52 zv4 zv6 zv12 zv19 zv35 xc xs
    let zv114 := k0_pay54 zv88
    (k0_pay61 zv64 zv114)) = qCodes4 L xc xs := rfl

theorem e0_qs (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv88 := k0_pay52 zv4 zv6 zv12 zv19 zv35 xc xs
    let zv119 := k0_pay55 zv88
    (k0_pay63 zv119)) = qScales3 L xc xs := rfl

theorem e0_k (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv84 := k0_pay50 zv4 zv6 zv12 zv26 zv35 xc xs
    let zv133 := k0_pay56 zv84
    (k0_pay62 zv84 zv133)) = kCodes4 L xc xs := rfl

theorem e0_ks (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv84 := k0_pay50 zv4 zv6 zv12 zv26 zv35 xc xs
    let zv133 := k0_pay56 zv84
    let zv151 := k0_pay58 (F := F) zv133
    (k0_pay64 zv151)) = kScales3 L xc xs := rfl

theorem e0_o (L : Shared F) (xc : Vec F S1x2880x256 .fp8e4m3) (xs : Vec F S1x1x256 .f32) :
    (let zv36 := iota .tc S256x256 32 [0] iota_S256x256_d0_w32
    let zv37 := iota .tc S256x256 32 [1] iota_S256x256_d1_w32
    let zv33 := k0_pay46 L.wsv
    let zv35 := k0_pay47 L.w
    let zv87 := k0_pay51 zv33 zv35 xc xs
    let zv4 := k0_pay41 L.cos
    let zv6 := k0_pay42 L.sin
    let zv12 := k0_pay43 L.sqk
    let zv19 := k0_pay44 L.wsq
    let zv88 := k0_pay52 zv4 zv6 zv12 zv19 zv35 xc xs
    let zv119 := k0_pay55 zv88
    let zv26 := k0_pay45 L.wsk
    let zv84 := k0_pay50 zv4 zv6 zv12 zv26 zv35 xc xs
    let zv133 := k0_pay56 zv84
    let zv151 := k0_pay58 (F := F) zv133
    let zv64 := k0_pay49 zv4 zv6 zv12 zv19 zv35 xc xs
    let zv114 := k0_pay54 zv88
    let zv158 := k0_pay59 zv64 zv114
    let zv165 := k0_pay60 zv84 zv133
    (k0_pay66 zv36 zv37 zv87 zv119 zv151 zv158 zv165)) = attn4 L xc xs := rfl

theorem e0_m (L : Shared F) (xc : Vec F S1x2880x256 .fp8e4m3) (xs : Vec F S1x1x256 .f32) (prev : Vec F S1x1x256 .f32) :
    (let zv208 := k0_pay67 prev
    let zv36 := iota .tc S256x256 32 [0] iota_S256x256_d0_w32
    let zv37 := iota .tc S256x256 32 [1] iota_S256x256_d1_w32
    let zv33 := k0_pay46 L.wsv
    let zv35 := k0_pay47 L.w
    let zv87 := k0_pay51 zv33 zv35 xc xs
    let zv4 := k0_pay41 L.cos
    let zv6 := k0_pay42 L.sin
    let zv12 := k0_pay43 L.sqk
    let zv19 := k0_pay44 L.wsq
    let zv88 := k0_pay52 zv4 zv6 zv12 zv19 zv35 xc xs
    let zv119 := k0_pay55 zv88
    let zv26 := k0_pay45 L.wsk
    let zv84 := k0_pay50 zv4 zv6 zv12 zv26 zv35 xc xs
    let zv133 := k0_pay56 zv84
    let zv151 := k0_pay58 (F := F) zv133
    let zv64 := k0_pay49 zv4 zv6 zv12 zv19 zv35 xc xs
    let zv114 := k0_pay54 zv88
    let zv158 := k0_pay59 zv64 zv114
    let zv165 := k0_pay60 zv84 zv133
    let zv210 := k0_pay68 zv36 zv37 zv87 zv119 zv151 zv158 zv165
    (k0_pay69 zv208 zv210)) = runMax L xc xs prev := rfl

theorem e1_xc (x : Vec F S1x2880x256 .bf16) :
    (let zv1156 := k0_pay8 x
    let zv1183 := k0_pay10 x
    (k0_pay12 zv1156 zv1183)) = xCodes x := rfl

theorem e1_xs (x : Vec F S1x2880x256 .bf16) :
    (let zv1185 := k0_pay11 x
    (k0_pay13 (F := F) zv1185 23#32)) = xScales x := rfl

theorem e1_q (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv242 := k0_pay71 zv4 zv6 zv12 zv19 zv35 xc xs
    let zv292 := k0_pay77 zv242
    let zv336 := k0_pay83 zv242 zv292
    (k0_pay85 zv336)) = qCodes4 L xc xs := rfl

theorem e1_qs (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv242 := k0_pay71 zv4 zv6 zv12 zv19 zv35 xc xs
    let zv297 := k0_pay78 zv242
    (k0_pay87 zv297)) = qScales3 L xc xs := rfl

theorem e1_k (L : Shared F) (xc : Vec F S1x2880x256 .fp8e4m3) (xs : Vec F S1x1x256 .f32) :
    (let zv12 := k0_pay43 L.sqk
    let zv4 := k0_pay41 L.cos
    let zv6 := k0_pay42 L.sin
    let zv26 := k0_pay45 L.wsk
    let zv35 := k0_pay47 L.w
    let zv253 := k0_pay72 zv4 zv6 zv26 zv35 xc xs
    let zv256 := k0_pay73 zv4 zv6 zv26 zv35 xc xs
    let zv262 := k0_pay74 zv12 zv253 zv256
    let zv300 := k0_pay79 zv12 zv253 zv256
    let zv301 := k0_pay80 (F := F)
    let zv343 := k0_pay84 zv262 zv300 zv301
    (k0_pay86 zv343)) = kCodes4 L xc xs := rfl

theorem e1_ks (L : Shared F) (xc : Vec F S1x2880x256 .fp8e4m3) (xs : Vec F S1x1x256 .f32) :
    (let zv12 := k0_pay43 L.sqk
    let zv4 := k0_pay41 L.cos
    let zv6 := k0_pay42 L.sin
    let zv26 := k0_pay45 L.wsk
    let zv35 := k0_pay47 L.w
    let zv253 := k0_pay72 zv4 zv6 zv26 zv35 xc xs
    let zv256 := k0_pay73 zv4 zv6 zv26 zv35 xc xs
    let zv300 := k0_pay79 zv12 zv253 zv256
    let zv301 := k0_pay80 (F := F)
    let zv329 := k0_pay82 zv300 zv301
    (k0_pay88 zv329)) = kScales3 L xc xs := rfl

theorem e1_o (L : Shared F) (xc : Vec F S1x2880x256 .fp8e4m3) (xs : Vec F S1x1x256 .f32) :
    (let zv36 := iota .tc S256x256 32 [0] iota_S256x256_d0_w32
    let zv37 := iota .tc S256x256 32 [1] iota_S256x256_d1_w32
    let zv33 := k0_pay46 L.wsv
    let zv35 := k0_pay47 L.w
    let zv222 := k0_pay70 zv35 xc xs
    let zv265 := k0_pay75 zv33 zv222
    let zv4 := k0_pay41 L.cos
    let zv6 := k0_pay42 L.sin
    let zv12 := k0_pay43 L.sqk
    let zv19 := k0_pay44 L.wsq
    let zv242 := k0_pay71 zv4 zv6 zv12 zv19 zv35 xc xs
    let zv297 := k0_pay78 zv242
    let zv26 := k0_pay45 L.wsk
    let zv253 := k0_pay72 zv4 zv6 zv26 zv35 xc xs
    let zv256 := k0_pay73 zv4 zv6 zv26 zv35 xc xs
    let zv300 := k0_pay79 zv12 zv253 zv256
    let zv301 := k0_pay80 (F := F)
    let zv329 := k0_pay82 zv300 zv301
    let zv292 := k0_pay77 zv242
    let zv336 := k0_pay83 zv242 zv292
    let zv262 := k0_pay74 zv12 zv253 zv256
    let zv343 := k0_pay84 zv262 zv300 zv301
    let zv381 := (k0_pay89 zv36 zv37 zv265 zv297 zv329 zv336 zv343)
    (k0_pay90 zv381)) = attn4 L xc xs := rfl

theorem e1_m (L : Shared F) (xc : Vec F S1x2880x256 .fp8e4m3) (xs : Vec F S1x1x256 .f32) (prev : Vec F S1x1x256 .f32) :
    (let zv36 := iota .tc S256x256 32 [0] iota_S256x256_d0_w32
    let zv37 := iota .tc S256x256 32 [1] iota_S256x256_d1_w32
    let zv33 := k0_pay46 L.wsv
    let zv35 := k0_pay47 L.w
    let zv222 := k0_pay70 zv35 xc xs
    let zv265 := k0_pay75 zv33 zv222
    let zv4 := k0_pay41 L.cos
    let zv6 := k0_pay42 L.sin
    let zv12 := k0_pay43 L.sqk
    let zv19 := k0_pay44 L.wsq
    let zv242 := k0_pay71 zv4 zv6 zv12 zv19 zv35 xc xs
    let zv297 := k0_pay78 zv242
    let zv26 := k0_pay45 L.wsk
    let zv253 := k0_pay72 zv4 zv6 zv26 zv35 xc xs
    let zv256 := k0_pay73 zv4 zv6 zv26 zv35 xc xs
    let zv300 := k0_pay79 zv12 zv253 zv256
    let zv301 := k0_pay80 (F := F)
    let zv329 := k0_pay82 zv300 zv301
    let zv292 := k0_pay77 zv242
    let zv336 := k0_pay83 zv242 zv292
    let zv262 := k0_pay74 zv12 zv253 zv256
    let zv343 := k0_pay84 zv262 zv300 zv301
    let zv381 := (k0_pay89 zv36 zv37 zv265 zv297 zv329 zv336 zv343)
    (k0_pay91 zv381 prev)) = runMax L xc xs prev := rfl

theorem e2_xc (x : Vec F S1x2880x256 .bf16) :
    (let zv1204 := k0_pay14 x
    let zv1222 := k0_pay16 x
    let zv1224 := k0_pay17 x
    (k0_pay19 zv1204 zv1222 zv1224 0#32)) = xCodes x := rfl

theorem e2_xs (x : Vec F S1x2880x256 .bf16) :
    (let zv1222 := k0_pay16 x
    let zv1224 := k0_pay17 x
    (k0_pay20 (F := F) zv1222 zv1224 0#32)) = xScales x := rfl

theorem e2_q (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv420 := k0_pay93 zv4 zv6 zv12 zv19 zv35 xc xs
    let zv470 := k0_pay99 zv420
    let zv514 := k0_pay103 zv420 zv470
    (k0_pay106 zv514)) = qCodes4 L xc xs := rfl

theorem e2_qs (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv420 := k0_pay93 zv4 zv6 zv12 zv19 zv35 xc xs
    let zv465 := k0_pay98 zv420
    let zv475 := k0_pay100 (F := F) zv465 127#32
    (k0_pay108 zv475)) = qScales3 L xc xs := rfl

theorem e2_k (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv422 := k0_pay94 zv26 zv35 xc xs
    let zv423 := k0_pay95 zv26 zv35 xc xs
    let zv440 := k0_pay96 zv4 zv6 zv12 zv422 zv423
    let zv515 := k0_pay104 zv440
    (k0_pay107 zv440 zv515)) = kCodes4 L xc xs := rfl

theorem e2_ks (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv422 := k0_pay94 zv26 zv35 xc xs
    let zv423 := k0_pay95 zv26 zv35 xc xs
    let zv440 := k0_pay96 zv4 zv6 zv12 zv422 zv423
    let zv507 := k0_pay102 zv440
    (k0_pay109 zv507)) = kScales3 L xc xs := rfl

theorem e2_o (L : Shared F) (xc : Vec F S1x2880x256 .fp8e4m3) (xs : Vec F S1x1x256 .f32) :
    (let zv33 := k0_pay46 L.wsv
    let zv35 := k0_pay47 L.w
    let zv400 := k0_pay92 zv35 xc xs
    let zv443 := k0_pay97 zv33 zv400
    let zv36 := iota .tc S256x256 32 [0] iota_S256x256_d0_w32
    let zv37 := iota .tc S256x256 32 [1] iota_S256x256_d1_w32
    let zv4 := k0_pay41 L.cos
    let zv6 := k0_pay42 L.sin
    let zv12 := k0_pay43 L.sqk
    let zv26 := k0_pay45 L.wsk
    let zv422 := k0_pay94 zv26 zv35 xc xs
    let zv423 := k0_pay95 zv26 zv35 xc xs
    let zv440 := k0_pay96 zv4 zv6 zv12 zv422 zv423
    let zv19 := k0_pay44 L.wsq
    let zv420 := k0_pay93 zv4 zv6 zv12 zv19 zv35 xc xs
    let zv465 := k0_pay98 zv420
    let zv475 := k0_pay100 (F := F) zv465 127#32
    let zv507 := k0_pay102 zv440
    let zv470 := k0_pay99 zv420
    let zv514 := k0_pay103 zv420 zv470
    let zv515 := k0_pay104 zv440
    let zv553 := (k0_pay110 zv36 zv37 zv440 zv475 zv507 zv514 zv515)
    (k0_pay112 zv443 zv553)) = attn4 L xc xs := rfl

theorem e2_m (L : Shared F) (xc : Vec F S1x2880x256 .fp8e4m3) (xs : Vec F S1x1x256 .f32) (prev : Vec F S1x1x256 .f32) :
    (let zv33 := k0_pay46 L.wsv
    let zv35 := k0_pay47 L.w
    let zv400 := k0_pay92 zv35 xc xs
    let zv443 := k0_pay97 zv33 zv400
    let zv36 := iota .tc S256x256 32 [0] iota_S256x256_d0_w32
    let zv37 := iota .tc S256x256 32 [1] iota_S256x256_d1_w32
    let zv4 := k0_pay41 L.cos
    let zv6 := k0_pay42 L.sin
    let zv12 := k0_pay43 L.sqk
    let zv26 := k0_pay45 L.wsk
    let zv422 := k0_pay94 zv26 zv35 xc xs
    let zv423 := k0_pay95 zv26 zv35 xc xs
    let zv440 := k0_pay96 zv4 zv6 zv12 zv422 zv423
    let zv19 := k0_pay44 L.wsq
    let zv420 := k0_pay93 zv4 zv6 zv12 zv19 zv35 xc xs
    let zv465 := k0_pay98 zv420
    let zv475 := k0_pay100 (F := F) zv465 127#32
    let zv507 := k0_pay102 zv440
    let zv470 := k0_pay99 zv420
    let zv514 := k0_pay103 zv420 zv470
    let zv515 := k0_pay104 zv440
    let zv553 := (k0_pay110 zv36 zv37 zv440 zv475 zv507 zv514 zv515)
    (k0_pay113 zv443 zv553 prev)) = runMax L xc xs prev := rfl

theorem e3_xc (x : Vec F S1x2880x256 .bf16) :
    (let zv1252 := k0_pay21 x
    let zv1257 := k0_pay22 x
    let zv1263 := k0_pay23 (F := F)
    (k0_pay25 zv1252 zv1257 zv1263)) = xCodes x := rfl

theorem e3_xs (x : Vec F S1x2880x256 .bf16) :
    (let zv1257 := k0_pay22 x
    let zv1263 := k0_pay23 (F := F)
    (k0_pay26 zv1257 zv1263)) = xScales x := rfl

theorem e3_q (L : Shared F) (xc : Vec F S1x2880x256 .fp8e4m3) (xs : Vec F S1x1x256 .f32) :
    (let zv12 := k0_pay43 L.sqk
    let zv4 := k0_pay41 L.cos
    let zv6 := k0_pay42 L.sin
    let zv19 := k0_pay44 L.wsq
    let zv35 := k0_pay47 L.w
    let zv589 := k0_pay115 zv4 zv6 zv19 zv35 xc xs
    let zv590 := k0_pay116 zv4 zv6 zv19 zv35 xc xs
    let zv598 := k0_pay117 zv12 zv589 zv590
    let zv637 := k0_pay120 zv12 zv589 zv590
    let zv639 := k0_pay121 zv12 zv589 zv590
    let zv648 := k0_pay124 (F := F) zv637 zv639 k0_pay122
    (k0_pay133 zv598 zv648)) = qCodes4 L xc xs := rfl

theorem e3_qs (L : Shared F) (xc : Vec F S1x2880x256 .fp8e4m3) (xs : Vec F S1x1x256 .f32) :
    (let zv12 := k0_pay43 L.sqk
    let zv4 := k0_pay41 L.cos
    let zv6 := k0_pay42 L.sin
    let zv19 := k0_pay44 L.wsq
    let zv35 := k0_pay47 L.w
    let zv589 := k0_pay115 zv4 zv6 zv19 zv35 xc xs
    let zv590 := k0_pay116 zv4 zv6 zv19 zv35 xc xs
    let zv637 := k0_pay120 zv12 zv589 zv590
    let zv639 := k0_pay121 zv12 zv589 zv590
    let zv653 := k0_pay125 (F := F) zv637 zv639 k0_pay122
    (k0_pay135 zv653)) = qScales3 L xc xs := rfl

theorem e3_k (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv578 := k0_pay114 zv35 xc xs
    let zv618 := k0_pay118 zv4 zv6 zv12 zv26 zv578
    let zv680 := k0_pay127 zv618
    (k0_pay134 zv618 zv680)) = kCodes4 L xc xs := rfl

theorem e3_ks (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv578 := k0_pay114 zv35 xc xs
    let zv618 := k0_pay118 zv4 zv6 zv12 zv26 zv578
    let zv682 := k0_pay128 zv618
    (k0_pay136 (F := F) zv682 k0_pay129)) = kScales3 L xc xs := rfl

theorem e3_o (L : Shared F) (xc : Vec F S1x2880x256 .fp8e4m3) (xs : Vec F S1x1x256 .f32) :
    (let zv36 := iota .tc S256x256 32 [0] iota_S256x256_d0_w32
    let zv37 := iota .tc S256x256 32 [1] iota_S256x256_d1_w32
    let zv33 := k0_pay46 L.wsv
    let zv35 := k0_pay47 L.w
    let zv578 := k0_pay114 zv35 xc xs
    let zv621 := k0_pay119 zv33 zv578
    let zv12 := k0_pay43 L.sqk
    let zv4 := k0_pay41 L.cos
    let zv6 := k0_pay42 L.sin
    let zv19 := k0_pay44 L.wsq
    let zv589 := k0_pay115 zv4 zv6 zv19 zv35 xc xs
    let zv590 := k0_pay116 zv4 zv6 zv19 zv35 xc xs
    let zv598 := k0_pay117 zv12 zv589 zv590
    let zv26 := k0_pay45 L.wsk
    let zv618 := k0_pay118 zv4 zv6 zv12 zv26 zv578
    let zv637 := k0_pay120 zv12 zv589 zv590
    let zv639 := k0_pay121 zv12 zv589 zv590
    let zv648 := k0_pay124 (F := F) zv637 zv639 k0_pay122
    let zv653 := k0_pay125 (F := F) zv637 zv639 k0_pay122
    let zv680 := k0_pay127 zv618
    let zv718 := k0_pay137 zv598 zv618 zv648 zv653 zv680
    let zv682 := k0_pay128 zv618
    let zv721 := k0_pay138 (F := F) zv682 k0_pay129
    (k0_pay140 zv36 zv37 zv621 zv718 zv721)) = attn4 L xc xs := rfl

theorem e3_m (L : Shared F) (xc : Vec F S1x2880x256 .fp8e4m3) (xs : Vec F S1x1x256 .f32) (prev : Vec F S1x1x256 .f32) :
    (let zv36 := iota .tc S256x256 32 [0] iota_S256x256_d0_w32
    let zv37 := iota .tc S256x256 32 [1] iota_S256x256_d1_w32
    let zv33 := k0_pay46 L.wsv
    let zv35 := k0_pay47 L.w
    let zv578 := k0_pay114 zv35 xc xs
    let zv621 := k0_pay119 zv33 zv578
    let zv12 := k0_pay43 L.sqk
    let zv4 := k0_pay41 L.cos
    let zv6 := k0_pay42 L.sin
    let zv19 := k0_pay44 L.wsq
    let zv589 := k0_pay115 zv4 zv6 zv19 zv35 xc xs
    let zv590 := k0_pay116 zv4 zv6 zv19 zv35 xc xs
    let zv598 := k0_pay117 zv12 zv589 zv590
    let zv26 := k0_pay45 L.wsk
    let zv618 := k0_pay118 zv4 zv6 zv12 zv26 zv578
    let zv637 := k0_pay120 zv12 zv589 zv590
    let zv639 := k0_pay121 zv12 zv589 zv590
    let zv648 := k0_pay124 (F := F) zv637 zv639 k0_pay122
    let zv653 := k0_pay125 (F := F) zv637 zv639 k0_pay122
    let zv680 := k0_pay127 zv618
    let zv718 := k0_pay137 zv598 zv618 zv648 zv653 zv680
    let zv682 := k0_pay128 zv618
    let zv721 := k0_pay138 (F := F) zv682 k0_pay129
    (k0_pay141 zv36 zv37 zv621 zv718 zv721 prev)) = runMax L xc xs prev := rfl

theorem e4_xc (x : Vec F S1x2880x256 .bf16) :
    (let zv1300 := k0_pay27 x
    let zv1301 := k0_pay28 x
    (k0_pay31 zv1300 zv1301)) = xCodes x := rfl

theorem e4_xs (x : Vec F S1x2880x256 .bf16) :
    (let zv1301 := k0_pay28 x
    let zv1332 := (k0_pay30 zv1301)
    (k0_pay32 zv1332)) = xScales x := rfl

theorem e4_q (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv757 := k0_pay143 zv35 xc xs
    let zv776 := k0_pay144 zv4 zv6 zv12 zv19 zv757
    let zv804 := k0_pay147 zv4 zv6 zv12 zv19 zv757
    let zv826 := k0_pay150 zv804 k0_pay148
    (k0_pay156 zv776 zv826)) = qCodes4 L xc xs := rfl

theorem e4_qs (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv757 := k0_pay143 zv35 xc xs
    let zv804 := k0_pay147 zv4 zv6 zv12 zv19 zv757
    let zv831 := k0_pay151 zv804 k0_pay148
    (k0_pay158 zv831)) = qScales3 L xc xs := rfl

theorem e4_k (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv756 := k0_pay142 zv35 xc xs
    let zv796 := k0_pay145 zv4 zv6 zv12 zv26 zv756
    let zv853 := k0_pay152 zv796
    (k0_pay157 zv796 zv853)) = kCodes4 L xc xs := rfl

theorem e4_ks (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv756 := k0_pay142 zv35 xc xs
    let zv796 := k0_pay145 zv4 zv6 zv12 zv26 zv756
    let zv853 := k0_pay152 zv796
    let zv863 := k0_pay153 (F := F) zv853
    (k0_pay159 zv863)) = kScales3 L xc xs := rfl

theorem e4_o (L : Shared F) (xc : Vec F S1x2880x256 .fp8e4m3) (xs : Vec F S1x1x256 .f32) :
    (let zv36 := iota .tc S256x256 32 [0] iota_S256x256_d0_w32
    let zv37 := iota .tc S256x256 32 [1] iota_S256x256_d1_w32
    let zv33 := k0_pay46 L.wsv
    let zv35 := k0_pay47 L.w
    let zv756 := k0_pay142 zv35 xc xs
    let zv799 := k0_pay146 zv33 zv756
    let zv4 := k0_pay41 L.cos
    let zv6 := k0_pay42 L.sin
    let zv12 := k0_pay43 L.sqk
    let zv19 := k0_pay44 L.wsq
    let zv757 := k0_pay143 zv35 xc xs
    let zv804 := k0_pay147 zv4 zv6 zv12 zv19 zv757
    let zv831 := k0_pay151 zv804 k0_pay148
    let zv26 := k0_pay45 L.wsk
    let zv796 := k0_pay145 zv4 zv6 zv12 zv26 zv756
    let zv853 := k0_pay152 zv796
    let zv863 := k0_pay153 (F := F) zv853
    let zv776 := k0_pay144 zv4 zv6 zv12 zv19 zv757
    let zv826 := k0_pay150 zv804 k0_pay148
    let zv870 := k0_pay154 zv776 zv826
    let zv877 := k0_pay155 zv796 zv853
    (k0_pay161 zv36 zv37 zv799 zv831 zv863 zv870 zv877)) = attn4 L xc xs := rfl

theorem e4_m (L : Shared F) (xc : Vec F S1x2880x256 .fp8e4m3) (xs : Vec F S1x1x256 .f32) (prev : Vec F S1x1x256 .f32) :
    (let zv36 := iota .tc S256x256 32 [0] iota_S256x256_d0_w32
    let zv37 := iota .tc S256x256 32 [1] iota_S256x256_d1_w32
    let zv33 := k0_pay46 L.wsv
    let zv35 := k0_pay47 L.w
    let zv756 := k0_pay142 zv35 xc xs
    let zv799 := k0_pay146 zv33 zv756
    let zv4 := k0_pay41 L.cos
    let zv6 := k0_pay42 L.sin
    let zv12 := k0_pay43 L.sqk
    let zv19 := k0_pay44 L.wsq
    let zv757 := k0_pay143 zv35 xc xs
    let zv804 := k0_pay147 zv4 zv6 zv12 zv19 zv757
    let zv831 := k0_pay151 zv804 k0_pay148
    let zv26 := k0_pay45 L.wsk
    let zv796 := k0_pay145 zv4 zv6 zv12 zv26 zv756
    let zv853 := k0_pay152 zv796
    let zv863 := k0_pay153 (F := F) zv853
    let zv776 := k0_pay144 zv4 zv6 zv12 zv19 zv757
    let zv826 := k0_pay150 zv804 k0_pay148
    let zv870 := k0_pay154 zv776 zv826
    let zv877 := k0_pay155 zv796 zv853
    (k0_pay162 zv36 zv37 zv799 zv831 zv863 zv870 zv877 prev)) = runMax L xc xs prev := rfl

theorem e5_xc (x : Vec F S1x2880x256 .bf16) :
    (let zv1382 := k0_pay36 x
    let zcst_544 := Scalar.ofBits .f32 0x43E00000#32
    let zv1383 := k0_pay37 (F := F)
    (k0_pay38 zv1382 zcst_544 zv1383)) = xCodes x := rfl

theorem e5_xs (x : Vec F S1x2880x256 .bf16) :
    (let zv1380 := k0_pay35 x
    (k0_pay39 zv1380)) = xScales x := rfl

theorem e5_q (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv954 := k0_pay164 zv4 zv6 zv12 zv19 zv35 xc xs
    let zv978 := k0_pay167 zv4 zv6 zv12 zv19 zv35 xc xs
    let zv1004 := k0_pay169 zv978
    (k0_pay176 zv954 zv1004)) = qCodes4 L xc xs := rfl

theorem e5_qs (L : Shared F) (xc : Vec F S1x2880x256 .fp8e4m3) (xs : Vec F S1x1x256 .f32) :
    (let zv4 := k0_pay41 L.cos
    let zv6 := k0_pay42 L.sin
    let zv12 := k0_pay43 L.sqk
    let zv19 := k0_pay44 L.wsq
    let zv35 := k0_pay47 L.w
    let zv978 := k0_pay167 zv4 zv6 zv12 zv19 zv35 xc xs
    let zv1009 := k0_pay170 zv978
    (k0_pay178 zv1009)) = qScales3 L xc xs := rfl

theorem e5_k (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv974 := k0_pay165 zv4 zv6 zv12 zv26 zv35 xc xs
    let zv1023 := k0_pay171 zv974
    (k0_pay177 zv974 zv1023)) = kCodes4 L xc xs := rfl

theorem e5_ks (L : Shared F) (xc : Vec F S1x2880x256 .fp8e4m3) (xs : Vec F S1x1x256 .f32) :
    (let zv4 := k0_pay41 L.cos
    let zv6 := k0_pay42 L.sin
    let zv12 := k0_pay43 L.sqk
    let zv26 := k0_pay45 L.wsk
    let zv35 := k0_pay47 L.w
    let zv974 := k0_pay165 zv4 zv6 zv12 zv26 zv35 xc xs
    let zv1023 := k0_pay171 zv974
    let zv1041 := k0_pay173 (F := F) zv1023
    (k0_pay179 zv1041)) = kScales3 L xc xs := rfl

theorem e5_o (L : Shared F) (xc : Vec F S1x2880x256 .fp8e4m3) (xs : Vec F S1x1x256 .f32) :
    (let zv36 := iota .tc S256x256 32 [0] iota_S256x256_d0_w32
    let zv37 := iota .tc S256x256 32 [1] iota_S256x256_d1_w32
    let zv33 := k0_pay46 L.wsv
    let zv35 := k0_pay47 L.w
    let zv977 := k0_pay166 zv33 zv35 xc xs
    let zv4 := k0_pay41 L.cos
    let zv6 := k0_pay42 L.sin
    let zv12 := k0_pay43 L.sqk
    let zv19 := k0_pay44 L.wsq
    let zv978 := k0_pay167 zv4 zv6 zv12 zv19 zv35 xc xs
    let zv1009 := k0_pay170 zv978
    let zv26 := k0_pay45 L.wsk
    let zv974 := k0_pay165 zv4 zv6 zv12 zv26 zv35 xc xs
    let zv1023 := k0_pay171 zv974
    let zv1041 := k0_pay173 (F := F) zv1023
    let zv954 := k0_pay164 zv4 zv6 zv12 zv19 zv35 xc xs
    let zv1004 := k0_pay169 zv978
    let zv1048 := k0_pay174 zv954 zv1004
    let zv1055 := k0_pay175 zv974 zv1023
    (k0_pay181 zv36 zv37 zv977 zv1009 zv1041 zv1048 zv1055)) = attn4 L xc xs := rfl

theorem e5_m (L : Shared F) (xc : Vec F S1x2880x256 .fp8e4m3) (xs : Vec F S1x1x256 .f32) (prev : Vec F S1x1x256 .f32) :
    (let zv1098 := k0_pay182 prev
    let zv36 := iota .tc S256x256 32 [0] iota_S256x256_d0_w32
    let zv37 := iota .tc S256x256 32 [1] iota_S256x256_d1_w32
    let zv33 := k0_pay46 L.wsv
    let zv35 := k0_pay47 L.w
    let zv977 := k0_pay166 zv33 zv35 xc xs
    let zv4 := k0_pay41 L.cos
    let zv6 := k0_pay42 L.sin
    let zv12 := k0_pay43 L.sqk
    let zv19 := k0_pay44 L.wsq
    let zv978 := k0_pay167 zv4 zv6 zv12 zv19 zv35 xc xs
    let zv1009 := k0_pay170 zv978
    let zv26 := k0_pay45 L.wsk
    let zv974 := k0_pay165 zv4 zv6 zv12 zv26 zv35 xc xs
    let zv1023 := k0_pay171 zv974
    let zv1041 := k0_pay173 (F := F) zv1023
    let zv954 := k0_pay164 zv4 zv6 zv12 zv19 zv35 xc xs
    let zv1004 := k0_pay169 zv978
    let zv1048 := k0_pay174 zv954 zv1004
    let zv1055 := k0_pay175 zv974 zv1023
    let zv1100 := k0_pay183 zv36 zv37 zv977 zv1009 zv1041 zv1048 zv1055
    (k0_pay1 zv1098 zv1100)) = runMax L xc xs prev := rfl

end Cert.KernelIdeal.Hand

end
-- ==== Proof.Lists.lean ====
/-
  Six stores, one per batch entry, in the order the body makes them.
-/
module

public import proofs.«01_k».proof.Proof.Heads
public import Idealize.ShloMosaic.Lib.Pipeline.FrameBody
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic

variable {F : FTy → Type} [FloatOps F] {e : EltTy}

/-- Six values, one per batch entry. -/
def six {α : Type} (p0 p1 p2 p3 p4 p5 : α) (b : Fin 6) : α := ![p0, p1, p2, p3, p4, p5] b

theorem six_eq {α : Type} {p0 p1 p2 p3 p4 p5 : α} {Q : Fin 6 → α} (h0 : p0 = Q 0) (h1 : p1 = Q 1) (h2 : p2 = Q 2) (h3 : p3 = Q 3)
    (h4 : p4 = Q 4) (h5 : p5 = Q 5) (b : Fin 6) : six p0 p1 p2 p3 p4 p5 b = Q b := by
  fin_cases b
  · exact h0
  · exact h1
  · exact h2
  · exact h3
  · exact h4
  · exact h5

theorem isBlk_list (v : View sig .tc .vmem S6x1x96x256 e) (f : v.ty.Contents (Elt F)) {p0 p1 p2 p3 p4 p5 : S1x1x96x256.Idx → Elt F e}
    {Q : Fin 6 → S1x1x96x256.Idx → Elt F e} (h0 : p0 = Q 0) (h1 : p1 = Q 1) (h2 : p2 = Q 2) (h3 : p3 = Q 3) (h4 : p4 = Q 4) (h5 : p5 = Q 5) :
    IsBlk Q (v.read (Elt F) (v.writes (Elt F) f
      [⟨Rect.unit ![5, 0, 0, 0] S1x1x96x256.size inb_S6x1x96x256_S1x1x96x256_5_0_0_0, p5⟩,
       ⟨Rect.unit ![4, 0, 0, 0] S1x1x96x256.size inb_S6x1x96x256_S1x1x96x256_4_0_0_0, p4⟩,
       ⟨Rect.unit ![3, 0, 0, 0] S1x1x96x256.size inb_S6x1x96x256_S1x1x96x256_3_0_0_0, p3⟩,
       ⟨Rect.unit ![2, 0, 0, 0] S1x1x96x256.size inb_S6x1x96x256_S1x1x96x256_2_0_0_0, p2⟩,
       ⟨Rect.unit ![1, 0, 0, 0] S1x1x96x256.size inb_S6x1x96x256_S1x1x96x256_1_0_0_0, p1⟩,
       ⟨Rect.unit ![0, 0, 0, 0] S1x1x96x256.size inb_S6x1x96x256_S1x1x96x256_0_0_0_0, p0⟩])) :=
  (isBlk_six v f inb4 (six p0 p1 p2 p3 p4 p5)).congr (six_eq h0 h1 h2 h3 h4 h5)

theorem isRow_list (v : View sig .tc .vmem S6x30x256 .f32) (f : v.ty.Contents (Elt F)) (i : grid0.Coords) {p0 p1 p2 p3 p4 p5 : S1x1x256.Idx → F .f32}
    {Q : Fin 6 → S1x1x256.Idx → F .f32} {Y : S6x30x256.Idx → F .f32} (hY : v.read (Elt F) f = Y)
    (h0 : p0 = Q 0) (h1 : p1 = Q 1) (h2 : p2 = Q 2) (h3 : p3 = Q 3) (h4 : p4 = Q 4) (h5 : p5 = Q 5) :
    IsRow i Q Y (v.read (Elt F) (v.writes (Elt F) f
      [⟨Rect.unit (k0_off10 i) S1x1x256.size (k0_off10_inb i), p5⟩,
       ⟨Rect.unit (k0_off9 i) S1x1x256.size (k0_off9_inb i), p4⟩,
       ⟨Rect.unit (k0_off8 i) S1x1x256.size (k0_off8_inb i), p3⟩,
       ⟨Rect.unit (k0_off7 i) S1x1x256.size (k0_off7_inb i), p2⟩,
       ⟨Rect.unit (k0_off6 i) S1x1x256.size (k0_off6_inb i), p1⟩,
       ⟨Rect.unit (k0_off5 i) S1x1x256.size (k0_off5_inb i), p0⟩])) :=
  (isRow_six v f i (six p0 p1 p2 p3 p4 p5)).congr hY (six_eq h0 h1 h2 h3 h4 h5)

theorem isScale_list (v : View sig .tc .vmem S6x1x256 .f32) (f : v.ty.Contents (Elt F)) (L : List (View.Piece (Elt F) S6x1x256 .f32)) {p0 p1 p2 p3 p4 p5 : S1x1x256.Idx → F .f32}
    {Q : Fin 6 → S1x1x256.Idx → F .f32} (h0 : p0 = Q 0) (h1 : p1 = Q 1) (h2 : p2 = Q 2) (h3 : p3 = Q 3) (h4 : p4 = Q 4) (h5 : p5 = Q 5) :
    IsScale Q (v.read (Elt F) (v.writes (Elt F) f
      (⟨Rect.unit ![5, 0, 0] S1x1x256.size inb_S6x1x256_S1x1x256_5_0_0, p5⟩ ::
       ⟨Rect.unit ![4, 0, 0] S1x1x256.size inb_S6x1x256_S1x1x256_4_0_0, p4⟩ ::
       ⟨Rect.unit ![3, 0, 0] S1x1x256.size inb_S6x1x256_S1x1x256_3_0_0, p3⟩ ::
       ⟨Rect.unit ![2, 0, 0] S1x1x256.size inb_S6x1x256_S1x1x256_2_0_0, p2⟩ ::
       ⟨Rect.unit ![1, 0, 0] S1x1x256.size inb_S6x1x256_S1x1x256_1_0_0, p1⟩ ::
       ⟨Rect.unit ![0, 0, 0] S1x1x256.size inb_S6x1x256_S1x1x256_0_0_0, p0⟩ :: L))) :=
  (isScale_six v (v.writes (Elt F) f L) inb3 (six p0 p1 p2 p3 p4 p5)).congr (six_eq h0 h1 h2 h3 h4 h5)

theorem isCodes_list (v : View sig .tc .vmem S6x2880x256 .fp8e4m3) (f : v.ty.Contents (Elt F)) {p0 p1 p2 p3 p4 p5 : S1x2880x256.Idx → F .fp8e4m3}
    {Q : Fin 6 → S1x2880x256.Idx → F .fp8e4m3} (h0 : p0 = Q 0) (h1 : p1 = Q 1) (h2 : p2 = Q 2) (h3 : p3 = Q 3) (h4 : p4 = Q 4) (h5 : p5 = Q 5) :
    IsCodes Q (v.read (Elt F) (v.writes (Elt F) f
      [⟨Rect.unit ![5, 0, 0] S1x2880x256.size inb_S6x2880x256_S1x2880x256_5_0_0, p5⟩,
       ⟨Rect.unit ![4, 0, 0] S1x2880x256.size inb_S6x2880x256_S1x2880x256_4_0_0, p4⟩,
       ⟨Rect.unit ![3, 0, 0] S1x2880x256.size inb_S6x2880x256_S1x2880x256_3_0_0, p3⟩,
       ⟨Rect.unit ![2, 0, 0] S1x2880x256.size inb_S6x2880x256_S1x2880x256_2_0_0, p2⟩,
       ⟨Rect.unit ![1, 0, 0] S1x2880x256.size inb_S6x2880x256_S1x2880x256_1_0_0, p1⟩,
       ⟨Rect.unit ![0, 0, 0] S1x2880x256.size inb_S6x2880x256_S1x2880x256_0_0_0, p0⟩])) :=
  (isCodes_six v f inbX (six p0 p1 p2 p3 p4 p5)).congr (six_eq h0 h1 h2 h3 h4 h5)

/-! ## Reading an entry back -/

theorem IsCodes.ld {P : Fin 6 → S1x2880x256.Idx → F .fp8e4m3} {X : S6x2880x256.Idx → F .fp8e4m3} (h : IsCodes P X) (b : Fin 6) :
    View.ld (Val := Elt F) (e' := .fp8e4m3) X (rX b) = P b := by
  funext j
  have e1 : j = ix3 (0 : Fin 1) (j 1 : Fin 2880) (j 2 : Fin 256) := by
    funext a; fin_cases a
    · exact Subsingleton.elim (α := Fin 1) _ _
    · rfl
    · rfl
  have e2 : (rX b).emb j = ix3 b (j 1 : Fin 2880) (j 2 : Fin 256) := by
    funext a
    have h0 : (j 0).val = 0 := Nat.lt_one_iff.1 (j 0).isLt
    fin_cases a <;> apply Fin.ext <;> refine (ValueKit.rect_emb_unit_val (s := S6x2880x256) ![b.val, 0, 0] S1x2880x256.size (inbX b) j _).trans ?_ <;> simp [ix3, h0]
  show X ((rX b).emb j) = _
  rw [e2]
  exact (h b _ _).trans (congrArg (P b) e1.symm)

theorem IsScale.ld {P : Fin 6 → S1x1x256.Idx → F .f32} {X : S6x1x256.Idx → F .f32} (h : IsScale P X) (b : Fin 6) :
    View.ld (Val := Elt F) (e' := .f32) X (rS b) = P b := by
  funext j
  have e1 : j = ix3 (0 : Fin 1) (0 : Fin 1) (j 2 : Fin 256) := by
    funext a; fin_cases a
    · exact Subsingleton.elim (α := Fin 1) _ _
    · exact Subsingleton.elim (α := Fin 1) _ _
    · rfl
  have e2 : (rS b).emb j = ix3 b (0 : Fin 1) (j 2 : Fin 256) := by
    funext a
    have h0 : (j 0).val = 0 := Nat.lt_one_iff.1 (j 0).isLt
    have h1 : (j 1).val = 0 := Nat.lt_one_iff.1 (j 1).isLt
    fin_cases a <;> apply Fin.ext <;> refine (ValueKit.rect_emb_unit_val (s := S6x1x256) ![b.val, 0, 0] S1x1x256.size (inb3 b) j _).trans ?_ <;> simp [ix3, h0, h1]
  show X ((rS b).emb j) = _
  rw [e2]
  exact (h b _).trans (congrArg (P b) e1.symm)

end Cert.KernelIdeal.Hand

end
-- ==== Proof.RunA.lean ====
/-
  The body's run at the first grid point.
-/
module

public import proofs.«01_k».proof.Proof.Entries
public import Idealize.ShloMosaic.Lib.Pipeline.Value
public import proofs.«01_k».proof.Proof.Lists

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A piece read back from the six codes just written. -/
theorem codesCov (v : View sig .tc .vmem S6x2880x256 .fp8e4m3) {p0 p1 p2 p3 p4 p5 : S1x2880x256.Idx → F .fp8e4m3}
    {Q : Fin 6 → S1x2880x256.Idx → F .fp8e4m3} (h0 : p0 = Q 0) (h1 : p1 = Q 1) (h2 : p2 = Q 2) (h3 : p3 = Q 3) (h4 : p4 = Q 4) (h5 : p5 = Q 5) (b : Fin 6) :
    v.readCov (Val := Elt F)
      [⟨Rect.unit ![5, 0, 0] S1x2880x256.size inb_S6x2880x256_S1x2880x256_5_0_0, p5⟩,
       ⟨Rect.unit ![4, 0, 0] S1x2880x256.size inb_S6x2880x256_S1x2880x256_4_0_0, p4⟩,
       ⟨Rect.unit ![3, 0, 0] S1x2880x256.size inb_S6x2880x256_S1x2880x256_3_0_0, p3⟩,
       ⟨Rect.unit ![2, 0, 0] S1x2880x256.size inb_S6x2880x256_S1x2880x256_2_0_0, p2⟩,
       ⟨Rect.unit ![1, 0, 0] S1x2880x256.size inb_S6x2880x256_S1x2880x256_1_0_0, p1⟩,
       ⟨Rect.unit ![0, 0, 0] S1x2880x256.size inb_S6x2880x256_S1x2880x256_0_0_0, p0⟩] (rX b).toLoadRect = Q b :=
  (View.readAt_eq_ld ..).trans ((isCodes_list v _ h0 h1 h2 h3 h4 h5).ld b)

/-- A piece read back from the six scales just written. -/
theorem scalesCov (v : View sig .tc .vmem S6x1x256 .f32) (L : List (View.Piece (Elt F) S6x1x256 .f32)) {p0 p1 p2 p3 p4 p5 : S1x1x256.Idx → F .f32}
    {Q : Fin 6 → S1x1x256.Idx → F .f32} (h0 : p0 = Q 0) (h1 : p1 = Q 1) (h2 : p2 = Q 2) (h3 : p3 = Q 3) (h4 : p4 = Q 4) (h5 : p5 = Q 5) (b : Fin 6) :
    v.readCov (Val := Elt F)
      (⟨Rect.unit ![5, 0, 0] S1x1x256.size inb_S6x1x256_S1x1x256_5_0_0, p5⟩ ::
       ⟨Rect.unit ![4, 0, 0] S1x1x256.size inb_S6x1x256_S1x1x256_4_0_0, p4⟩ ::
       ⟨Rect.unit ![3, 0, 0] S1x1x256.size inb_S6x1x256_S1x1x256_3_0_0, p3⟩ ::
       ⟨Rect.unit ![2, 0, 0] S1x1x256.size inb_S6x1x256_S1x1x256_2_0_0, p2⟩ ::
       ⟨Rect.unit ![1, 0, 0] S1x1x256.size inb_S6x1x256_S1x1x256_1_0_0, p1⟩ ::
       ⟨Rect.unit ![0, 0, 0] S1x1x256.size inb_S6x1x256_S1x1x256_0_0_0, p0⟩ :: L) (rS b).toLoadRect = Q b :=
  (View.readAt_eq_ld ..).trans ((isScale_list v _ L h0 h1 h2 h3 h4 h5).ld b)

/-- The running maximum's row is not written by another entry's store; -/
theorem prevStep (v : View sig .tc .vmem S6x1x256 .f32) (b b' : Fin 6) (h : b' ≠ b) (p : S1x1x256.Idx → F .f32) (L : List (View.Piece (Elt F) S6x1x256 .f32)) :
    v.readCov (Val := Elt F) (⟨rS b', p⟩ :: L) (rS b).toLoadRect = v.readCov (Val := Elt F) L (rS b).toLoadRect :=
  View.readCov_cons_of_disjoint v _ _ _ (Rect.unit_disjoint (inb := (inb3 b')) (0 : Fin 3) (by
    have := Fin.val_ne_of_ne h
    show b'.val + 1 ≤ b.val ∨ b.val + 1 ≤ b'.val
    omega))

/-- below them stands the cleared array. -/
theorem prevBase (v : View sig .tc .vmem S6x1x256 .f32) (b : Fin 6) (z : S6x1x256.Idx → F .f32) :
    v.readCov (Val := Elt F) [⟨Rect.unit ![0, 0, 0] S6x1x256.size inb_S6x1x256_S6x1x256_0_0_0, z⟩] (rS b).toLoadRect = View.ld z (rS b) := by
  rw [View.readCov_eq_canon', View.canon_unit_zero (by funext a; fin_cases a <;> rfl)]

-- (the run's proof term is large: checking it walks past the default budget)
set_option maxHeartbeats 4000000 in
/-- The body's run at the first point, which quantises the input and clears the running maximum. -/
theorem runA (c : Dev nD) (i : grid0.Coords) (arg1 : Memref sig .tc .vmem S6x2880x256 .bf16) (harg1 : arg1.IsWhole) (arg2 : Memref sig .tc .vmem S3x1x96x2880 .fp8e4m3) (harg2 : arg2.IsWhole) (arg3 : Memref sig .tc .vmem S3x30x96 .f32) (harg3 : arg3.IsWhole) (arg4 : Memref sig .tc .vmem S30x96 .f32) (harg4 : arg4.IsWhole) (arg5 : Memref sig .tc .vmem S48x256 .f32) (harg5 : arg5.IsWhole) (arg6 : Memref sig .tc .vmem S48x256 .f32) (harg6 : arg6.IsWhole) (arg7 : Memref sig .tc .vmem S6x2880x256 .fp8e4m3) (harg7 : arg7.IsWhole) (arg8 : Memref sig .tc .vmem S6x1x256 .f32) (harg8 : arg8.IsWhole) (arg9 : Memref sig .tc .vmem S6x1x96x256 .fp8e4m3) (harg9 : arg9.IsWhole) (arg10 : Memref sig .tc .vmem S6x30x256 .f32) (harg10 : arg10.IsWhole) (arg11 : Memref sig .tc .vmem S6x1x96x256 .fp8e4m3) (harg11 : arg11.IsWhole) (arg12 : Memref sig .tc .vmem S6x30x256 .f32) (harg12 : arg12.IsWhole) (arg13 : Memref sig .tc .vmem S6x1x96x256 .f32) (harg13 : arg13.IsWhole) (arg14 : Memref sig .tc .vmem S6x1x256 .f32) (harg14 : arg14.IsWhole) (hc0 : cond0_0 i)
    (x0 : Vec F S6x2880x256 .bf16) (x1 : Vec F S3x1x96x2880 .fp8e4m3) (x2 : Vec F S3x30x96 .f32) (x3 : Vec F S30x96 .f32) (x4 : Vec F S48x256 .f32) (x5 : Vec F S48x256 .f32) (y6 : Vec F S6x2880x256 .fp8e4m3) (y7 : Vec F S6x1x256 .f32) (y8 : Vec F S6x1x96x256 .fp8e4m3) (y9 : Vec F S6x30x256 .f32) (y10 : Vec F S6x1x96x256 .fp8e4m3) (y11 : Vec F S6x30x256 .f32) (y12 : Vec F S6x1x96x256 .f32) (y13 : Vec F S6x1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare y12 ∗ owns (c : Thread nD τ) arg14 fullShare y13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, ⌜IsCodes (fun b => xCodes (View.ld x0 (rX b))) d⌝ ∗ owns (c : Thread nD τ) arg7 fullShare d) ∗ (∃ d, ⌜IsScale (fun b => xScales (View.ld x0 (rX b))) d⌝ ∗ owns (c : Thread nD τ) arg8 fullShare d) ∗ (∃ d, ⌜IsBlk (fun b => qCodes4 (shared i x1 x2 x3 x4 x5) (xCodes (View.ld x0 (rX b))) (xScales (View.ld x0 (rX b)))) d⌝ ∗ owns (c : Thread nD τ) arg9 fullShare d) ∗ (∃ d, ⌜IsRow i (fun b => qScales3 (shared i x1 x2 x3 x4 x5) (xCodes (View.ld x0 (rX b))) (xScales (View.ld x0 (rX b)))) y9 d⌝ ∗ owns (c : Thread nD τ) arg10 fullShare d) ∗ (∃ d, ⌜IsBlk (fun b => kCodes4 (shared i x1 x2 x3 x4 x5) (xCodes (View.ld x0 (rX b))) (xScales (View.ld x0 (rX b)))) d⌝ ∗ owns (c : Thread nD τ) arg11 fullShare d) ∗ (∃ d, ⌜IsRow i (fun b => kScales3 (shared i x1 x2 x3 x4 x5) (xCodes (View.ld x0 (rX b))) (xScales (View.ld x0 (rX b)))) y11 d⌝ ∗ owns (c : Thread nD τ) arg12 fullShare d) ∗ (∃ d, ⌜IsBlk (fun b => attn4 (shared i x1 x2 x3 x4 x5) (xCodes (View.ld x0 (rX b))) (xScales (View.ld x0 (rX b)))) d⌝ ∗ owns (c : Thread nD τ) arg13 fullShare d) ∗ (∃ d, ⌜IsScale (fun b => runMax (shared i x1 x2 x3 x4 x5) (xCodes (View.ld x0 (rX b))) (xScales (View.ld x0 (rX b))) (View.ld (k0_pay40 (F := F)) (rS b))) d⌝ ∗ owns (c : Thread nD τ) arg14 fullShare d)) -∗ K ⟨⟩))
          ⊢ wp frame (wpE (defs₀ (F := F)) Variants.none c none) E (cc0_qkv_attn i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_qkv_attn_eq_skeleton]; unfold cc0_qkv_attn_skel
    simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    have hS : ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ = shared i x1 x2 x3 x4 x5 := by simp only [readAt_unread, shared]
    have hX : ∀ b : Fin 6, arg7.view.readCov (runA.sl.H6_6 c arg1 harg1 x0) (rX b).toLoadRect = xCodes (View.ld x0 (rX b)) :=
      codesCov arg7.view (Q := fun b => xCodes (View.ld x0 (rX b)))
        ((e0_xc _).trans (congrArg xCodes (readAt_unread harg1 x0 (rX 0))))
        ((e1_xc _).trans (congrArg xCodes (readAt_unread harg1 x0 (rX 1))))
        ((e2_xc _).trans (congrArg xCodes (readAt_unread harg1 x0 (rX 2))))
        ((e3_xc _).trans (congrArg xCodes (readAt_unread harg1 x0 (rX 3))))
        ((e4_xc _).trans (congrArg xCodes (readAt_unread harg1 x0 (rX 4))))
        ((e5_xc _).trans (congrArg xCodes (readAt_unread harg1 x0 (rX 5))))
    have hY : ∀ b : Fin 6, arg8.view.readCov (runA.sl.H7_6 c arg1 harg1 x0) (rS b).toLoadRect = xScales (View.ld x0 (rX b)) :=
      scalesCov arg8.view [] (Q := fun b => xScales (View.ld x0 (rX b)))
        ((e0_xs _).trans (congrArg xScales (readAt_unread harg1 x0 (rX 0))))
        ((e1_xs _).trans (congrArg xScales (readAt_unread harg1 x0 (rX 1))))
        ((e2_xs _).trans (congrArg xScales (readAt_unread harg1 x0 (rX 2))))
        ((e3_xs _).trans (congrArg xScales (readAt_unread harg1 x0 (rX 3))))
        ((e4_xs _).trans (congrArg xScales (readAt_unread harg1 x0 (rX 4))))
        ((e5_xs _).trans (congrArg xScales (readAt_unread harg1 x0 (rX 5))))
    isplitl [H6]
    · iexists _; isplitr; swap
      · iexists _; isplitr; swap; · iexact H6
        ipureintro; rfl
      ipureintro
      exact isCodes_list _ _
        ((e0_xc _).trans (congrArg xCodes (readAt_unread harg1 x0 (rX 0))))
        ((e1_xc _).trans (congrArg xCodes (readAt_unread harg1 x0 (rX 1))))
        ((e2_xc _).trans (congrArg xCodes (readAt_unread harg1 x0 (rX 2))))
        ((e3_xc _).trans (congrArg xCodes (readAt_unread harg1 x0 (rX 3))))
        ((e4_xc _).trans (congrArg xCodes (readAt_unread harg1 x0 (rX 4))))
        ((e5_xc _).trans (congrArg xCodes (readAt_unread harg1 x0 (rX 5))))
    isplitl [H7]
    · iexists _; isplitr; swap
      · iexists _; isplitr; swap; · iexact H7
        ipureintro; rfl
      ipureintro
      exact isScale_list _ _ []
        ((e0_xs _).trans (congrArg xScales (readAt_unread harg1 x0 (rX 0))))
        ((e1_xs _).trans (congrArg xScales (readAt_unread harg1 x0 (rX 1))))
        ((e2_xs _).trans (congrArg xScales (readAt_unread harg1 x0 (rX 2))))
        ((e3_xs _).trans (congrArg xScales (readAt_unread harg1 x0 (rX 3))))
        ((e4_xs _).trans (congrArg xScales (readAt_unread harg1 x0 (rX 4))))
        ((e5_xs _).trans (congrArg xScales (readAt_unread harg1 x0 (rX 5))))
    isplitl [H8]
    · iexists _; isplitr; swap
      · iexists _; isplitr; swap; · iexact H8
        ipureintro; rfl
      ipureintro
      refine isBlk_list _ _ ?_ ?_ ?_ ?_ ?_ ?_
      · refine (e0_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 0).toLoadRect) (arg8.view.readCov (runA.sl.H7_6 c arg1 harg1 x0) (rS 0).toLoadRect)).trans ?_
        rw [hS, hX, hY]
      · refine (e1_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 1).toLoadRect) (arg8.view.readCov (runA.sl.H7_6 c arg1 harg1 x0) (rS 1).toLoadRect)).trans ?_
        rw [hS, hX, hY]
      · refine (e2_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 2).toLoadRect) (arg8.view.readCov (runA.sl.H7_6 c arg1 harg1 x0) (rS 2).toLoadRect)).trans ?_
        rw [hS, hX, hY]
      · refine (e3_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 3).toLoadRect) (arg8.view.readCov (runA.sl.H7_6 c arg1 harg1 x0) (rS 3).toLoadRect)).trans ?_
        rw [hS, hX, hY]
      · refine (e4_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 4).toLoadRect) (arg8.view.readCov (runA.sl.H7_6 c arg1 harg1 x0) (rS 4).toLoadRect)).trans ?_
        rw [hS, hX, hY]
      · refine (e5_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 5).toLoadRect) (arg8.view.readCov (runA.sl.H7_6 c arg1 harg1 x0) (rS 5).toLoadRect)).trans ?_
        rw [hS, hX, hY]
    isplitl [H9]
    · iexists _; isplitr; swap
      · iexists _; isplitr; swap; · iexact H9
        ipureintro; rfl
      ipureintro
      refine isRow_list _ _ i (harg10.read_unread _) ?_ ?_ ?_ ?_ ?_ ?_
      · refine (e0_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 0).toLoadRect) (arg8.view.readCov (runA.sl.H7_6 c arg1 harg1 x0) (rS 0).toLoadRect)).trans ?_
        rw [hS, hX, hY]
      · refine (e1_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 1).toLoadRect) (arg8.view.readCov (runA.sl.H7_6 c arg1 harg1 x0) (rS 1).toLoadRect)).trans ?_
        rw [hS, hX, hY]
      · refine (e2_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 2).toLoadRect) (arg8.view.readCov (runA.sl.H7_6 c arg1 harg1 x0) (rS 2).toLoadRect)).trans ?_
        rw [hS, hX, hY]
      · refine (e3_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 3).toLoadRect) (arg8.view.readCov (runA.sl.H7_6 c arg1 harg1 x0) (rS 3).toLoadRect)).trans ?_
        rw [hS, hX, hY]
      · refine (e4_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 4).toLoadRect) (arg8.view.readCov (runA.sl.H7_6 c arg1 harg1 x0) (rS 4).toLoadRect)).trans ?_
        rw [hS, hX, hY]
      · refine (e5_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 5).toLoadRect) (arg8.view.readCov (runA.sl.H7_6 c arg1 harg1 x0) (rS 5).toLoadRect)).trans ?_
        rw [hS, hX, hY]
    isplitl [H10]
    · iexists _; isplitr; swap
      · iexists _; isplitr; swap; · iexact H10
        ipureintro; rfl
      ipureintro
      refine isBlk_list _ _ ?_ ?_ ?_ ?_ ?_ ?_
      · refine (e0_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 0).toLoadRect) (arg8.view.readCov (runA.sl.H7_6 c arg1 harg1 x0) (rS 0).toLoadRect)).trans ?_
        rw [hS, hX, hY]
      · refine (e1_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 1).toLoadRect) (arg8.view.readCov (runA.sl.H7_6 c arg1 harg1 x0) (rS 1).toLoadRect)).trans ?_
        rw [hS, hX, hY]
      · refine (e2_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 2).toLoadRect) (arg8.view.readCov (runA.sl.H7_6 c arg1 harg1 x0) (rS 2).toLoadRect)).trans ?_
        rw [hS, hX, hY]
      · refine (e3_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 3).toLoadRect) (arg8.view.readCov (runA.sl.H7_6 c arg1 harg1 x0) (rS 3).toLoadRect)).trans ?_
        rw [hS, hX, hY]
      · refine (e4_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 4).toLoadRect) (arg8.view.readCov (runA.sl.H7_6 c arg1 harg1 x0) (rS 4).toLoadRect)).trans ?_
        rw [hS, hX, hY]
      · refine (e5_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 5).toLoadRect) (arg8.view.readCov (runA.sl.H7_6 c arg1 harg1 x0) (rS 5).toLoadRect)).trans ?_
        rw [hS, hX, hY]
    isplitl [H11]
    · iexists _; isplitr; swap
      · iexists _; isplitr; swap; · iexact H11
        ipureintro; rfl
      ipureintro
      refine isRow_list _ _ i (harg12.read_unread _) ?_ ?_ ?_ ?_ ?_ ?_
      · refine (e0_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 0).toLoadRect) (arg8.view.readCov (runA.sl.H7_6 c arg1 harg1 x0) (rS 0).toLoadRect)).trans ?_
        rw [hS, hX, hY]
      · refine (e1_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 1).toLoadRect) (arg8.view.readCov (runA.sl.H7_6 c arg1 harg1 x0) (rS 1).toLoadRect)).trans ?_
        rw [hS, hX, hY]
      · refine (e2_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 2).toLoadRect) (arg8.view.readCov (runA.sl.H7_6 c arg1 harg1 x0) (rS 2).toLoadRect)).trans ?_
        rw [hS, hX, hY]
      · refine (e3_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 3).toLoadRect) (arg8.view.readCov (runA.sl.H7_6 c arg1 harg1 x0) (rS 3).toLoadRect)).trans ?_
        rw [hS, hX, hY]
      · refine (e4_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 4).toLoadRect) (arg8.view.readCov (runA.sl.H7_6 c arg1 harg1 x0) (rS 4).toLoadRect)).trans ?_
        rw [hS, hX, hY]
      · refine (e5_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 5).toLoadRect) (arg8.view.readCov (runA.sl.H7_6 c arg1 harg1 x0) (rS 5).toLoadRect)).trans ?_
        rw [hS, hX, hY]
    isplitl [H12]
    · iexists _; isplitr; swap
      · iexists _; isplitr; swap; · iexact H12
        ipureintro; rfl
      ipureintro
      refine isBlk_list _ _ ?_ ?_ ?_ ?_ ?_ ?_
      · refine (e0_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 0).toLoadRect) (arg8.view.readCov (runA.sl.H7_6 c arg1 harg1 x0) (rS 0).toLoadRect)).trans ?_
        rw [hS, hX, hY]
      · refine (e1_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 1).toLoadRect) (arg8.view.readCov (runA.sl.H7_6 c arg1 harg1 x0) (rS 1).toLoadRect)).trans ?_
        rw [hS, hX, hY]
      · refine (e2_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 2).toLoadRect) (arg8.view.readCov (runA.sl.H7_6 c arg1 harg1 x0) (rS 2).toLoadRect)).trans ?_
        rw [hS, hX, hY]
      · refine (e3_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 3).toLoadRect) (arg8.view.readCov (runA.sl.H7_6 c arg1 harg1 x0) (rS 3).toLoadRect)).trans ?_
        rw [hS, hX, hY]
      · refine (e4_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 4).toLoadRect) (arg8.view.readCov (runA.sl.H7_6 c arg1 harg1 x0) (rS 4).toLoadRect)).trans ?_
        rw [hS, hX, hY]
      · refine (e5_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 5).toLoadRect) (arg8.view.readCov (runA.sl.H7_6 c arg1 harg1 x0) (rS 5).toLoadRect)).trans ?_
        rw [hS, hX, hY]
    iexists _; isplitr; swap
    · iexists _; isplitr; swap; · iexact H13
      ipureintro; rfl
    ipureintro
    refine isScale_list _ _ _ ?_ ?_ ?_ ?_ ?_ ?_
    · refine (e0_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 0).toLoadRect) (arg8.view.readCov (runA.sl.H7_6 c arg1 harg1 x0) (rS 0).toLoadRect) _).trans ?_
      rw [hS, hX, hY]
      exact congrArg (runMax _ _ _) (prevBase arg14.view 0 _)
    · refine (e1_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 1).toLoadRect) (arg8.view.readCov (runA.sl.H7_6 c arg1 harg1 x0) (rS 1).toLoadRect) _).trans ?_
      rw [hS, hX, hY]
      exact congrArg (runMax _ _ _) ((prevStep arg14.view 1 0 (by decide) _ _).trans (prevBase arg14.view 1 _))
    · refine (e2_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 2).toLoadRect) (arg8.view.readCov (runA.sl.H7_6 c arg1 harg1 x0) (rS 2).toLoadRect) _).trans ?_
      rw [hS, hX, hY]
      exact congrArg (runMax _ _ _) ((prevStep arg14.view 2 1 (by decide) _ _).trans ((prevStep arg14.view 2 0 (by decide) _ _).trans (prevBase arg14.view 2 _)))
    · refine (e3_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 3).toLoadRect) (arg8.view.readCov (runA.sl.H7_6 c arg1 harg1 x0) (rS 3).toLoadRect) _).trans ?_
      rw [hS, hX, hY]
      exact congrArg (runMax _ _ _) ((prevStep arg14.view 3 2 (by decide) _ _).trans ((prevStep arg14.view 3 1 (by decide) _ _).trans ((prevStep arg14.view 3 0 (by decide) _ _).trans (prevBase arg14.view 3 _))))
    · refine (e4_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 4).toLoadRect) (arg8.view.readCov (runA.sl.H7_6 c arg1 harg1 x0) (rS 4).toLoadRect) _).trans ?_
      rw [hS, hX, hY]
      exact congrArg (runMax _ _ _) ((prevStep arg14.view 4 3 (by decide) _ _).trans ((prevStep arg14.view 4 2 (by decide) _ _).trans ((prevStep arg14.view 4 1 (by decide) _ _).trans ((prevStep arg14.view 4 0 (by decide) _ _).trans (prevBase arg14.view 4 _)))))
    · refine (e5_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (arg7.view.readCov (runA.sl.H6_6 c arg1 harg1 x0) (rX 5).toLoadRect) (arg8.view.readCov (runA.sl.H7_6 c arg1 harg1 x0) (rS 5).toLoadRect) _).trans ?_
      rw [hS, hX, hY]
      exact congrArg (runMax _ _ _) ((prevStep arg14.view 5 4 (by decide) _ _).trans ((prevStep arg14.view 5 3 (by decide) _ _).trans ((prevStep arg14.view 5 2 (by decide) _ _).trans ((prevStep arg14.view 5 1 (by decide) _ _).trans ((prevStep arg14.view 5 0 (by decide) _ _).trans (prevBase arg14.view 5 _))))))

end Cert.KernelIdeal.Hand

end
-- ==== Proof.RunB.lean ====
/-
  The body's run at the other grid points.
-/
module

public import proofs.«01_k».proof.Proof.Entries
public import proofs.«01_k».proof.Proof.Lists

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- The body's run at a later point, which finds the codes in place. -/
theorem runB (c : Dev nD) (i : grid0.Coords) (arg1 : Memref sig .tc .vmem S6x2880x256 .bf16) (harg1 : arg1.IsWhole) (arg2 : Memref sig .tc .vmem S3x1x96x2880 .fp8e4m3) (harg2 : arg2.IsWhole) (arg3 : Memref sig .tc .vmem S3x30x96 .f32) (harg3 : arg3.IsWhole) (arg4 : Memref sig .tc .vmem S30x96 .f32) (harg4 : arg4.IsWhole) (arg5 : Memref sig .tc .vmem S48x256 .f32) (harg5 : arg5.IsWhole) (arg6 : Memref sig .tc .vmem S48x256 .f32) (harg6 : arg6.IsWhole) (arg7 : Memref sig .tc .vmem S6x2880x256 .fp8e4m3) (harg7 : arg7.IsWhole) (arg8 : Memref sig .tc .vmem S6x1x256 .f32) (harg8 : arg8.IsWhole) (arg9 : Memref sig .tc .vmem S6x1x96x256 .fp8e4m3) (harg9 : arg9.IsWhole) (arg10 : Memref sig .tc .vmem S6x30x256 .f32) (harg10 : arg10.IsWhole) (arg11 : Memref sig .tc .vmem S6x1x96x256 .fp8e4m3) (harg11 : arg11.IsWhole) (arg12 : Memref sig .tc .vmem S6x30x256 .f32) (harg12 : arg12.IsWhole) (arg13 : Memref sig .tc .vmem S6x1x96x256 .f32) (harg13 : arg13.IsWhole) (arg14 : Memref sig .tc .vmem S6x1x256 .f32) (harg14 : arg14.IsWhole) (hc0 : ¬cond0_0 i)
    (x0 : Vec F S6x2880x256 .bf16) (x1 : Vec F S3x1x96x2880 .fp8e4m3) (x2 : Vec F S3x30x96 .f32) (x3 : Vec F S30x96 .f32) (x4 : Vec F S48x256 .f32) (x5 : Vec F S48x256 .f32) (y6 : Vec F S6x2880x256 .fp8e4m3) (y7 : Vec F S6x1x256 .f32) (y8 : Vec F S6x1x96x256 .fp8e4m3) (y9 : Vec F S6x30x256 .f32) (y10 : Vec F S6x1x96x256 .fp8e4m3) (y11 : Vec F S6x30x256 .f32) (y12 : Vec F S6x1x96x256 .f32) (y13 : Vec F S6x1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare y12 ∗ owns (c : Thread nD τ) arg14 fullShare y13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, ⌜d = y6⌝ ∗ owns (c : Thread nD τ) arg7 fullShare d) ∗ (∃ d, ⌜d = y7⌝ ∗ owns (c : Thread nD τ) arg8 fullShare d) ∗ (∃ d, ⌜IsBlk (fun b => qCodes4 (shared i x1 x2 x3 x4 x5) (View.ld y6 (rX b)) (View.ld y7 (rS b))) d⌝ ∗ owns (c : Thread nD τ) arg9 fullShare d) ∗ (∃ d, ⌜IsRow i (fun b => qScales3 (shared i x1 x2 x3 x4 x5) (View.ld y6 (rX b)) (View.ld y7 (rS b))) y9 d⌝ ∗ owns (c : Thread nD τ) arg10 fullShare d) ∗ (∃ d, ⌜IsBlk (fun b => kCodes4 (shared i x1 x2 x3 x4 x5) (View.ld y6 (rX b)) (View.ld y7 (rS b))) d⌝ ∗ owns (c : Thread nD τ) arg11 fullShare d) ∗ (∃ d, ⌜IsRow i (fun b => kScales3 (shared i x1 x2 x3 x4 x5) (View.ld y6 (rX b)) (View.ld y7 (rS b))) y11 d⌝ ∗ owns (c : Thread nD τ) arg12 fullShare d) ∗ (∃ d, ⌜IsBlk (fun b => attn4 (shared i x1 x2 x3 x4 x5) (View.ld y6 (rX b)) (View.ld y7 (rS b))) d⌝ ∗ owns (c : Thread nD τ) arg13 fullShare d) ∗ (∃ d, ⌜IsScale (fun b => runMax (shared i x1 x2 x3 x4 x5) (View.ld y6 (rX b)) (View.ld y7 (rS b)) (View.ld y13 (rS b))) d⌝ ∗ owns (c : Thread nD τ) arg14 fullShare d)) -∗ K ⟨⟩))
          ⊢ wp frame (wpE (defs₀ (F := F)) Variants.none c none) E (cc0_qkv_attn i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_qkv_attn_eq_skeleton]; unfold cc0_qkv_attn_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    have hS : ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ = shared i x1 x2 x3 x4 x5 := by simp only [readAt_unread, shared]
    isplitl [H6]
    · iexists _; isplitr; swap
      · iexists _; isplitr; swap; · iexact H6
        ipureintro; rfl
      ipureintro
      exact harg7.read_unread _
    isplitl [H7]
    · iexists _; isplitr; swap
      · iexists _; isplitr; swap; · iexact H7
        ipureintro; rfl
      ipureintro
      exact harg8.read_unread _
    isplitl [H8]
    · iexists _; isplitr; swap
      · iexists _; isplitr; swap; · iexact H8
        ipureintro; rfl
      ipureintro
      refine isBlk_list _ _ ?_ ?_ ?_ ?_ ?_ ?_
      · refine (e0_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 0).toLoadRect (harg7.unread y6)) (View.readAt (Elt F) arg8.view (rS 0).toLoadRect (harg8.unread y7))).trans ?_
        rw [hS]; simp only [readAt_unread]
      · refine (e1_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 1).toLoadRect (harg7.unread y6)) (View.readAt (Elt F) arg8.view (rS 1).toLoadRect (harg8.unread y7))).trans ?_
        rw [hS]; simp only [readAt_unread]
      · refine (e2_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 2).toLoadRect (harg7.unread y6)) (View.readAt (Elt F) arg8.view (rS 2).toLoadRect (harg8.unread y7))).trans ?_
        rw [hS]; simp only [readAt_unread]
      · refine (e3_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 3).toLoadRect (harg7.unread y6)) (View.readAt (Elt F) arg8.view (rS 3).toLoadRect (harg8.unread y7))).trans ?_
        rw [hS]; simp only [readAt_unread]
      · refine (e4_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 4).toLoadRect (harg7.unread y6)) (View.readAt (Elt F) arg8.view (rS 4).toLoadRect (harg8.unread y7))).trans ?_
        rw [hS]; simp only [readAt_unread]
      · refine (e5_q ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 5).toLoadRect (harg7.unread y6)) (View.readAt (Elt F) arg8.view (rS 5).toLoadRect (harg8.unread y7))).trans ?_
        rw [hS]; simp only [readAt_unread]
    isplitl [H9]
    · iexists _; isplitr; swap
      · iexists _; isplitr; swap; · iexact H9
        ipureintro; rfl
      ipureintro
      refine isRow_list _ _ i (harg10.read_unread _) ?_ ?_ ?_ ?_ ?_ ?_
      · refine (e0_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 0).toLoadRect (harg7.unread y6)) (View.readAt (Elt F) arg8.view (rS 0).toLoadRect (harg8.unread y7))).trans ?_
        rw [hS]; simp only [readAt_unread]
      · refine (e1_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 1).toLoadRect (harg7.unread y6)) (View.readAt (Elt F) arg8.view (rS 1).toLoadRect (harg8.unread y7))).trans ?_
        rw [hS]; simp only [readAt_unread]
      · refine (e2_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 2).toLoadRect (harg7.unread y6)) (View.readAt (Elt F) arg8.view (rS 2).toLoadRect (harg8.unread y7))).trans ?_
        rw [hS]; simp only [readAt_unread]
      · refine (e3_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 3).toLoadRect (harg7.unread y6)) (View.readAt (Elt F) arg8.view (rS 3).toLoadRect (harg8.unread y7))).trans ?_
        rw [hS]; simp only [readAt_unread]
      · refine (e4_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 4).toLoadRect (harg7.unread y6)) (View.readAt (Elt F) arg8.view (rS 4).toLoadRect (harg8.unread y7))).trans ?_
        rw [hS]; simp only [readAt_unread]
      · refine (e5_qs ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 5).toLoadRect (harg7.unread y6)) (View.readAt (Elt F) arg8.view (rS 5).toLoadRect (harg8.unread y7))).trans ?_
        rw [hS]; simp only [readAt_unread]
    isplitl [H10]
    · iexists _; isplitr; swap
      · iexists _; isplitr; swap; · iexact H10
        ipureintro; rfl
      ipureintro
      refine isBlk_list _ _ ?_ ?_ ?_ ?_ ?_ ?_
      · refine (e0_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 0).toLoadRect (harg7.unread y6)) (View.readAt (Elt F) arg8.view (rS 0).toLoadRect (harg8.unread y7))).trans ?_
        rw [hS]; simp only [readAt_unread]
      · refine (e1_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 1).toLoadRect (harg7.unread y6)) (View.readAt (Elt F) arg8.view (rS 1).toLoadRect (harg8.unread y7))).trans ?_
        rw [hS]; simp only [readAt_unread]
      · refine (e2_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 2).toLoadRect (harg7.unread y6)) (View.readAt (Elt F) arg8.view (rS 2).toLoadRect (harg8.unread y7))).trans ?_
        rw [hS]; simp only [readAt_unread]
      · refine (e3_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 3).toLoadRect (harg7.unread y6)) (View.readAt (Elt F) arg8.view (rS 3).toLoadRect (harg8.unread y7))).trans ?_
        rw [hS]; simp only [readAt_unread]
      · refine (e4_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 4).toLoadRect (harg7.unread y6)) (View.readAt (Elt F) arg8.view (rS 4).toLoadRect (harg8.unread y7))).trans ?_
        rw [hS]; simp only [readAt_unread]
      · refine (e5_k ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 5).toLoadRect (harg7.unread y6)) (View.readAt (Elt F) arg8.view (rS 5).toLoadRect (harg8.unread y7))).trans ?_
        rw [hS]; simp only [readAt_unread]
    isplitl [H11]
    · iexists _; isplitr; swap
      · iexists _; isplitr; swap; · iexact H11
        ipureintro; rfl
      ipureintro
      refine isRow_list _ _ i (harg12.read_unread _) ?_ ?_ ?_ ?_ ?_ ?_
      · refine (e0_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 0).toLoadRect (harg7.unread y6)) (View.readAt (Elt F) arg8.view (rS 0).toLoadRect (harg8.unread y7))).trans ?_
        rw [hS]; simp only [readAt_unread]
      · refine (e1_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 1).toLoadRect (harg7.unread y6)) (View.readAt (Elt F) arg8.view (rS 1).toLoadRect (harg8.unread y7))).trans ?_
        rw [hS]; simp only [readAt_unread]
      · refine (e2_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 2).toLoadRect (harg7.unread y6)) (View.readAt (Elt F) arg8.view (rS 2).toLoadRect (harg8.unread y7))).trans ?_
        rw [hS]; simp only [readAt_unread]
      · refine (e3_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 3).toLoadRect (harg7.unread y6)) (View.readAt (Elt F) arg8.view (rS 3).toLoadRect (harg8.unread y7))).trans ?_
        rw [hS]; simp only [readAt_unread]
      · refine (e4_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 4).toLoadRect (harg7.unread y6)) (View.readAt (Elt F) arg8.view (rS 4).toLoadRect (harg8.unread y7))).trans ?_
        rw [hS]; simp only [readAt_unread]
      · refine (e5_ks ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 5).toLoadRect (harg7.unread y6)) (View.readAt (Elt F) arg8.view (rS 5).toLoadRect (harg8.unread y7))).trans ?_
        rw [hS]; simp only [readAt_unread]
    isplitl [H12]
    · iexists _; isplitr; swap
      · iexists _; isplitr; swap; · iexact H12
        ipureintro; rfl
      ipureintro
      refine isBlk_list _ _ ?_ ?_ ?_ ?_ ?_ ?_
      · refine (e0_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 0).toLoadRect (harg7.unread y6)) (View.readAt (Elt F) arg8.view (rS 0).toLoadRect (harg8.unread y7))).trans ?_
        rw [hS]; simp only [readAt_unread]
      · refine (e1_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 1).toLoadRect (harg7.unread y6)) (View.readAt (Elt F) arg8.view (rS 1).toLoadRect (harg8.unread y7))).trans ?_
        rw [hS]; simp only [readAt_unread]
      · refine (e2_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 2).toLoadRect (harg7.unread y6)) (View.readAt (Elt F) arg8.view (rS 2).toLoadRect (harg8.unread y7))).trans ?_
        rw [hS]; simp only [readAt_unread]
      · refine (e3_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 3).toLoadRect (harg7.unread y6)) (View.readAt (Elt F) arg8.view (rS 3).toLoadRect (harg8.unread y7))).trans ?_
        rw [hS]; simp only [readAt_unread]
      · refine (e4_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 4).toLoadRect (harg7.unread y6)) (View.readAt (Elt F) arg8.view (rS 4).toLoadRect (harg8.unread y7))).trans ?_
        rw [hS]; simp only [readAt_unread]
      · refine (e5_o ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 5).toLoadRect (harg7.unread y6)) (View.readAt (Elt F) arg8.view (rS 5).toLoadRect (harg8.unread y7))).trans ?_
        rw [hS]; simp only [readAt_unread]
    iexists _; isplitr; swap
    · iexists _; isplitr; swap; · iexact H13
      ipureintro; rfl
    ipureintro
    refine isScale_list _ _ [] ?_ ?_ ?_ ?_ ?_ ?_
    · refine (e0_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 0).toLoadRect (harg7.unread y6)) (View.readAt (Elt F) arg8.view (rS 0).toLoadRect (harg8.unread y7)) (View.readAt (Elt F) arg14.view (rS 0).toLoadRect (harg14.unread y13))).trans ?_
      rw [hS]; simp only [readAt_unread]
    · refine (e1_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 1).toLoadRect (harg7.unread y6)) (View.readAt (Elt F) arg8.view (rS 1).toLoadRect (harg8.unread y7)) (View.readAt (Elt F) arg14.view (rS 1).toLoadRect (harg14.unread y13))).trans ?_
      rw [hS]; simp only [readAt_unread]
    · refine (e2_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 2).toLoadRect (harg7.unread y6)) (View.readAt (Elt F) arg8.view (rS 2).toLoadRect (harg8.unread y7)) (View.readAt (Elt F) arg14.view (rS 2).toLoadRect (harg14.unread y13))).trans ?_
      rw [hS]; simp only [readAt_unread]
    · refine (e3_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 3).toLoadRect (harg7.unread y6)) (View.readAt (Elt F) arg8.view (rS 3).toLoadRect (harg8.unread y7)) (View.readAt (Elt F) arg14.view (rS 3).toLoadRect (harg14.unread y13))).trans ?_
      rw [hS]; simp only [readAt_unread]
    · refine (e4_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 4).toLoadRect (harg7.unread y6)) (View.readAt (Elt F) arg8.view (rS 4).toLoadRect (harg8.unread y7)) (View.readAt (Elt F) arg14.view (rS 4).toLoadRect (harg14.unread y13))).trans ?_
      rw [hS]; simp only [readAt_unread]
    · refine (e5_m ⟨View.readAt (Elt F) arg5.view (Rect.unit (s := S48x256) ![0, 0] S48x256.size inb_S48x256_S48x256_0_0).toLoadRect (harg5.unread x4), View.readAt (Elt F) arg6.view (Rect.unit (s := S48x256) ![0, 0] S48x256.size inb_S48x256_S48x256_0_0).toLoadRect (harg6.unread x5), View.readAt (Elt F) arg4.view (Rect.unit (s := S30x96) (k0_off1 i) S1x96.size (k0_off1_inb i)).toLoadRect (harg4.unread x3), View.readAt (Elt F) arg3.view (Rect.unit (s := S3x30x96) (k0_off2 i) S1x1x96.size (k0_off2_inb i)).toLoadRect (harg3.unread x2), View.readAt (Elt F) arg3.view (Rect.unit (s := S3x30x96) (k0_off3 i) S1x1x96.size (k0_off3_inb i)).toLoadRect (harg3.unread x2), View.readAt (Elt F) arg3.view (Rect.unit (s := S3x30x96) (k0_off4 i) S1x1x96.size (k0_off4_inb i)).toLoadRect (harg3.unread x2), View.readAt (Elt F) arg2.view (Rect.unit (s := S3x1x96x2880) ![0, 0, 0, 0] S3x1x96x2880.size inb_S3x1x96x2880_S3x1x96x2880_0_0_0_0).toLoadRect (harg2.unread x1)⟩ (View.readAt (Elt F) arg7.view (rX 5).toLoadRect (harg7.unread y6)) (View.readAt (Elt F) arg8.view (rS 5).toLoadRect (harg8.unread y7)) (View.readAt (Elt F) arg14.view (rS 5).toLoadRect (harg14.unread y13))).trans ?_
      rw [hS]; simp only [readAt_unread]

end Cert.KernelIdeal.Hand

end
-- ==== Proof.Data.lean ====
/-
  The pipeline's proof data, for any reading of the floats and any property held of the output buffers.
-/
module

public import proofs.«01_k».proof.Proof.Runs
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows, each held to what the body leaves there. -/
def forgets0 : Fin 14 → Bool := fun w => w.val == 6 || w.val == 7 || w.val == 8 || w.val == 9 || w.val == 10 || w.val == 11 || w.val == 12 || w.val == 13

/-- The proof data of the one pipeline on core `c`: the arrays as the region finds them (`V`); after the body at
    point `t` each input's buffer at its block and the outputs, held to `rel`, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

variable (rel : (c : Dev nD) → (w : Fin cfg0.W) → (t : Fin cfg0.N) → ((cfg0.win w).block.Idx → Elt F (cfg0.win w).elt) → Prop)

/-- The proof data with the outputs held to `rel`. -/
def rdat (c : Dev nD) : Pipeline.RDat τ (Elt F) Unit ℕ (UR sig nD τ) ℕ cfg0 c := (dats m 0 c).toRRel forgets0 (rel c)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, ⌜(rdat m rel c).Finds 6 t d⌝ ∗ owns (c : Thread nD τ) (ms0_6 t) fullShare d)
    ∗ (∃ d, ⌜(rdat m rel c).Finds 7 t d⌝ ∗ owns (c : Thread nD τ) (ms0_7 t) fullShare d)
    ∗ (∃ d, ⌜(rdat m rel c).Finds 8 t d⌝ ∗ owns (c : Thread nD τ) (ms0_8 t) fullShare d)
    ∗ (∃ d, ⌜(rdat m rel c).Finds 9 t d⌝ ∗ owns (c : Thread nD τ) (ms0_9 t) fullShare d)
    ∗ (∃ d, ⌜(rdat m rel c).Finds 10 t d⌝ ∗ owns (c : Thread nD τ) (ms0_10 t) fullShare d)
    ∗ (∃ d, ⌜(rdat m rel c).Finds 11 t d⌝ ∗ owns (c : Thread nD τ) (ms0_11 t) fullShare d)
    ∗ (∃ d, ⌜(rdat m rel c).Finds 12 t d⌝ ∗ owns (c : Thread nD τ) (ms0_12 t) fullShare d)
    ∗ (∃ d, ⌜(rdat m rel c).Finds 13 t d⌝ ∗ owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, ⌜rel c 6 t d⌝ ∗ owns (c : Thread nD τ) (ms0_6 t) fullShare d)
    ∗ (∃ d, ⌜rel c 7 t d⌝ ∗ owns (c : Thread nD τ) (ms0_7 t) fullShare d)
    ∗ (∃ d, ⌜rel c 8 t d⌝ ∗ owns (c : Thread nD τ) (ms0_8 t) fullShare d)
    ∗ (∃ d, ⌜rel c 9 t d⌝ ∗ owns (c : Thread nD τ) (ms0_9 t) fullShare d)
    ∗ (∃ d, ⌜rel c 10 t d⌝ ∗ owns (c : Thread nD τ) (ms0_10 t) fullShare d)
    ∗ (∃ d, ⌜rel c 11 t d⌝ ∗ owns (c : Thread nD τ) (ms0_11 t) fullShare d)
    ∗ (∃ d, ⌜rel c 12 t d⌝ ∗ owns (c : Thread nD τ) (ms0_12 t) fullShare d)
    ∗ (∃ d, ⌜rel c 13 t d⌝ ∗ owns (c : Thread nD τ) (ms0_13 t) fullShare d))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-! ## The run and the frame -/

variable (hb : ∀ c, Pipeline.BodyObligationRel (dats m 0 c) (defs₀ (F := F)) Variants.none () Set.univ forgets0 (rel c))

-- `θ_run_frame_forget`'s implicit arguments are found by unifying its conclusion with this one, which takes unfolding plain
-- definitions in a metavariable's type
set_option backward.isDefEq.respectTransparency.types false in
include hb in
/-- THE LAUNCH: ``run`'s statement, and every semaphore counter of the machine at zero at every final state. -/
theorem run_quiescent : θ_run defs (onTc (τ := τ) (main (F := F))) (s₀ m ρ) (fun r => (Pipeline.RDat.FramePost (cfgs 0) (rdat m rel) (V m)) r ∧ r.2.sem = fun _ => 0) :=
  Pipeline.RDat.θ_run_frame (Q' := _) cfgs (0 : Fin 1) launch0 defs₀ Variants.none (rdat m rel) m ρ main
    (hbody := fun c => (hb c).toRRel) (hshare := fun c => (dats m 0 c).share_full fun _ => rfl)
    (howed := fun _ _ => rfl) (V := V m) (hmain := hmain m Variants.none) (hA := A_eq m) (hΦ := fun _ _ => rfl)

include hb in
/-- The run without the counters. -/
theorem run : θ_run defs (onTc (τ := τ) (main (F := F))) (s₀ m ρ) (Pipeline.RDat.FramePost (cfgs 0) (rdat m rel) (V m)) :=
  (θ_run defs _ _).mono (fun _ h => h.1) (run_quiescent m ρ rel hb)

include hb in
/-- `frame` without the counters: the argument arrays end unchanged. -/
theorem run_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_ofR m ρ (rdat m rel) (A_eq m) (run m ρ rel hb)

include hb in
/-- `unchanged` with the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (run_unchanged m ρ rel hb) ((θ_run defs _ _).mono (fun _ h => h.2) (run_quiescent m ρ rel hb))

end Cert.KernelIdeal.Hand

end
-- ==== Proof.FrameT.lean ====
/-
  The kernel's frame for any reading of the floats: the body runs at every point, nothing said of what it leaves.
-/
module

public import proofs.«01_k».proof.Proof.RunA
public import proofs.«01_k».proof.Proof.RunB
public import proofs.«01_k».proof.Proof.Data
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Nothing said of the output buffers. -/
def anyRel (c : Dev nD) (w : Fin cfg0.W) (t : Fin cfg0.N) : ((cfg0.win w).block.Idx → Elt F (cfg0.win w).elt) → Prop := fun _ => True

set_option maxHeartbeats 2400000 in
/-- The body at any point: the first point quantises the input, the later ones read its codes back. -/
theorem body_runs (c : Dev nD) (t : Fin cfg0.N) :
    bodyPre m anyRel c t ⊢ wp frame (wpE (defs₀ (F := F)) Variants.none c none) Set.univ (bodyAt0 t) (fun _ => bodyPost m anyRel c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  have hN : t.val < 30 := lt_of_lt_of_eq t.isLt (show cfg0.N = 30 from N_0)
  by_cases h0 : t.val % 30 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%d6, %f6, H6⟩, ⟨%d7, %f7, H7⟩, ⟨%d8, %f8, H8⟩, ⟨%d9, %f9, H9⟩, ⟨%d10, %f10, H10⟩, ⟨%d11, %f11, H11⟩, ⟨%d12, %f12, H12⟩, ⟨%d13, %f13, H13⟩⟩
    iapply ((runA (F := F) c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) d6 d7 d8 d9 d10 d11 d12 d13) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, ⟨%e6, %g6, H6⟩, ⟨%e7, %g7, H7⟩, ⟨%e8, %g8, H8⟩, ⟨%e9, %g9, H9⟩, ⟨%e10, %g10, H10⟩, ⟨%e11, %g11, H11⟩, ⟨%e12, %g12, H12⟩, ⟨%e13, %g13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists e6; isplitr
      · ipureintro; trivial
      · iexact H6
    isplitl [H7]
    · iexists e7; isplitr
      · ipureintro; trivial
      · iexact H7
    isplitl [H8]
    · iexists e8; isplitr
      · ipureintro; trivial
      · iexact H8
    isplitl [H9]
    · iexists e9; isplitr
      · ipureintro; trivial
      · iexact H9
    isplitl [H10]
    · iexists e10; isplitr
      · ipureintro; trivial
      · iexact H10
    isplitl [H11]
    · iexists e11; isplitr
      · ipureintro; trivial
      · iexact H11
    isplitl [H12]
    · iexists e12; isplitr
      · ipureintro; trivial
      · iexact H12
    iexists e13; isplitr
    · ipureintro; trivial
    · iexact H13
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%d6, %f6, H6⟩, ⟨%d7, %f7, H7⟩, ⟨%d8, %f8, H8⟩, ⟨%d9, %f9, H9⟩, ⟨%d10, %f10, H10⟩, ⟨%d11, %f11, H11⟩, ⟨%d12, %f12, H12⟩, ⟨%d13, %f13, H13⟩⟩
    iapply ((runB (F := F) c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) d6 d7 d8 d9 d10 d11 d12 d13) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, ⟨%e6, %g6, H6⟩, ⟨%e7, %g7, H7⟩, ⟨%e8, %g8, H8⟩, ⟨%e9, %g9, H9⟩, ⟨%e10, %g10, H10⟩, ⟨%e11, %g11, H11⟩, ⟨%e12, %g12, H12⟩, ⟨%e13, %g13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists e6; isplitr
      · ipureintro; trivial
      · iexact H6
    isplitl [H7]
    · iexists e7; isplitr
      · ipureintro; trivial
      · iexact H7
    isplitl [H8]
    · iexists e8; isplitr
      · ipureintro; trivial
      · iexact H8
    isplitl [H9]
    · iexists e9; isplitr
      · ipureintro; trivial
      · iexact H9
    isplitl [H10]
    · iexists e10; isplitr
      · ipureintro; trivial
      · iexact H10
    isplitl [H11]
    · iexists e11; isplitr
      · ipureintro; trivial
      · iexact H11
    isplitl [H12]
    · iexists e12; isplitr
      · ipureintro; trivial
      · iexact H12
    iexists e13; isplitr
    · ipureintro; trivial
    · iexact H13

/-- The library's body obligation, at every point: the body's triple restated (Lib/Pipeline/FrameBody.lean `triple_restated`). -/
theorem bodyRuns (c : Dev nD) : Pipeline.BodyObligationRel (dats m 0 c) (defs₀ (F := F)) Variants.none () Set.univ forgets0 (anyRel c) := fun t => by
  rw [bigSep_W0, bigSep_W0, defs₀_row]
  exact triple_restated (body_runs m c t) rfl .rfl fun _ => .rfl

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  run_frame m ρ anyRel (bodyRuns m)

end Cert.KernelIdeal.Hand

end
-- ==== Proof.KFrame.lean ====
/-
  The frame of the kernel as it is printed: the program the idealized kernel is, operation for operation, so the frame
  proved of that one for any reading of the floats is its own.
-/
module

public import proofs.«01_k».proof.Defs
public import proofs.«01_k».proof.Proof.Gen.Kernel
public import proofs.«01_k».proof.Proof.FrameT
public import Idealize.ShloMosaic.Lib.Pipeline.Regions

@[expose] public section

noncomputable section

namespace Cert.Kernel.Hand

open Idealize.ShloMosaic Idealize.ShloMosaic.TcCoe

/-- The idealized kernel's frame at the bit patterns. -/
def idealFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem same : @Cert.quiescent_Kernel Cert.Kernel.Gen.facts = idealFrame := by
  chain_rfl

theorem frame : @Cert.quiescent_Kernel Cert.Kernel.Gen.facts :=
  same.mpr fun m ρ _ => Cert.KernelIdeal.Hand.frame (F := Bits) m ρ

end Cert.Kernel.Hand

end
-- ==== Proof.Expo.lean ====
/-
  The quantiser's exponent: counting the powers of two a number reaches is the floor of its binary logarithm.
-/
module

public import Idealize.ShloMosaic.Lib.Pointwise

@[expose] public section

set_option maxRecDepth 16384

noncomputable section

namespace Cert.Expo

open Idealize.ShloMosaic

/-! ## The kernel's and the reference's exponent of one number -/

/-- The power of two whose exponent field is `n`. -/
theorem ofBits_pow : ∀ n : ℕ, 1 ≤ n → n ≤ 254 →
    Ideal.ofBits .f32 (BitVec.ofNat 32 (n * 2 ^ 23)) = ((((2 : ℝ) ^ ((n : ℤ) - 127) : ℝ)) : EReal) := by
  intro n h1 h2
  have hb : ∀ n : Fin 255, ((BitVec.ofNat 32 (n.val * 2 ^ 23)).extractLsb' 31 1 == 1#1) = false ∧
      ((BitVec.ofNat 32 (n.val * 2 ^ 23)).extractLsb' 23 8).toNat = n.val ∧
      ((BitVec.ofNat 32 (n.val * 2 ^ 23)).extractLsb' 0 23).toNat = 0 := by decide +kernel
  obtain ⟨e1, e2, e3⟩ := hb ⟨n, by omega⟩
  simp only at e1 e2 e3
  show Ideal.ieee 8 23 _ = _
  unfold Ideal.ieee
  simp only [show 8 + 23 = 31 from rfl, e1, e2, e3]
  rw [if_neg (by omega), if_neg (by omega)]
  congr 1
  simp only [Bool.false_eq_true, if_false, one_mul, add_zero]
  rw [show ((n : ℤ) - 127) = ((n : ℤ) - (2 ^ (8 - 1) - 1) - (23 : ℕ)) + (23 : ℕ) by norm_num, zpow_add₀ (by norm_num : (2 : ℝ) ≠ 0)]
  rw [zpow_natCast, mul_comm]
  norm_num

/-- The reference's exponent of `y`: zero below the least normal number, else the floor of the logarithm plus one,
    at most 126. -/
def expo (y : EReal) : EReal :=
  if y < Ideal.ofBits .f32 8388608#32 then 0
  else min (Ideal.liftRound Int.floor (Ideal.div (Ideal.log y) (Ideal.log (Ideal.ofBits .f32 1073741824#32))) + 1) (Ideal.ofBits .f32 1123811328#32)

/-- The kernel's biased exponent of `y`: how many of the 252 normal powers of two it reaches. -/
def count (y : EReal) : BitVec 32 :=
  Finset.fold IntOp.addi (0#32) (fun x : Fin 252 => BitVec.setWidth 32 (BitVec.ofBool (decide
    (Ideal.ofBits .f32 (IntOp.shli ArithUnit.vector (IntOp.addi (BitVec.ofNat 32 x.val) 1#32) 23#32) ≤ y)))) Finset.univ

/-- The kernel's exponent of `y`. -/
def kexpo (y : EReal) : BitVec 32 :=
  Scalar.select (IntOp.cmpi CmpIPredicate.eq (count y) 0#32) (0#32) (IntOp.subi (count y) 126#32)

theorem ofBits_two : Ideal.ofBits .f32 1073741824#32 = ((2 : ℝ) : EReal) := by
  have := ofBits_pow 128 (by norm_num) (by norm_num)
  norm_num at this ⊢
  exact this

theorem ofBits_tiny : Ideal.ofBits .f32 8388608#32 = (((2 : ℝ) ^ (-126 : ℤ) : ℝ) : EReal) := by
  have := ofBits_pow 1 (by norm_num) (by norm_num)
  norm_num at this ⊢
  exact this

theorem ofBits_126 : Ideal.ofBits .f32 1123811328#32 = ((126 : ℝ) : EReal) := by
  simp [Ideal.ofBits, Ideal.ieee, -EReal.coe_mul]
  norm_num

/-- The power the count's `x`-th comparison is with. -/
theorem thr (x : Fin 252) : Ideal.ofBits .f32 (IntOp.shli ArithUnit.vector (IntOp.addi (BitVec.ofNat 32 x.val) 1#32) 23#32)
    = (((2 : ℝ) ^ ((x.val : ℤ) - 126) : ℝ) : EReal) := by
  have hb : ∀ x : Fin 252, IntOp.shli ArithUnit.vector (IntOp.addi (BitVec.ofNat 32 x.val) 1#32) 23#32 = BitVec.ofNat 32 ((x.val + 1) * 2 ^ 23) := by
    decide +kernel
  rw [hb, ofBits_pow _ (by omega) (by omega), show (((x.val + 1 : ℕ) : ℤ) - 127) = (x.val : ℤ) - 126 by push_cast; ring]

/-- A sum of ones and zeros in a word is the word of the count. -/
theorem fold_ofBool {n : ℕ} (p : Fin n → Bool) :
    Finset.fold IntOp.addi (0#32) (fun x => BitVec.setWidth 32 (BitVec.ofBool (p x))) Finset.univ
      = BitVec.ofNat 32 (Finset.univ.filter fun x => p x = true).card := by
  have : ∀ s : Finset (Fin n), Finset.fold IntOp.addi (0#32) (fun x => BitVec.setWidth 32 (BitVec.ofBool (p x))) s
      = BitVec.ofNat 32 (s.filter fun x => p x = true).card := by
    intro s
    induction s using Finset.induction_on with
    | empty => rfl
    | insert a s ha ih =>
      rw [Finset.fold_insert ha, ih, Finset.filter_insert]
      cases h : p a
      · simp [IntOp.addi]
      · rw [if_pos rfl, Finset.card_insert_of_notMem (by simp [ha])]
        simp only [IntOp.addi, BitVec.ofNat_add]
        rw [BitVec.add_comm]; rfl
  exact this _

/-- The count when `y` reaches exactly the first `N` powers. -/
theorem count_of {y : EReal} {N : ℕ} (hN : N ≤ 252) (h : ∀ x : Fin 252, (((2 : ℝ) ^ ((x.val : ℤ) - 126) : ℝ) : EReal) ≤ y ↔ x.val < N) :
    count y = BitVec.ofNat 32 N := by
  unfold count
  rw [fold_ofBool]
  congr 1
  have : (Finset.univ.filter fun x : Fin 252 => (decide (Ideal.ofBits .f32 (IntOp.shli ArithUnit.vector (IntOp.addi (BitVec.ofNat 32 x.val) 1#32) 23#32) ≤ y)) = true)
      = Finset.univ.filter fun x : Fin 252 => x.val < N := by
    ext x; simp only [Finset.mem_filter, Finset.mem_univ, true_and, decide_eq_true_eq, thr, h]
  rw [this, Fin.card_filter_val_lt]
  omega

/-- The two powers of the kernel's exponent at the count `N`. -/
theorem words (N : Fin 253) :
    IntOp.shli ArithUnit.vector (IntOp.subi 127#32 (Scalar.select (IntOp.cmpi CmpIPredicate.eq (BitVec.ofNat 32 N.val) 0#32) (0#32) (IntOp.subi (BitVec.ofNat 32 N.val) 126#32))) 23#32
      = BitVec.ofNat 32 ((if N.val = 0 then 127 else 253 - N.val) * 2 ^ 23) ∧
    IntOp.shli ArithUnit.vector (IntOp.addi 127#32 (Scalar.select (IntOp.cmpi CmpIPredicate.eq (BitVec.ofNat 32 N.val) 0#32) (0#32) (IntOp.subi (BitVec.ofNat 32 N.val) 126#32))) 23#32
      = BitVec.ofNat 32 ((if N.val = 0 then 127 else N.val + 1) * 2 ^ 23) := by
  revert N; decide +kernel

/-- The count and the exponent of a number at least zero. -/
theorem expo_count {y : EReal} (hy : 0 ≤ y) : ∃ N : Fin 253, count y = BitVec.ofNat 32 N.val ∧
    expo y = (((if N.val = 0 then 0 else (N.val : ℤ) - 126 : ℤ) : ℝ) : EReal) := by
  have hlog2 : 0 < Real.log 2 := Real.log_pos (by norm_num)
  have hl2 : Ideal.log ((2 : ℝ) : EReal) = ((Real.log 2 : ℝ) : EReal) := by
    show (if (2 : ℝ) ≤ 0 then ⊥ else ((Real.log 2 : ℝ) : EReal)) = _
    rw [if_neg (by norm_num)]
  unfold expo
  rw [ofBits_two, ofBits_tiny, ofBits_126, hl2]
  by_cases hlt : y < (((2 : ℝ) ^ (-126 : ℤ) : ℝ) : EReal)
  · refine ⟨0, count_of (by norm_num) fun x => ?_, ?_⟩
    · simp only [Fin.val_zero, Nat.not_lt_zero, iff_false, not_le]
      refine lt_of_lt_of_le hlt (EReal.coe_le_coe_iff.2 (zpow_le_zpow_right₀ (by norm_num) (by omega)))
    · rw [if_pos hlt]; simp
  · rw [if_neg hlt]
    induction y using EReal.rec with
    | bot => exact absurd hy (by simp)
    | top =>
      refine ⟨252, count_of (by norm_num) fun x => ?_, ?_⟩
      · simp
      · have : Ideal.div (Ideal.log ⊤) ((Real.log 2 : ℝ) : EReal) = ⊤ := by
          unfold Ideal.div
          rw [if_neg (by exact_mod_cast hlog2.ne')]
          show (⊤ : EReal) * _ = ⊤
          rw [← EReal.coe_inv]
          exact EReal.top_mul_coe_of_pos (by positivity)
        rw [this]
        show min ((⊤ : EReal) + 1) _ = _
        rw [show (⊤ : EReal) + 1 = ⊤ from rfl, min_eq_right le_top]
        norm_num
    | coe r =>
      have hr : (2 : ℝ) ^ (-126 : ℤ) ≤ r := by
        rw [EReal.coe_lt_coe_iff, not_lt] at hlt; exact hlt
      have hr0 : 0 < r := lt_of_lt_of_le (by positivity) hr
      set f : ℤ := ⌊Real.log r / Real.log 2⌋ with hf
      have key : ∀ k : ℤ, (2 : ℝ) ^ k ≤ r ↔ k ≤ f := by
        intro k
        rw [hf, Int.le_floor, le_div_iff₀ hlog2, ← Real.log_zpow, Real.log_le_log_iff (by positivity) hr0]
      have hf126 : -126 ≤ f := (key _).1 hr
      have e1 : Ideal.liftRound Int.floor (Ideal.div (Ideal.log (r : EReal)) ((Real.log 2 : ℝ) : EReal)) = ((f : ℝ) : EReal) := by
        have : Ideal.log (r : EReal) = ((Real.log r : ℝ) : EReal) := by
          show (if r ≤ 0 then ⊥ else ((Real.log r : ℝ) : EReal)) = _
          rw [if_neg (not_le.2 hr0)]
        rw [this]
        unfold Ideal.div
        rw [if_neg (by exact_mod_cast hlog2.ne'), ← EReal.coe_inv, ← EReal.coe_mul, ← div_eq_mul_inv]
        rfl
      rw [e1]
      refine ⟨⟨(min (f + 127) 252).toNat, by omega⟩, count_of (by omega) fun x => ?_, ?_⟩
      · rw [EReal.coe_le_coe_iff, key]
        have := x.isLt
        simp only
        omega
      · have hn : ((min (f + 127) 252).toNat : ℤ) = min (f + 127) 252 := Int.toNat_of_nonneg (by omega)
        simp only [hn]
        rw [if_neg (by omega)]
        rw [show ((f : ℝ) : EReal) + 1 = (((f : ℝ) + 1 : ℝ) : EReal) by push_cast; rfl, ← EReal.coe_strictMono.monotone.map_min]
        congr 1
        rw [show ((126 : ℝ)) = ((126 : ℤ) : ℝ) by norm_num, show (f : ℝ) + 1 = ((f + 1 : ℤ) : ℝ) by push_cast; rfl, ← Int.cast_min]
        congr 1
        omega

/-- The reciprocal scale: the kernel's word is two to minus the reference's exponent; -/
theorem inv_eq {y : EReal} (hy : 0 ≤ y) :
    Ideal.ofBits .f32 (IntOp.shli ArithUnit.vector (IntOp.subi 127#32 (kexpo y)) 23#32) = Ideal.exp2 (0 - expo y) := by
  obtain ⟨N, h1, h2⟩ := expo_count hy
  unfold kexpo
  rw [h1, (words N).1, h2, ofBits_pow _ (by split <;> omega) (by split <;> omega), zero_sub, ← EReal.coe_neg]
  show _ = ((Real.rpow 2 _ : ℝ) : EReal)
  congr 1
  rw [← Int.cast_neg]
  show _ = (2 : ℝ) ^ ((_ : ℤ) : ℝ)
  rw [Real.rpow_intCast]
  congr 1
  have := N.isLt
  split <;> push_cast <;> omega

/-- the scale. -/
theorem scale_eq {y : EReal} (hy : 0 ≤ y) :
    Ideal.ofBits .f32 (IntOp.shli ArithUnit.vector (IntOp.addi 127#32 (kexpo y)) 23#32) = Ideal.exp2 (expo y) := by
  obtain ⟨N, h1, h2⟩ := expo_count hy
  unfold kexpo
  rw [h1, (words N).2, h2, ofBits_pow _ (by split <;> omega) (by split <;> omega)]
  show _ = ((Real.rpow 2 _ : ℝ) : EReal)
  congr 1
  show _ = (2 : ℝ) ^ ((_ : ℤ) : ℝ)
  rw [Real.rpow_intCast]
  congr 1
  have := N.isLt
  split <;> push_cast <;> omega

end Cert.Expo

end
-- ==== Proof.Spec.lean ====
/-
  The mathematics both programs compute, written over plain functions: one row quantised to eight bits with a scale that
  is a power of two, one head's vector rotated and normalised, one query's attention.
-/
module

public import proofs.«01_k».proof.Proof.Expo

@[expose] public section

noncomputable section

namespace Cert.Spec

open Idealize.ShloMosaic

/-- The greatest absolute value of a row. -/
def amax {n : ℕ} (v : Fin n → EReal) : EReal :=
  (Finset.univ : Finset (Fin n)).fold max (Ideal.ofBits .f32 4286578688#32) (fun k => FloatOps.absf (F := Ideal) (φ := .f32) (v k))

/-- The row's scale exponent, from its greatest absolute value over the greatest code. -/
def rowExpo {n : ℕ} (v : Fin n → EReal) : EReal := Cert.Expo.expo (amax v * Ideal.ofBits .f32 991054117#32)

/-- The row's scale, a power of two; -/
def qscale {n : ℕ} (v : Fin n → EReal) : EReal := Ideal.exp2 (rowExpo v)

/-- an entry's code: the entry over the scale, clipped to the codes' range. -/
def quant {n : ℕ} (v : Fin n → EReal) (d : Fin n) : EReal :=
  min (Ideal.ofBits .f32 1138753536#32) (max (Ideal.ofBits .f32 3286237184#32) (v d * Ideal.exp2 (0 - rowExpo v)))

/-- The first half of a rotated vector, -/
def rlo (t : Fin 96 → EReal) (cs sn : Fin 48 → EReal) (k : Fin 48) : EReal :=
  t ⟨k.val, by omega⟩ * cs k - t ⟨48 + k.val, by omega⟩ * sn k

/-- and the second. -/
def rhi (t : Fin 96 → EReal) (cs sn : Fin 48 → EReal) (k : Fin 48) : EReal :=
  t ⟨48 + k.val, by omega⟩ * cs k + t ⟨k.val, by omega⟩ * sn k

/-- The rotated vector over its length, times the query/key scale. -/
def normed (g t : Fin 96 → EReal) (cs sn : Fin 48 → EReal) (r : Fin 96) : EReal :=
  g r * ((if h : r.val < 48 then rlo t cs sn ⟨r.val, h⟩ else rhi t cs sn ⟨r.val - 48, by omega⟩) *
    Ideal.rsqrt (∑ k, rlo t cs sn k * rlo t cs sn k + ∑ k, rhi t cs sn k * rhi t cs sn k + Ideal.ofBits .f32 730643660#32))

/-- One row of the projection: codes against codes, times both scales. -/
def proj {n : ℕ} (xc : Fin n → EReal) (xs : EReal) (w : Fin n → EReal) (ws : EReal) : EReal :=
  (∑ k, xc k * w k) * xs * ws

/-- The masked score of one query at position `t` against one key at position `s`. -/
def score (qc kc : Fin 96 → EReal) (qs ks : EReal) (s t : Fin 256) : EReal :=
  if s.val ≤ t.val then (∑ r, qc r * kc r) * (Ideal.ofBits .f32 1092404337#32 * qs) * ks else Ideal.ofBits .f32 4286578688#32

/-- The exponential of a score over the row's greatest, -/
def expd (sc : Fin 256 → EReal) (s : Fin 256) : EReal :=
  Ideal.exp (sc s - (Finset.univ : Finset (Fin 256)).fold max (Ideal.ofBits .f32 4286578688#32) sc)

/-- and the attention's weight. -/
def weight (sc : Fin 256 → EReal) (s : Fin 256) : EReal := Ideal.div (expd sc s) (∑ k, expd sc k)

theorem ninf : Ideal.ofBits .f32 4286578688#32 = ⊥ := by
  rw [Ideal.ofBits]; simp [Ideal.ieee]

theorem absf_nonneg (x : EReal) : 0 ≤ FloatOps.absf (F := Ideal) (φ := .f32) x := by
  show 0 ≤ max x (-x)
  rcases le_total 0 x with h | h
  · exact le_max_of_le_left h
  · exact le_max_of_le_right (by simpa using h)

theorem amax_nonneg {n : ℕ} [NeZero n] (v : Fin n → EReal) : 0 ≤ amax v := by
  unfold amax
  rw [Finset.le_fold_max]
  exact Or.inr ⟨0, Finset.mem_univ _, absf_nonneg _⟩

theorem inv448_nonneg : 0 ≤ Ideal.ofBits .f32 991054117#32 := by
  have : ∃ r : ℝ, 0 ≤ r ∧ Ideal.ofBits .f32 991054117#32 = (r : EReal) := by
    rw [Ideal.ofBits]
    simp [Ideal.ieee]
    exact ⟨_, by positivity, rfl⟩
  obtain ⟨r, h, e⟩ := this
  rw [e]; exact_mod_cast h

theorem arg_nonneg {n : ℕ} [NeZero n] (v : Fin n → EReal) : 0 ≤ amax v * Ideal.ofBits .f32 991054117#32 :=
  mul_nonneg (amax_nonneg v) inv448_nonneg

end Cert.Spec

end
-- ==== Proof.KRead.lean ====
/-
  The kernel's values read at an index, over the extended reals.
-/
module

public import proofs.«01_k».proof.Proof.Heads
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic
open Cert.Spec

/-! ## The quantiser -/

set_option maxHeartbeats 1000000 in
theorem xCodes_apply (x : Vec Ideal S1x2880x256 .bf16) (d : Fin 2880) (s : Fin 256) :
    xCodes (F := Ideal) x (ix3 (0 : Fin 1) d s) = quant (fun k => x (ix3 (0 : Fin 1) k s)) d := by
  unfold xCodes
  pointwise [k0_pay6, k0_pay5, k0_pay3, k0_pay2]
  exact congrArg (fun z => min _ (max _ (_ * z))) (Cert.Expo.inv_eq (arg_nonneg (fun k => x (ix3 (0 : Fin 1) k s))))

set_option maxHeartbeats 1000000 in
theorem xScales_apply (x : Vec Ideal S1x2880x256 .bf16) (s : Fin 256) :
    xScales (F := Ideal) x (ix3 (0 : Fin 1) (0 : Fin 1) s) = qscale (fun k => x (ix3 (0 : Fin 1) k s)) := by
  unfold xScales
  pointwise [k0_pay7, k0_pay4, k0_pay3, k0_pay2]
  exact Cert.Expo.scale_eq (arg_nonneg (fun k => x (ix3 (0 : Fin 1) k s)))

set_option maxHeartbeats 1000000 in
theorem pay59_apply (v : FVec Ideal S96x256 .f32) (r : Fin 96) (s : Fin 256) :
    k0_pay59 v (k0_pay54 (absf v)) (ix2 r s) = quant (fun k => v (ix2 k s)) r := by
  pointwise [k0_pay59, k0_pay54, k0_pay53]
  exact congrArg (fun z => min _ (max _ (_ * z))) (Cert.Expo.inv_eq (arg_nonneg (fun k => v (ix2 k s))))

set_option maxHeartbeats 1000000 in
theorem pay55_apply (v : FVec Ideal S96x256 .f32) (s : Fin 256) :
    k0_pay55 (absf v) (ix2 (0 : Fin 1) s) = qscale (fun k => v (ix2 k s)) := by
  pointwise [k0_pay55, k0_pay53]
  exact Cert.Expo.scale_eq (arg_nonneg (fun k => v (ix2 k s)))

set_option maxHeartbeats 1000000 in
theorem pay60_apply (v : FVec Ideal S96x256 .f32) (r : Fin 96) (s : Fin 256) :
    k0_pay60 (F := Ideal) v (k0_pay56 v) (ix2 r s) = quant (fun k => v (ix2 k s)) r := by
  pointwise [k0_pay60, k0_pay57, k0_pay56]
  exact congrArg (fun z => min _ (max _ (_ * z))) (Cert.Expo.inv_eq (arg_nonneg (fun k => v (ix2 k s))))

set_option maxHeartbeats 1000000 in
theorem pay58_apply (v : FVec Ideal S96x256 .f32) (s : Fin 256) :
    k0_pay58 (F := Ideal) (k0_pay56 v) (ix2 (0 : Fin 1) s) = qscale (fun k => v (ix2 k s)) := by
  pointwise [k0_pay58, k0_pay57, k0_pay56]
  exact Cert.Expo.scale_eq (arg_nonneg (fun k => v (ix2 k s)))

/-! ## The projection, the rotation and the normalisation -/

/-- The rotation and the normalisation, over any head vector. -/
def rotn (v4 v6 : FVec Ideal S48x256 .f32) (v12 v46 : FVec Ideal S96x256 .f32) : FVec Ideal S96x256 .f32 :=
  have v47 : FVec Ideal S48x256 .f32 := extractStridedSlice S48x256 ![0, 0] v46 slices_S96x256_o0_0_S48x256
  have v48 : FVec Ideal S48x256 .f32 := extractStridedSlice S48x256 ![48, 0] v46 slices_S96x256_o48_0_S48x256
  have v51 : FVec Ideal S48x256 .f32 := subf (mulf v47 v4) (mulf v48 v6)
  have v54 : FVec Ideal S48x256 .f32 := addf (mulf v48 v4) (mulf v47 v6)
  have v55 : FVec Ideal S96x256 .f32 := concatenate S96x256 0 [⟨S48x256, v51⟩, ⟨S48x256, v54⟩] concatenates_S48x256_S48x256_S96x256_d0
  have v57 : FVec Ideal S256 .f32 := multiReduction .add [0] S256 (mulf v55 v55) 0x00000000#32 reduces_S96x256_S256 (.inl rfl) rfl
  have v58 : FVec Ideal S1x256 .f32 := shapeCast S1x256 v57 shapeCasts_S256_S1x256
  have v59 : FVec Ideal S1x256 .f32 := broadcast S1x256 (Scalar.ofBits .f32 0x2B8CBCCC#32)
  have v61 : FVec Ideal S1x256 .f32 := rsqrt (addf v58 v59)
  have v62 : FVec Ideal S96x256 .f32 := broadcastTo S96x256 v61 broadcasts_S1x256_S96x256
  mulf v12 (mulf v55 v62)

set_option maxHeartbeats 1000000 in
theorem rotn_apply (v4 v6 : FVec Ideal S48x256 .f32) (v12 v46 : FVec Ideal S96x256 .f32) (r : Fin 96) (s : Fin 256) :
    rotn v4 v6 v12 v46 (ix2 r s) = normed (fun k => v12 (ix2 k s)) (fun k => v46 (ix2 k s)) (fun k => v4 (ix2 k s))
      (fun k => v6 (ix2 k s)) r := by
  pointwise [rotn]
  rfl

theorem pay48_apply (w : FVec Ideal S288x2880 .fp8e4m3) (xc : Vec Ideal S1x2880x256 .fp8e4m3) (xs : Vec Ideal S1x1x256 .f32)
    (r : Fin 288) (s : Fin 256) :
    k0_pay48 w xc xs (ix2 r s) = (∑ k, w (ix2 r k) * xc (ix3 (0 : Fin 1) k s)) * xs (ix3 (0 : Fin 1) (0 : Fin 1) s) := by
  pointwise [k0_pay48]

theorem pay47_apply (w : Vec Ideal S3x1x96x2880 .fp8e4m3) (r : Fin 288) (k : Fin 2880) :
    k0_pay47 w (ix2 r k) = w (ix4 (⟨r.val / 96, by omega⟩ : Fin 3) (0 : Fin 1) (⟨r.val % 96, by omega⟩ : Fin 96) k) := by
  pointwise [k0_pay47]

theorem pay44_apply (w : Vec Ideal S1x1x96 .f32) (r : Fin 96) (s : Fin 256) :
    k0_pay44 w (ix2 r s) = w (ix3 (0 : Fin 1) (0 : Fin 1) r) := by
  pointwise [k0_pay44]
  split <;> rfl
theorem pay45_apply (w : Vec Ideal S1x1x96 .f32) (r : Fin 96) (s : Fin 256) :
    k0_pay45 w (ix2 r s) = w (ix3 (0 : Fin 1) (0 : Fin 1) r) := by
  pointwise [k0_pay45]
  split <;> rfl
theorem pay46_apply (w : Vec Ideal S1x1x96 .f32) (r : Fin 96) (s : Fin 256) :
    k0_pay46 w (ix2 r s) = w (ix3 (0 : Fin 1) (0 : Fin 1) r) := by
  pointwise [k0_pay46]
  split <;> rfl
theorem pay43_apply (w : Vec Ideal S1x96 .f32) (r : Fin 96) (s : Fin 256) :
    k0_pay43 w (ix2 r s) = w (ix2 (0 : Fin 1) r) := by
  pointwise [k0_pay43]
  split <;> rfl
theorem pay41_apply (w : Vec Ideal S48x256 .f32) (r : Fin 48) (s : Fin 256) :
    k0_pay41 w (ix2 r s) = w (ix2 r s) := by
  pointwise [k0_pay41]
theorem pay42_apply (w : Vec Ideal S48x256 .f32) (r : Fin 48) (s : Fin 256) :
    k0_pay42 w (ix2 r s) = w (ix2 r s) := by
  pointwise [k0_pay42]

end Cert.KernelIdeal.Hand

end
-- ==== Proof.KRead2.lean ====
/-
  What one batch entry of one head computes, read at an index, over the extended reals.
-/
module

public import proofs.«01_k».proof.Proof.KRead

@[expose] public section

set_option maxRecDepth 16384

noncomputable section

namespace Cert.KernelIdeal.Hand

open Cert.KernelIdeal Cert.KernelIdeal.Gen
open Idealize.ShloMosaic
open Cert.Spec

variable (L : Shared Ideal) (xc : Vec Ideal S1x2880x256 .fp8e4m3) (xs : Vec Ideal S1x1x256 .f32)

/-- One row of the projection with the head's weights. -/
def pr (L : Shared Ideal) (xc : Vec Ideal S1x2880x256 .fp8e4m3) (xs : Vec Ideal S1x1x256 .f32) (p : Fin 3) (ws : Vec Ideal S1x1x96 .f32)
    (s : Fin 256) (r : Fin 96) : EReal :=
  proj (fun j => xc (ix3 (0 : Fin 1) j s)) (xs (ix3 (0 : Fin 1) (0 : Fin 1) s)) (fun j => L.w (ix4 p (0 : Fin 1) r j)) (ws (ix3 (0 : Fin 1) (0 : Fin 1) r))

theorem rows_apply (p : Fin 3) (r : Fin 96) (s : Fin 256) (q : Fin 288) (hq : q.val = 96 * p.val + r.val) (ws : EReal) :
    k0_pay48 (k0_pay47 L.w) xc xs (ix2 q s) * ws
      = proj (fun j => xc (ix3 (0 : Fin 1) j s)) (xs (ix3 (0 : Fin 1) (0 : Fin 1) s)) (fun j => L.w (ix4 p (0 : Fin 1) r j)) ws := by
  have h1 : (⟨q.val / 96, by omega⟩ : Fin 3) = p := by apply Fin.ext; show q.val / 96 = p.val; omega
  have h2 : (⟨q.val % 96, by omega⟩ : Fin 96) = r := by apply Fin.ext; show q.val % 96 = r.val; omega
  rw [pay48_apply]
  unfold proj
  congr 2
  refine Finset.sum_congr rfl fun j _ => ?_
  rw [pay47_apply, h1, h2]
  exact mul_comm _ _

theorem slice0_apply (z : FVec Ideal S288x256 .f32) (g : FVec Ideal S96x256 .f32) (r : Fin 96) (s : Fin 256) :
    mulf (extractStridedSlice S96x256 ![0, 0] z slices_S288x256_o0_0_S96x256) g (ix2 r s) = z (ix2 (⟨r.val, by omega⟩ : Fin 288) s) * g (ix2 r s) := by
  pointwise []
theorem slice1_apply (z : FVec Ideal S288x256 .f32) (g : FVec Ideal S96x256 .f32) (r : Fin 96) (s : Fin 256) :
    mulf (extractStridedSlice S96x256 ![96, 0] z slices_S288x256_o96_0_S96x256) g (ix2 r s) = z (ix2 (⟨96 + r.val, by omega⟩ : Fin 288) s) * g (ix2 r s) := by
  pointwise []
theorem slice2_apply (z : FVec Ideal S288x256 .f32) (g : FVec Ideal S96x256 .f32) (r : Fin 96) (s : Fin 256) :
    mulf (extractStridedSlice S96x256 ![192, 0] z slices_S288x256_o192_0_S96x256) g (ix2 r s) = z (ix2 (⟨192 + r.val, by omega⟩ : Fin 288) s) * g (ix2 r s) := by
  pointwise []

theorem qn_eq : qn L xc xs = rotn (k0_pay41 L.cos) (k0_pay42 L.sin) (k0_pay43 L.sqk)
    (mulf (extractStridedSlice S96x256 ![0, 0] (k0_pay48 (k0_pay47 L.w) xc xs) slices_S288x256_o0_0_S96x256) (k0_pay44 L.wsq)) := rfl
theorem kn_eq : kn L xc xs = rotn (k0_pay41 L.cos) (k0_pay42 L.sin) (k0_pay43 L.sqk)
    (mulf (extractStridedSlice S96x256 ![96, 0] (k0_pay48 (k0_pay47 L.w) xc xs) slices_S288x256_o96_0_S96x256) (k0_pay45 L.wsk)) := rfl

theorem qn_apply (r : Fin 96) (s : Fin 256) :
    qn L xc xs (ix2 r s) = normed (fun k => L.sqk (ix2 (0 : Fin 1) k)) (pr L xc xs 0 L.wsq s) (fun k => L.cos (ix2 k s)) (fun k => L.sin (ix2 k s)) r := by
  rw [qn_eq, rotn_apply]
  simp only [pay41_apply, pay42_apply, pay43_apply, slice0_apply, pay44_apply]
  congr 1
  funext k
  exact rows_apply L xc xs 0 k s _ (by simp) _

theorem kn_apply (r : Fin 96) (s : Fin 256) :
    kn L xc xs (ix2 r s) = normed (fun k => L.sqk (ix2 (0 : Fin 1) k)) (pr L xc xs 1 L.wsk s) (fun k => L.cos (ix2 k s)) (fun k => L.sin (ix2 k s)) r := by
  rw [kn_eq, rotn_apply]
  simp only [pay41_apply, pay42_apply, pay43_apply, slice1_apply, pay45_apply]
  congr 1
  funext k
  exact rows_apply L xc xs 1 k s _ (by simp) _

theorem vn_apply (r : Fin 96) (s : Fin 256) : vn L xc xs (ix2 r s) = pr L xc xs 2 L.wsv s r := by
  show mulf (extractStridedSlice S96x256 ![192, 0] (k0_pay48 (k0_pay47 L.w) xc xs) slices_S288x256_o192_0_S96x256) (k0_pay46 L.wsv) (ix2 r s) = _
  rw [slice2_apply, pay46_apply]
  exact rows_apply L xc xs 2 r s _ (by simp) _

/-! ## The codes and the scales -/

theorem qCodes_apply (r : Fin 96) (s : Fin 256) : qCodes L xc xs (ix2 r s) = quant (fun k => qn L xc xs (ix2 k s)) r := pay59_apply _ r s
theorem qScales_apply (s : Fin 256) : qScales L xc xs (ix2 (0 : Fin 1) s) = qscale (fun k => qn L xc xs (ix2 k s)) := pay55_apply _ s
theorem kCodes_apply (r : Fin 96) (s : Fin 256) : kCodes L xc xs (ix2 r s) = quant (fun k => kn L xc xs (ix2 k s)) r := pay60_apply _ r s
theorem kScales_apply (s : Fin 256) : kScales L xc xs (ix2 (0 : Fin 1) s) = qscale (fun k => kn L xc xs (ix2 k s)) := pay58_apply _ s

theorem unit4_apply {φ : FTy} (v : FVec Ideal S96x256 φ) (r : Fin 96) (s : Fin 256) :
    shapeCast S1x1x96x256 v shapeCasts_S96x256_S1x1x96x256 (ix4 (0 : Fin 1) (0 : Fin 1) r s) = v (ix2 r s) := by
  pointwise []

theorem unit3_apply (v : FVec Ideal S1x256 .f32) (s : Fin 256) :
    shapeCast S1x1x256 v shapeCasts_S1x256_S1x1x256 (ix3 (0 : Fin 1) (0 : Fin 1) s) = v (ix2 (0 : Fin 1) s) := by
  pointwise []

theorem qCodes4_apply (r : Fin 96) (s : Fin 256) : qCodes4 L xc xs (ix4 (0 : Fin 1) (0 : Fin 1) r s) = quant (fun k => qn L xc xs (ix2 k s)) r :=
  (unit4_apply (qCodes L xc xs) r s).trans (qCodes_apply L xc xs r s)
theorem kCodes4_apply (r : Fin 96) (s : Fin 256) : kCodes4 L xc xs (ix4 (0 : Fin 1) (0 : Fin 1) r s) = quant (fun k => kn L xc xs (ix2 k s)) r :=
  (unit4_apply (kCodes L xc xs) r s).trans (kCodes_apply L xc xs r s)
theorem qScales3_apply (s : Fin 256) : qScales3 L xc xs (ix3 (0 : Fin 1) (0 : Fin 1) s) = qscale (fun k => qn L xc xs (ix2 k s)) :=
  (unit3_apply (qScales L xc xs) s).trans (qScales_apply L xc xs s)
theorem kScales3_apply (s : Fin 256) : kScales3 L xc xs (ix3 (0 : Fin 1) (0 : Fin 1) s) = qscale (fun k => kn L xc xs (ix2 k s)) :=
  (unit3_apply (kScales L xc xs) s).trans (kScales_apply L xc xs s)

end Cert.KernelIdeal.Hand

end
-- ==== Proof.KAttn.lean ====
/-
  The kernel's attention over any codes, scales and values, read at an index, over the extended reals.
-/
module

public import proofs.«01_k».proof.Proof.Heads
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic
open Cert.Spec

/-- The products of queries and keys. -/
def dots (q k : FVec Ideal S96x256 .fp8e4m3) : FVec Ideal S256x256 .f32 :=
  matmul dot_S96x256_S96x256_S256x256_0_0_1_1_n_n none k q (constant S256x256 .f32 0x00000000#32)

theorem dots_apply (q k : FVec Ideal S96x256 .fp8e4m3) (u s : Fin 256) : dots q k (ix2 u s) = ∑ r, k (ix2 r u) * q (ix2 r s) := by
  pointwise [dots]

/-- The same under both scales. -/
def scaled (d : FVec Ideal S256x256 .f32) (qs ks : FVec Ideal S1x256 .f32) : FVec Ideal S256x256 .f32 :=
  have v182 : FVec Ideal S1x256 .f32 := mulf (broadcast S1x256 (Scalar.ofBits .f32 0x411CC471#32)) qs
  have v184 : FVec Ideal S256x256 .f32 := mulf d (broadcastTo S256x256 v182 broadcasts_S1x256_S256x256)
  have v185 : FVec Ideal S1x256 .f32 := shapeCast S1x256 ks shapeCasts_S1x256_S1x256
  have v186 : FVec Ideal S128x256 .f32 := broadcastTo S128x256 v185 broadcasts_S1x256_S128x256
  have v187 : FVec Ideal S256x128 .f32 := transpose S256x128 [1, 0] v186 transposes_S128x256_p1_0_S256x128
  mulf v184 (concatenate S256x256 1 [⟨S256x128, v187⟩, ⟨S256x128, v187⟩] concatenates_S256x128_S256x128_S256x256_d1)

theorem scaled_apply (d : FVec Ideal S256x256 .f32) (qs ks : FVec Ideal S1x256 .f32) (u s : Fin 256) :
    scaled d qs ks (ix2 u s) = d (ix2 u s) * (Ideal.ofBits .f32 1092404337#32 * qs (ix2 (0 : Fin 1) s)) * ks (ix2 (0 : Fin 1) u) := by
  pointwise [scaled]
  split <;> rfl

/-- Later keys masked. -/
def masked (v189 : FVec Ideal S256x256 .f32) : FVec Ideal S256x256 .f32 :=
  select (cmpi .sge queryPos keyPos) v189 (broadcast S256x256 (Scalar.ofBits (F := Ideal) .f32 0xFF800000#32))

theorem pos_sge (u s : Fin 256) : (cmpi .sge queryPos keyPos) (ix2 u s) = if u.val ≤ s.val then 1 else 0 := by
  have e1 : queryPos (ix2 u s) = BitVec.ofNat 32 s.val := by pointwise [queryPos]
  have e2 : keyPos (ix2 u s) = BitVec.ofNat 32 u.val := by pointwise [keyPos]
  show BitVec.ofBool (BitVec.sle (keyPos (ix2 u s)) (queryPos (ix2 u s))) = _
  rw [e1, e2]
  have hu := u.isLt
  have hs := s.isLt
  have : (BitVec.sle (BitVec.ofNat 32 u.val) (BitVec.ofNat 32 s.val)) = decide (u.val ≤ s.val) := by
    rw [BitVec.sle_eq_decide]
    congr 1
    rw [BitVec.toInt_eq_toNat_of_lt (by simp [BitVec.toNat_ofNat]; omega), BitVec.toInt_eq_toNat_of_lt (by simp [BitVec.toNat_ofNat]; omega)]
    simp only [BitVec.toNat_ofNat]
    rw [Nat.mod_eq_of_lt (by omega), Nat.mod_eq_of_lt (by omega)]
    simp
  rw [this]
  by_cases h : u.val ≤ s.val <;> simp [h]

theorem masked_apply (v : FVec Ideal S256x256 .f32) (u s : Fin 256) :
    masked v (ix2 u s) = if u.val ≤ s.val then v (ix2 u s) else Ideal.ofBits .f32 4286578688#32 := by
  show Scalar.select ((cmpi .sge queryPos keyPos) (ix2 u s)) (v (ix2 u s)) (Ideal.ofBits .f32 4286578688#32) = _
  rw [pos_sge]
  by_cases h : u.val ≤ s.val <;> simp [h, Scalar.select]

/-- A row's exponentials over its greatest entry's, -/
def expds (v192 : FVec Ideal S256x256 .f32) : FVec Ideal S256x256 .f32 :=
  have v193 : FVec Ideal S256 .f32 := multiReduction .maximumf [0] S256 v192 0xFF800000#32 reduces_S256x256_S256 (.inl rfl) rfl
  have v194 : FVec Ideal S1x256 .f32 := shapeCast S1x256 v193 shapeCasts_S256_S1x256
  exp (subf v192 (broadcastTo S256x256 v194 broadcasts_S1x256_S256x256))

theorem expds_apply (v : FVec Ideal S256x256 .f32) (u s : Fin 256) : expds v (ix2 u s) = expd (fun u => v (ix2 u s)) u := by
  have h : expd (fun u => v (ix2 u s)) u = Ideal.exp (v (ix2 u s) - (Finset.univ : Finset (Fin 256)).fold max (Ideal.ofBits .f32 4286578688#32) (fun u => v (ix2 u s))) := rfl
  generalize expd (fun u => v (ix2 u s)) u = R at h ⊢
  pointwise [expds]
  exact h.symm

/-- over their sum. -/
def weights (v197 : FVec Ideal S256x256 .f32) : FVec Ideal S256x256 .bf16 :=
  have v198 : FVec Ideal S256 .f32 := multiReduction .add [0] S256 v197 0x00000000#32 reduces_S256x256_S256 (.inl rfl) rfl
  have v199 : FVec Ideal S1x256 .f32 := shapeCast S1x256 v198 shapeCasts_S256_S1x256
  truncf .bf16 (divf v197 (broadcastTo S256x256 v199 broadcasts_S1x256_S256x256)) bitsLt_bf16_f32

theorem weights_apply (v : FVec Ideal S256x256 .f32) (u s : Fin 256) : weights v (ix2 u s) = Ideal.div (v (ix2 u s)) (∑ k, v (ix2 k s)) := by
  pointwise [weights]

/-- The weighted sum of the values. -/
def mixed (v : FVec Ideal S96x256 .bf16) (w : FVec Ideal S256x256 .bf16) : FVec Ideal S96x256 .f32 :=
  matmul dot_S96x256_S256x256_S96x256_1_0_0_1_n_n none v w (constant S96x256 .f32 0x00000000#32)

theorem mixed_apply (v : FVec Ideal S96x256 .bf16) (w : FVec Ideal S256x256 .bf16) (r : Fin 96) (s : Fin 256) :
    mixed v w (ix2 r s) = ∑ u, v (ix2 r u) * w (ix2 u s) := by
  pointwise [mixed]

theorem pay65_eq (v : FVec Ideal S96x256 .bf16) (qs ks : FVec Ideal S1x256 .f32) (q k : FVec Ideal S96x256 .fp8e4m3) :
    k0_pay65 keyPos queryPos v qs ks q k = mixed v (weights (expds (masked (scaled (dots q k) qs ks)))) := rfl

theorem pay65_apply (v : FVec Ideal S96x256 .bf16) (qs ks : FVec Ideal S1x256 .f32) (q k : FVec Ideal S96x256 .fp8e4m3) (r : Fin 96) (s : Fin 256) :
    k0_pay65 keyPos queryPos v qs ks q k (ix2 r s)
      = ∑ u, weight (fun u => score (fun r => q (ix2 r s)) (fun r => k (ix2 r u)) (qs (ix2 (0 : Fin 1) s)) (ks (ix2 (0 : Fin 1) u)) u s) u * v (ix2 r u) := by
  have e : ∀ u, masked (scaled (dots q k) qs ks) (ix2 u s)
      = score (fun r => q (ix2 r s)) (fun r => k (ix2 r u)) (qs (ix2 (0 : Fin 1) s)) (ks (ix2 (0 : Fin 1) u)) u s := by
    intro u
    rw [masked_apply, scaled_apply, dots_apply]
    unfold score
    simp only [mul_comm (k (ix2 _ u))]
  rw [pay65_eq, mixed_apply]
  refine Finset.sum_congr rfl fun u _ => ?_
  rw [weights_apply]
  simp only [expds_apply, e]
  exact mul_comm _ _

/-! ## The running maximum -/

theorem pay69_apply (p : FVec Ideal S1x256 .f32) (z : FVec Ideal S256 .f32) (s : Fin 256) :
    k0_pay69 p z (ix3 (0 : Fin 1) (0 : Fin 1) s) = max (p (ix2 (0 : Fin 1) s)) (z (ix1 s)) := by
  pointwise [k0_pay69]

theorem pay67_apply (p : Vec Ideal S1x1x256 .f32) (s : Fin 256) :
    k0_pay67 p (ix2 (0 : Fin 1) s) = p (ix3 (0 : Fin 1) (0 : Fin 1) s) := by
  pointwise [k0_pay67]

theorem headMax_apply (o : FVec Ideal S96x256 .f32) (s : Fin 256) :
    multiReduction .maximumf [0] S256 (absf o) 0xFF800000#32 reduces_S96x256_S256 (.inl rfl) rfl (ix1 s) = amax (fun r => o (ix2 r s)) := by
  have h : amax (fun r => o (ix2 r s)) = Finset.fold max (Ideal.ofBits .f32 4286578688#32) (fun k => FloatOps.absf (F := Ideal) (φ := .f32) (o (ix2 k s))) Finset.univ := rfl
  generalize amax (fun r => o (ix2 r s)) = R at h ⊢
  pointwise []
  exact h.symm

theorem pay68_apply (v : FVec Ideal S96x256 .bf16) (qs ks : FVec Ideal S1x256 .f32) (q k : FVec Ideal S96x256 .fp8e4m3) (s : Fin 256) :
    k0_pay68 keyPos queryPos v qs ks q k (ix1 s) = amax (fun r => k0_pay65 keyPos queryPos v qs ks q k (ix2 r s)) := by
  unfold k0_pay68
  exact headMax_apply _ s

end Cert.KernelIdeal.Hand

end
-- ==== Proof.Whole.lean ====
/-
  The attention's values as functions of the whole inputs, over the extended reals.
-/
module

public import proofs.«01_k».proof.Proof.Spec

@[expose] public section

noncomputable section

namespace Cert.Spec

open Idealize.ShloMosaic

/-- The inputs: `x b s d`, the three weights `w p h r d` with their scales `ws p h r`, the query/key scale `sqk h r`, the
    rotary tables `cs s k` and `sn s k`. -/
structure Inputs where
  x : Fin 6 → Fin 256 → Fin 2880 → EReal
  w : Fin 3 → Fin 30 → Fin 96 → Fin 2880 → EReal
  ws : Fin 3 → Fin 30 → Fin 96 → EReal
  sqk : Fin 30 → Fin 96 → EReal
  cs : Fin 256 → Fin 48 → EReal
  sn : Fin 256 → Fin 48 → EReal

variable (I : Inputs)

/-- One entry of a projection: of the quantised row, times both scales. -/
def pj (p : Fin 3) (h : Fin 30) (b : Fin 6) (s : Fin 256) (r : Fin 96) : EReal :=
  proj (quant (I.x b s)) (qscale (I.x b s)) (I.w p h r) (I.ws p h r)

/-- The rotated, normalised query of head `h` at position `s`; -/
def qv (h : Fin 30) (b : Fin 6) (s : Fin 256) : Fin 96 → EReal := normed (I.sqk h) (pj I 0 h b s) (I.cs s) (I.sn s)

/-- the key. -/
def kv (h : Fin 30) (b : Fin 6) (s : Fin 256) : Fin 96 → EReal := normed (I.sqk h) (pj I 1 h b s) (I.cs s) (I.sn s)

/-- The masked scores of the query at `s` against every key. -/
def scores (h : Fin 30) (b : Fin 6) (s u : Fin 256) : EReal :=
  score (quant (qv I h b s)) (quant (kv I h b u)) (qscale (qv I h b s)) (qscale (kv I h b u)) u s

/-- The attention's output. -/
def ov (h : Fin 30) (b : Fin 6) (s : Fin 256) (r : Fin 96) : EReal := ∑ u, weight (scores I h b s) u * pj I 2 h b u r

/-- Its greatest absolute value over one head. -/
def mx (h : Fin 30) (b : Fin 6) (s : Fin 256) : EReal := amax (ov I h b s)

end Cert.Spec

end
-- ==== Proof.KWhole.lean ====
/-
  One batch entry of one head, as functions of the whole inputs.
-/
module

public import proofs.«01_k».proof.Proof.KRead2
public import proofs.«01_k».proof.Proof.KAttn
public import proofs.«01_k».proof.Proof.Whole

@[expose] public section

set_option maxRecDepth 16384

noncomputable section

namespace Cert.KernelIdeal.Hand

open Cert.KernelIdeal Cert.KernelIdeal.Gen
open Idealize.ShloMosaic
open Cert.Spec

/-- The shared operands are head `h`'s. -/
structure OfHead (I : Inputs) (h : Fin 30) (L : Shared Ideal) : Prop where
  cos : ∀ (k : Fin 48) (s : Fin 256), L.cos (ix2 k s) = I.cs s k
  sin : ∀ (k : Fin 48) (s : Fin 256), L.sin (ix2 k s) = I.sn s k
  sqk : ∀ r : Fin 96, L.sqk (ix2 (0 : Fin 1) r) = I.sqk h r
  wsq : ∀ r : Fin 96, L.wsq (ix3 (0 : Fin 1) (0 : Fin 1) r) = I.ws 0 h r
  wsk : ∀ r : Fin 96, L.wsk (ix3 (0 : Fin 1) (0 : Fin 1) r) = I.ws 1 h r
  wsv : ∀ r : Fin 96, L.wsv (ix3 (0 : Fin 1) (0 : Fin 1) r) = I.ws 2 h r
  w : ∀ (p : Fin 3) (r : Fin 96) (d : Fin 2880), L.w (ix4 p (0 : Fin 1) r d) = I.w p h r d

/-- The codes and the scales are batch entry `b`'s. -/
structure OfEntry (I : Inputs) (b : Fin 6) (xc : Vec Ideal S1x2880x256 .fp8e4m3) (xs : Vec Ideal S1x1x256 .f32) : Prop where
  xc : ∀ (d : Fin 2880) (s : Fin 256), xc (ix3 (0 : Fin 1) d s) = quant (I.x b s) d
  xs : ∀ s : Fin 256, xs (ix3 (0 : Fin 1) (0 : Fin 1) s) = qscale (I.x b s)

variable {I : Inputs} {h : Fin 30} {b : Fin 6} {L : Shared Ideal} {xc : Vec Ideal S1x2880x256 .fp8e4m3} {xs : Vec Ideal S1x1x256 .f32}
  (hL : OfHead I h L) (hX : OfEntry I b xc xs)

include hL hX

theorem pr_eq (p : Fin 3) (ws : Vec Ideal S1x1x96 .f32) (hw : ∀ r : Fin 96, ws (ix3 (0 : Fin 1) (0 : Fin 1) r) = I.ws p h r) (s : Fin 256) :
    pr L xc xs p ws s = pj I p h b s := by
  funext r
  unfold pr pj
  simp only [hX.xc, hX.xs, hL.w, hw]

theorem qn_whole (s : Fin 256) : (fun r => qn L xc xs (ix2 r s)) = qv I h b s := by
  funext r
  rw [qn_apply, pr_eq hL hX 0 _ hL.wsq]
  simp only [hL.sqk, hL.cos, hL.sin]
  rfl

theorem kn_whole (s : Fin 256) : (fun r => kn L xc xs (ix2 r s)) = kv I h b s := by
  funext r
  rw [kn_apply, pr_eq hL hX 1 _ hL.wsk]
  simp only [hL.sqk, hL.cos, hL.sin]
  rfl

theorem qCodes4_whole (r : Fin 96) (s : Fin 256) : qCodes4 L xc xs (ix4 (0 : Fin 1) (0 : Fin 1) r s) = quant (qv I h b s) r := by
  rw [qCodes4_apply, qn_whole hL hX]
theorem kCodes4_whole (r : Fin 96) (s : Fin 256) : kCodes4 L xc xs (ix4 (0 : Fin 1) (0 : Fin 1) r s) = quant (kv I h b s) r := by
  rw [kCodes4_apply, kn_whole hL hX]
theorem qScales3_whole (s : Fin 256) : qScales3 L xc xs (ix3 (0 : Fin 1) (0 : Fin 1) s) = qscale (qv I h b s) := by
  rw [qScales3_apply, qn_whole hL hX]
theorem kScales3_whole (s : Fin 256) : kScales3 L xc xs (ix3 (0 : Fin 1) (0 : Fin 1) s) = qscale (kv I h b s) := by
  rw [kScales3_apply, kn_whole hL hX]

theorem attn_whole (r : Fin 96) (s : Fin 256) : attn L xc xs (ix2 r s) = ov I h b s r := by
  unfold attn
  rw [pay65_apply]
  simp only [vn_apply, pr_eq hL hX 2 _ hL.wsv, qCodes_apply, kCodes_apply, qScales_apply, kScales_apply, qn_whole hL hX, kn_whole hL hX]
  rfl

theorem attn4_whole (r : Fin 96) (s : Fin 256) : attn4 L xc xs (ix4 (0 : Fin 1) (0 : Fin 1) r s) = ov I h b s r :=
  (unit4_apply (attn L xc xs) r s).trans (attn_whole hL hX r s)

theorem runMax_whole (prev : Vec Ideal S1x1x256 .f32) (s : Fin 256) :
    runMax L xc xs prev (ix3 (0 : Fin 1) (0 : Fin 1) s) = max (prev (ix3 (0 : Fin 1) (0 : Fin 1) s)) (mx I h b s) := by
  unfold runMax
  rw [pay69_apply, pay67_apply, pay68_apply]
  have e : ∀ r, k0_pay65 keyPos queryPos (vn L xc xs) (qScales L xc xs) (kScales L xc xs) (qCodes L xc xs) (kCodes L xc xs) (ix2 r s) = ov I h b s r :=
    fun r => attn_whole hL hX r s
  simp only [e]
  rfl

end Cert.KernelIdeal.Hand

end
-- ==== Proof.KVal.lean ====
/-
  What one grid point leaves in the output buffers, as functions of the whole inputs.
-/
module

public import proofs.«01_k».proof.Proof.KWhole
public import proofs.«01_k».proof.Proof.Lists

@[expose] public section

set_option maxRecDepth 16384

noncomputable section

namespace Cert.KernelIdeal.Hand

open Cert.KernelIdeal Cert.KernelIdeal.Gen
open Idealize.ShloMosaic
open Cert.Spec

/-! ## What the output buffers hold after head `h` -/

/-- The input's codes. -/
def R6 (I : Inputs) (X : S6x2880x256.Idx → Elt Ideal .fp8e4m3) : Prop :=
  ∀ (b : Fin 6) (d : Fin 2880) (s : Fin 256), X (ix3 b d s) = quant (I.x b s) d

/-- The input's scales. -/
def R7 (I : Inputs) (X : S6x1x256.Idx → Elt Ideal .f32) : Prop :=
  ∀ (b : Fin 6) (s : Fin 256), X (ix3 b (0 : Fin 1) s) = qscale (I.x b s)

/-- The codes of head `h`'s query or key `v`. -/
def R8 (v : Fin 30 → Fin 6 → Fin 256 → Fin 96 → EReal) (h : Fin 30) (X : S6x1x96x256.Idx → Elt Ideal .fp8e4m3) : Prop :=
  ∀ (b : Fin 6) (r : Fin 96) (s : Fin 256), X (ix4 b (0 : Fin 1) r s) = quant (v h b s) r

/-- The scales of the queries or keys `v` of the heads up to `h`. -/
def R9 (v : Fin 30 → Fin 6 → Fin 256 → Fin 96 → EReal) (h : Fin 30) (X : S6x30x256.Idx → Elt Ideal .f32) : Prop :=
  ∀ (b : Fin 6) (g : Fin 30) (s : Fin 256), g.val ≤ h.val → X (ix3 b g s) = qscale (v g b s)

/-- Head `h`'s attention output. -/
def R12 (I : Inputs) (h : Fin 30) (X : S6x1x96x256.Idx → Elt Ideal .f32) : Prop :=
  ∀ (b : Fin 6) (r : Fin 96) (s : Fin 256), X (ix4 b (0 : Fin 1) r s) = ov I h b s r

/-- The greatest absolute value over the heads up to `h`, by its upper bounds. -/
def R13 (I : Inputs) (h : Fin 30) (X : S6x1x256.Idx → Elt Ideal .f32) : Prop :=
  ∀ (b : Fin 6) (s : Fin 256) (z : EReal),
    (X (ix3 b (0 : Fin 1) s) : EReal) ≤ z ↔ (0 ≤ z ∧ ∀ g : Fin 30, g.val ≤ h.val → mx I g b s ≤ z)

/-! ## Reading the blocks -/

theorem ldX_apply {e : EltTy} (x : S6x2880x256.Idx → Elt Ideal e) (b : Fin 6) (d : Fin 2880) (s : Fin 256) :
    View.ld (Val := Elt Ideal) (e' := e) x (rX b) (ix3 (0 : Fin 1) d s) = x (ix3 b d s) := by
  show x ((rX b).emb _) = _
  refine congrArg x (funext fun a => ?_)
  fin_cases a <;> apply Fin.ext <;>
    refine (ValueKit.rect_emb_unit_val (s := S6x2880x256) ![b.val, 0, 0] S1x2880x256.size (inbX b) _ _).trans ?_ <;> simp [ix3]

theorem ldS_apply {e : EltTy} (x : S6x1x256.Idx → Elt Ideal e) (b : Fin 6) (s : Fin 256) :
    View.ld (Val := Elt Ideal) (e' := e) x (rS b) (ix3 (0 : Fin 1) (0 : Fin 1) s) = x (ix3 b (0 : Fin 1) s) := by
  show x ((rS b).emb _) = _
  refine congrArg x (funext fun a => ?_)
  fin_cases a <;> apply Fin.ext <;>
    refine (ValueKit.rect_emb_unit_val (s := S6x1x256) ![b.val, 0, 0] S1x1x256.size (inb3 b) _ _).trans ?_ <;> simp [ix3]

/-- The offsets of a head's rows. -/
theorem off1_eq (i : grid0.Coords) : k0_off1 i = ![(i 0).val, 0] := by
  have hi : (i 0).val < 30 := (i 0).isLt
  have e : (i 0).val % 4294967296 = (i 0).val := by omega
  funext a; fin_cases a <;> simp [k0_off1, Scalar.indexCast, e]
theorem off2_eq (i : grid0.Coords) : k0_off2 i = ![0, (i 0).val, 0] := by
  have hi : (i 0).val < 30 := (i 0).isLt
  have e : (i 0).val % 4294967296 = (i 0).val := by omega
  funext a; fin_cases a <;> simp [k0_off2, Scalar.indexCast, e]
theorem off3_eq (i : grid0.Coords) : k0_off3 i = ![1, (i 0).val, 0] := by
  have hi : (i 0).val < 30 := (i 0).isLt
  have e : (i 0).val % 4294967296 = (i 0).val := by omega
  funext a; fin_cases a <;> simp [k0_off3, Scalar.indexCast, e]
theorem off4_eq (i : grid0.Coords) : k0_off4 i = ![2, (i 0).val, 0] := by
  have hi : (i 0).val < 30 := (i 0).isLt
  have e : (i 0).val % 4294967296 = (i 0).val := by omega
  funext a; fin_cases a <;> simp [k0_off4, Scalar.indexCast, e]

/-- The shared operands read of the blocks are head `h`'s. -/
theorem ofHead {I : Inputs} {h : Fin 30} (i : grid0.Coords) (hi : (i 0).val = h.val)
    (x1 : Vec Ideal S3x1x96x2880 .fp8e4m3) (x2 : Vec Ideal S3x30x96 .f32) (x3 : Vec Ideal S30x96 .f32) (x4 x5 : Vec Ideal S48x256 .f32)
    (h1 : ∀ (p : Fin 3) (r : Fin 96) (d : Fin 2880), x1 (ix4 p (0 : Fin 1) r d) = I.w p h r d)
    (h2 : ∀ (p : Fin 3) (g : Fin 30) (r : Fin 96), x2 (ix3 p g r) = I.ws p g r)
    (h3 : ∀ (g : Fin 30) (r : Fin 96), x3 (ix2 g r) = I.sqk g r)
    (h4 : ∀ (k : Fin 48) (s : Fin 256), x4 (ix2 k s) = I.cs s k)
    (h5 : ∀ (k : Fin 48) (s : Fin 256), x5 (ix2 k s) = I.sn s k) : OfHead I h (shared i x1 x2 x3 x4 x5) where
  cos k s := by
    rw [← h4]; show x4 _ = _
    refine congrArg x4 (funext fun a => ?_)
    fin_cases a <;> apply Fin.ext <;>
      refine (ValueKit.rect_emb_unit_val (s := S48x256) ![0, 0] S48x256.size inb_S48x256_S48x256_0_0 _ _).trans ?_ <;> simp [ix2]
  sin k s := by
    rw [← h5]; show x5 _ = _
    refine congrArg x5 (funext fun a => ?_)
    fin_cases a <;> apply Fin.ext <;>
      refine (ValueKit.rect_emb_unit_val (s := S48x256) ![0, 0] S48x256.size inb_S48x256_S48x256_0_0 _ _).trans ?_ <;> simp [ix2]
  sqk r := by
    rw [← h3]; show x3 _ = _
    refine congrArg x3 (funext fun a => ?_)
    fin_cases a <;> apply Fin.ext <;>
      refine (ValueKit.rect_emb_unit_val (s := S30x96) (k0_off1 i) S1x96.size (k0_off1_inb i) _ _).trans ?_ <;> simp [off1_eq, ix2, hi]
  wsq r := by
    rw [← h2]; show x2 _ = _
    refine congrArg x2 (funext fun a => ?_)
    fin_cases a <;> apply Fin.ext <;>
      refine (ValueKit.rect_emb_unit_val (s := S3x30x96) (k0_off2 i) S1x1x96.size (k0_off2_inb i) _ _).trans ?_ <;> simp [off2_eq, ix3, hi]
  wsk r := by
    rw [← h2]; show x2 _ = _
    refine congrArg x2 (funext fun a => ?_)
    fin_cases a <;> apply Fin.ext <;>
      refine (ValueKit.rect_emb_unit_val (s := S3x30x96) (k0_off3 i) S1x1x96.size (k0_off3_inb i) _ _).trans ?_ <;> simp [off3_eq, ix3, hi]
  wsv r := by
    rw [← h2]; show x2 _ = _
    refine congrArg x2 (funext fun a => ?_)
    fin_cases a <;> apply Fin.ext <;>
      refine (ValueKit.rect_emb_unit_val (s := S3x30x96) (k0_off4 i) S1x1x96.size (k0_off4_inb i) _ _).trans ?_ <;> simp [off4_eq, ix3, hi]
  w p r d := by
    rw [← h1]; show x1 _ = _
    refine congrArg x1 (funext fun a => ?_)
    fin_cases a <;> apply Fin.ext <;>
      refine (ValueKit.rect_emb_unit_val (s := S3x1x96x2880) ![0, 0, 0, 0] S3x1x96x2880.size inb_S3x1x96x2880_S3x1x96x2880_0_0_0_0 _ _).trans ?_ <;> simp [ix4]

/-- The first head quantises the input; -/
theorem ofEntryA {I : Inputs} (x0 : Vec Ideal S6x2880x256 .bf16)
    (h0 : ∀ (b : Fin 6) (d : Fin 2880) (s : Fin 256), x0 (ix3 b d s) = I.x b s d) (b : Fin 6) :
    OfEntry I b (xCodes (F := Ideal) (View.ld x0 (rX b))) (xScales (F := Ideal) (View.ld x0 (rX b))) where
  xc d s := (xCodes_apply (View.ld x0 (rX b)) d s).trans <|
    congrFun (congrArg quant (funext fun k => (ldX_apply x0 b k s).trans (h0 b k s))) d
  xs s := (xScales_apply (View.ld x0 (rX b)) s).trans <|
    congrArg qscale (funext fun k => (ldX_apply x0 b k s).trans (h0 b k s))

/-- the later ones read what it left. -/
theorem ofEntryB {I : Inputs} {y6 : S6x2880x256.Idx → Elt Ideal .fp8e4m3} {y7 : S6x1x256.Idx → Elt Ideal .f32} (h6 : R6 I y6) (h7 : R7 I y7) (b : Fin 6) :
    OfEntry I b (View.ld y6 (rX b)) (View.ld y7 (rS b)) where
  xc d s := (ldX_apply y6 b d s).trans (h6 b d s)
  xs s := (ldS_apply y7 b s).trans (h7 b s)

/-! ## One head's step -/

section Step

variable {I : Inputs} {h : Fin 30} {L : Shared Ideal} {XC : Fin 6 → Vec Ideal S1x2880x256 .fp8e4m3} {XS : Fin 6 → Vec Ideal S1x1x256 .f32}

theorem step6 (hX : ∀ b, OfEntry I b (XC b) (XS b)) {d : S6x2880x256.Idx → Elt Ideal .fp8e4m3} (hd : IsCodes (F := Ideal) XC d) : R6 I d :=
  fun b k s => (hd b k s).trans ((hX b).xc k s)

theorem step7 (hX : ∀ b, OfEntry I b (XC b) (XS b)) {d : S6x1x256.Idx → Elt Ideal .f32} (hd : IsScale (F := Ideal) XS d) : R7 I d :=
  fun b s => (hd b s).trans ((hX b).xs s)

theorem step8 (hL : OfHead I h L) (hX : ∀ b, OfEntry I b (XC b) (XS b)) {d : S6x1x96x256.Idx → Elt Ideal .fp8e4m3}
    (hd : IsBlk (F := Ideal) (fun b => qCodes4 L (XC b) (XS b)) d) : R8 (qv I) h d :=
  fun b r s => (hd b r s).trans (qCodes4_whole hL (hX b) r s)

theorem step10 (hL : OfHead I h L) (hX : ∀ b, OfEntry I b (XC b) (XS b)) {d : S6x1x96x256.Idx → Elt Ideal .fp8e4m3}
    (hd : IsBlk (F := Ideal) (fun b => kCodes4 L (XC b) (XS b)) d) : R8 (kv I) h d :=
  fun b r s => (hd b r s).trans (kCodes4_whole hL (hX b) r s)

theorem step12 (hL : OfHead I h L) (hX : ∀ b, OfEntry I b (XC b) (XS b)) {d : S6x1x96x256.Idx → Elt Ideal .f32}
    (hd : IsBlk (F := Ideal) (fun b => attn4 L (XC b) (XS b)) d) : R12 I h d :=
  fun b r s => (hd b r s).trans (attn4_whole hL (hX b) r s)

theorem stepRow {v : Fin 30 → Fin 6 → Fin 256 → Fin 96 → EReal} {i : grid0.Coords} (hi : (i 0).val = h.val) {P : Fin 6 → S1x1x256.Idx → Ideal .f32}
    (hP : ∀ b s, P b (ix3 (0 : Fin 1) (0 : Fin 1) s) = qscale (v h b s)) {y d : S6x30x256.Idx → Elt Ideal .f32} (hd : IsRow (F := Ideal) i P y d)
    (hy : ∀ (b : Fin 6) (g : Fin 30) (s : Fin 256), g.val < h.val → y (ix3 b g s) = qscale (v g b s)) : R9 v h d := by
  intro b g s hg
  refine (hd b g s).trans ?_
  by_cases e : g.val = (i 0).val
  · rw [if_pos e, hP, show g = h from Fin.ext (e.trans hi)]
  · rw [if_neg e]; exact hy b g s (by omega)

theorem step9 (hL : OfHead I h L) (hX : ∀ b, OfEntry I b (XC b) (XS b)) {i : grid0.Coords} (hi : (i 0).val = h.val) {y d : S6x30x256.Idx → Elt Ideal .f32}
    (hd : IsRow (F := Ideal) i (fun b => qScales3 L (XC b) (XS b)) y d)
    (hy : ∀ (b : Fin 6) (g : Fin 30) (s : Fin 256), g.val < h.val → y (ix3 b g s) = qscale (qv I g b s)) : R9 (qv I) h d :=
  stepRow hi (fun b s => qScales3_whole hL (hX b) s) hd hy

theorem step11 (hL : OfHead I h L) (hX : ∀ b, OfEntry I b (XC b) (XS b)) {i : grid0.Coords} (hi : (i 0).val = h.val) {y d : S6x30x256.Idx → Elt Ideal .f32}
    (hd : IsRow (F := Ideal) i (fun b => kScales3 L (XC b) (XS b)) y d)
    (hy : ∀ (b : Fin 6) (g : Fin 30) (s : Fin 256), g.val < h.val → y (ix3 b g s) = qscale (kv I g b s)) : R9 (kv I) h d :=
  stepRow hi (fun b s => kScales3_whole hL (hX b) s) hd hy

theorem step13 (hL : OfHead I h L) (hX : ∀ b, OfEntry I b (XC b) (XS b)) {PREV : Fin 6 → Vec Ideal S1x1x256 .f32} {d : S6x1x256.Idx → Elt Ideal .f32}
    (hd : IsScale (F := Ideal) (fun b => runMax L (XC b) (XS b) (PREV b)) d)
    (hp : ∀ (b : Fin 6) (s : Fin 256) (z : EReal), (PREV b (ix3 (0 : Fin 1) (0 : Fin 1) s) : EReal) ≤ z ↔
      (0 ≤ z ∧ ∀ g : Fin 30, g.val < h.val → mx I g b s ≤ z)) : R13 I h d := by
  intro b s z
  have e : (d (ix3 b (0 : Fin 1) s) : EReal) = max (PREV b (ix3 (0 : Fin 1) (0 : Fin 1) s) : EReal) (mx I h b s) :=
    (hd b s).trans (runMax_whole hL (hX b) (PREV b) s)
  rw [e, max_le_iff, hp b s z]
  constructor
  · rintro ⟨⟨h0, hl⟩, hh⟩
    refine ⟨h0, fun g hg => ?_⟩
    rcases Nat.lt_or_eq_of_le hg with hlt | heq
    · exact hl g hlt
    · rw [show g = h from Fin.ext heq]; exact hh
  · rintro ⟨h0, hl⟩
    exact ⟨⟨h0, fun g hg => hl g (le_of_lt hg)⟩, hl h le_rfl⟩

end Step

theorem pay40_apply (j : S6x1x256.Idx) : k0_pay40 (F := Ideal) j = (0 : EReal) := by
  unfold k0_pay40
  show (Scalar.ofBits (F := Ideal) .f32 0x00000000#32 : EReal) = 0
  exact Ideal.ofBits_zero_f32

end Cert.KernelIdeal.Hand

end
-- ==== Proof.FrameV.lean ====
/-
  The run of the idealized kernel over the extended reals, with what every output buffer holds after every point.
-/
module

public import proofs.«01_k».proof.Proof.RunA
public import proofs.«01_k».proof.Proof.RunB
public import proofs.«01_k».proof.Proof.KVal
public import proofs.«01_k».proof.Proof.Data
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

local notation "𝕄" => MT nD τ sig Unit (Elt Ideal) ℕ (UR sig nD τ) ℕ

variable (m : (ℓ : Loc nD τ sig) → Buf (Elt Ideal) ℓ) (ρ : Dev nD → PrngReg)
/-- The kernel's inputs as the launch finds them. -/
def inputs (c : Dev nD) : Inputs where
  x b s d := (V m c main_v17 : S6x2880x256.Idx → EReal) (ix3 b d s)
  w p h r d := (V m c main_arg1 : S3x30x96x2880.Idx → EReal) (ix4 p h r d)
  ws p h r := (V m c main_arg2 : S3x30x96.Idx → EReal) (ix3 p h r)
  sqk h r := (V m c main_arg3 : S30x96.Idx → EReal) (ix2 h r)
  cs s k := (V m c main_v14 : S48x256.Idx → EReal) (ix2 k s)
  sn s k := (V m c main_v16 : S48x256.Idx → EReal) (ix2 k s)

/-- The head of a grid point. -/
def headOf (t : Fin cfg0.N) : Fin 30 := ⟨t.val, lt_of_lt_of_eq t.isLt N_0⟩

theorem coords_head : ∀ t : Fin cfg0.N, (grid0.coords t 0).val = t.val := by decide +kernel

/-- What each output buffer holds after point `t`. -/
def rel (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => R6 (inputs m c)
  | ⟨7, _⟩ => R7 (inputs m c)
  | ⟨8, _⟩ => R8 (qv (inputs m c)) (headOf t)
  | ⟨9, _⟩ => R9 (qv (inputs m c)) (headOf t)
  | ⟨10, _⟩ => R8 (kv (inputs m c)) (headOf t)
  | ⟨11, _⟩ => R9 (kv (inputs m c)) (headOf t)
  | ⟨12, _⟩ => R12 (inputs m c) (headOf t)
  | ⟨13, _⟩ => R13 (inputs m c) (headOf t)

/-! ## The inputs' blocks -/

theorem index0 : ∀ t : Fin cfg0.N, win0_0.index t = ![0, 0, 0] := by decide +kernel
theorem index1 : ∀ t : Fin cfg0.N, win0_1.index t = ![0, t.val, 0, 0] := by decide +kernel
theorem index2 : ∀ t : Fin cfg0.N, win0_2.index t = ![0, 0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel

theorem iblk0_apply (c : Dev nD) (t : Fin cfg0.N) (b : Fin 6) (d : Fin 2880) (s : Fin 256) :
    (iblk m c 0 t : S6x2880x256.Idx → EReal) (ix3 b d s) = (inputs m c).x b s d := by
  show (iblk m c 0 t : S6x2880x256.Idx → EReal) (ix3 b d s) = (V m c main_v17 : S6x2880x256.Idx → EReal) (ix3 b d s)
  blk_ext [iblk, index0 t]
theorem iblk1_apply (c : Dev nD) (t : Fin cfg0.N) (p : Fin 3) (r : Fin 96) (d : Fin 2880) :
    (iblk m c 1 t : S3x1x96x2880.Idx → EReal) (ix4 p (0 : Fin 1) r d) = (inputs m c).w p (headOf t) r d := by
  show (iblk m c 1 t : S3x1x96x2880.Idx → EReal) (ix4 p (0 : Fin 1) r d) = (V m c main_arg1 : S3x30x96x2880.Idx → EReal) (ix4 p (headOf t) r d)
  blk_ext [iblk, index1 t, headOf]
theorem iblk2_apply (c : Dev nD) (t : Fin cfg0.N) (p : Fin 3) (g : Fin 30) (r : Fin 96) :
    (iblk m c 2 t : S3x30x96.Idx → EReal) (ix3 p g r) = (inputs m c).ws p g r := by
  show (iblk m c 2 t : S3x30x96.Idx → EReal) (ix3 p g r) = (V m c main_arg2 : S3x30x96.Idx → EReal) (ix3 p g r)
  blk_ext [iblk, index2 t]
theorem iblk3_apply (c : Dev nD) (t : Fin cfg0.N) (g : Fin 30) (r : Fin 96) :
    (iblk m c 3 t : S30x96.Idx → EReal) (ix2 g r) = (inputs m c).sqk g r := by
  show (iblk m c 3 t : S30x96.Idx → EReal) (ix2 g r) = (V m c main_arg3 : S30x96.Idx → EReal) (ix2 g r)
  blk_ext [iblk, index3 t]
theorem iblk4_apply (c : Dev nD) (t : Fin cfg0.N) (k : Fin 48) (s : Fin 256) :
    (iblk m c 4 t : S48x256.Idx → EReal) (ix2 k s) = (inputs m c).cs s k := by
  show (iblk m c 4 t : S48x256.Idx → EReal) (ix2 k s) = (V m c main_v14 : S48x256.Idx → EReal) (ix2 k s)
  blk_ext [iblk, index4 t]
theorem iblk5_apply (c : Dev nD) (t : Fin cfg0.N) (k : Fin 48) (s : Fin 256) :
    (iblk m c 5 t : S48x256.Idx → EReal) (ix2 k s) = (inputs m c).sn s k := by
  show (iblk m c 5 t : S48x256.Idx → EReal) (ix2 k s) = (V m c main_v16 : S48x256.Idx → EReal) (ix2 k s)
  blk_ext [iblk, index5 t]

theorem ofHeadAt (c : Dev nD) (t : Fin cfg0.N) : OfHead (inputs m c) (headOf t)
    (shared (F := Ideal) (grid0.coords t) (iblk m c 1 t) (iblk m c 2 t) (iblk m c 3 t) (iblk m c 4 t) (iblk m c 5 t)) :=
  ofHead (grid0.coords t) (coords_head t) _ _ _ _ _ (iblk1_apply m c t) (iblk2_apply m c t) (iblk3_apply m c t) (iblk4_apply m c t) (iblk5_apply m c t)

/-! ## What a point finds in the buffers carried from point to point -/

theorem nofetch6 : ∀ t : Fin cfg0.N, (cfg0.win 6).fetch t = false := by decide +kernel
theorem nofetch7 : ∀ t : Fin cfg0.N, (cfg0.win 7).fetch t = false := by decide +kernel
theorem nofetch9 : ∀ t : Fin cfg0.N, (cfg0.win 9).fetch t = false := by decide +kernel
theorem nofetch11 : ∀ t : Fin cfg0.N, (cfg0.win 11).fetch t = false := by decide +kernel
theorem nofetch13 : ∀ t : Fin cfg0.N, (cfg0.win 13).fetch t = false := by decide +kernel

/-- The point before. -/
def prevPt (t : Fin cfg0.N) : Fin cfg0.N := ⟨t.val - 1, Nat.lt_of_le_of_lt (Nat.sub_le _ _) t.isLt⟩

/-- A window carried to `t` holds what the point before left. -/
theorem found (c : Dev nD) (w : Fin cfg0.W) (t : Fin cfg0.N) (ht : t.val ≠ 0) (hm : forgets0 w = true) (hn : (cfg0.win w).fetch t = false)
    (hf : ∀ u : Fin cfg0.N, (cfg0.win w).flush u = true ↔ u.val % 30 = 29) {X} (h : (rdat m (rel m) c).Finds w t X) : rel m c w (prevPt t) X := by
  have hN : t.val < 30 := lt_of_lt_of_eq t.isLt N_0
  rcases ((rdat m (rel m) c).finds_of_pos hn ht X).mp h with hfl | hl
  · have := (hf _).mp hfl
    dsimp only at this
    omega
  · exact (dats m 0 c).toRRel_leaves hm hl

/-! ## The body obligation, at a generic point -/

theorem prevRow {v : Fin 30 → Fin 6 → Fin 256 → Fin 96 → EReal} {h g : Fin 30} (hp : h.val = g.val + 1) {y : S6x30x256.Idx → Elt Ideal .f32} (hy : R9 v g y)
    (b : Fin 6) (k : Fin 30) (s : Fin 256) (hk : k.val < h.val) : y (ix3 b k s) = qscale (v k b s) :=
  hy b k s (by omega)

theorem prevMax {I : Inputs} {h g : Fin 30} (hp : h.val = g.val + 1) {y : S6x1x256.Idx → Elt Ideal .f32} (hy : R13 I g y)
    (b : Fin 6) (s : Fin 256) (z : EReal) : (View.ld (Val := Elt Ideal) (e' := .f32) y (rS b) (ix3 (0 : Fin 1) (0 : Fin 1) s) : EReal) ≤ z ↔
      (0 ≤ z ∧ ∀ k : Fin 30, k.val < h.val → mx I k b s ≤ z) := by
  rw [ldS_apply, hy b s z]
  exact and_congr Iff.rfl (forall_congr' fun k => by rw [hp, Nat.lt_succ_iff])

theorem firstMax (c : Dev nD) (t : Fin cfg0.N) (hz : (headOf t).val = 0) (b : Fin 6) (s : Fin 256) (z : EReal) :
    (View.ld (Val := Elt Ideal) (e' := .f32) (k0_pay40 (F := Ideal)) (rS b) (ix3 (0 : Fin 1) (0 : Fin 1) s) : EReal) ≤ z ↔
      (0 ≤ z ∧ ∀ k : Fin 30, k.val < (headOf t).val → mx (inputs m c) k b s ≤ z) := by
  rw [ldS_apply, pay40_apply]
  exact ⟨fun h => ⟨h, fun k hk => absurd hk (by rw [hz]; exact Nat.not_lt_zero _)⟩, fun h => h.1⟩

set_option maxHeartbeats 2400000 in
/-- The body at any point: the first point quantises the input, the later ones find what the point before left (`found`). -/
theorem sound_body (c : Dev nD) (t : Fin cfg0.N) :
    bodyPre m (rel m) c t ⊢ wp frame (wpE (defs₀ (F := Ideal)) Variants.none c none) Set.univ (bodyAt0 t) (fun _ => bodyPost m (rel m) c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  have hN : t.val < 30 := lt_of_lt_of_eq t.isLt (show cfg0.N = 30 from N_0)
  have hL := ofHeadAt m c t
  have hi : (grid0.coords t 0).val = (headOf t).val := coords_head t
  by_cases h0 : t.val % 30 = 0
  · have hz : (headOf t).val = 0 := by show t.val = 0; omega
    have hX := fun b => ofEntryA (I := inputs m c) (iblk m c 0 t) (iblk0_apply m c t) b
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%d6, %f6, H6⟩, ⟨%d7, %f7, H7⟩, ⟨%d8, %f8, H8⟩, ⟨%d9, %f9, H9⟩, ⟨%d10, %f10, H10⟩, ⟨%d11, %f11, H11⟩, ⟨%d12, %f12, H12⟩, ⟨%d13, %f13, H13⟩⟩
    iapply ((runA (F := Ideal) c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) d6 d7 d8 d9 d10 d11 d12 d13) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, ⟨%e6, %g6, H6⟩, ⟨%e7, %g7, H7⟩, ⟨%e8, %g8, H8⟩, ⟨%e9, %g9, H9⟩, ⟨%e10, %g10, H10⟩, ⟨%e11, %g11, H11⟩, ⟨%e12, %g12, H12⟩, ⟨%e13, %g13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists e6; isplitr
      · ipureintro; exact step6 hX g6
      · iexact H6
    isplitl [H7]
    · iexists e7; isplitr
      · ipureintro; exact step7 hX g7
      · iexact H7
    isplitl [H8]
    · iexists e8; isplitr
      · ipureintro; exact step8 hL hX g8
      · iexact H8
    isplitl [H9]
    · iexists e9; isplitr
      · ipureintro; exact step9 hL hX hi g9 (fun _ _ _ hlt => absurd hlt (by rw [hz]; exact Nat.not_lt_zero _))
      · iexact H9
    isplitl [H10]
    · iexists e10; isplitr
      · ipureintro; exact step10 hL hX g10
      · iexact H10
    isplitl [H11]
    · iexists e11; isplitr
      · ipureintro; exact step11 hL hX hi g11 (fun _ _ _ hlt => absurd hlt (by rw [hz]; exact Nat.not_lt_zero _))
      · iexact H11
    isplitl [H12]
    · iexists e12; isplitr
      · ipureintro; exact step12 hL hX g12
      · iexact H12
    iexists e13; isplitr
    · ipureintro; exact step13 hL hX g13 (firstMax m c t hz)
    · iexact H13
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%d6, %f6, H6⟩, ⟨%d7, %f7, H7⟩, ⟨%d8, %f8, H8⟩, ⟨%d9, %f9, H9⟩, ⟨%d10, %f10, H10⟩, ⟨%d11, %f11, H11⟩, ⟨%d12, %f12, H12⟩, ⟨%d13, %f13, H13⟩⟩
    have ht : t.val ≠ 0 := by omega
    have hp : (headOf t).val = (headOf (prevPt t)).val + 1 := by show t.val = t.val - 1 + 1; omega
    have p6 : R6 (inputs m c) d6 := found m c 6 t ht rfl (nofetch6 t) flush0_6 f6
    have p7 : R7 (inputs m c) d7 := found m c 7 t ht rfl (nofetch7 t) flush0_7 f7
    have p9 : R9 (qv (inputs m c)) (headOf (prevPt t)) d9 := found m c 9 t ht rfl (nofetch9 t) flush0_9 f9
    have p11 : R9 (kv (inputs m c)) (headOf (prevPt t)) d11 := found m c 11 t ht rfl (nofetch11 t) flush0_11 f11
    have p13 : R13 (inputs m c) (headOf (prevPt t)) d13 := found m c 13 t ht rfl (nofetch13 t) flush0_13 f13
    have hX := fun b => ofEntryB (b := b) p6 p7
    iapply ((runB (F := Ideal) c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) d6 d7 d8 d9 d10 d11 d12 d13) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, ⟨%e6, %g6, H6⟩, ⟨%e7, %g7, H7⟩, ⟨%e8, %g8, H8⟩, ⟨%e9, %g9, H9⟩, ⟨%e10, %g10, H10⟩, ⟨%e11, %g11, H11⟩, ⟨%e12, %g12, H12⟩, ⟨%e13, %g13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists e6; isplitr
      · ipureintro; exact (by rw [g6]; exact p6)
      · iexact H6
    isplitl [H7]
    · iexists e7; isplitr
      · ipureintro; exact (by rw [g7]; exact p7)
      · iexact H7
    isplitl [H8]
    · iexists e8; isplitr
      · ipureintro; exact step8 hL hX g8
      · iexact H8
    isplitl [H9]
    · iexists e9; isplitr
      · ipureintro; exact step9 hL hX hi g9 (prevRow hp p9)
      · iexact H9
    isplitl [H10]
    · iexists e10; isplitr
      · ipureintro; exact step10 hL hX g10
      · iexact H10
    isplitl [H11]
    · iexists e11; isplitr
      · ipureintro; exact step11 hL hX hi g11 (prevRow hp p11)
      · iexact H11
    isplitl [H12]
    · iexists e12; isplitr
      · ipureintro; exact step12 hL hX g12
      · iexact H12
    iexists e13; isplitr
    · ipureintro; exact step13 hL hX g13 (prevMax hp p13)
    · iexact H13

/-- The library's body obligation, at every point: the body's triple restated (Lib/Pipeline/FrameBody.lean `triple_restated`). -/
theorem body_obligation (c : Dev nD) : Pipeline.BodyObligationRel (dats m 0 c) (defs₀ (F := Ideal)) Variants.none () Set.univ forgets0 (rel m c) := fun t => by
  rw [bigSep_W0, bigSep_W0, defs₀_row]
  exact triple_restated (sound_body m c t) rfl .rfl fun _ => .rfl

/-! ## The run and the frame -/

theorem run_main : θ_run defs (onTc (τ := τ) (main (F := Ideal))) (s₀ m ρ) (Pipeline.RDat.FramePost (cfgs 0) (rdat m (rel m)) (V m)) :=
  run m ρ (rel m) (body_obligation m)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_unchanged m ρ (rel m) (body_obligation m)

end Cert.KernelIdeal.Hand

end
-- ==== Proof.Arrays.lean ====
/-
  The results as arrays, functions of the whole inputs.
-/
module

public import proofs.«01_k».proof.Proof.Whole

@[expose] public section

noncomputable section

namespace Cert.Spec

open Idealize.ShloMosaic

/-! A multi-index is its coordinates. -/

theorem eta3 {n0 n1 n2 : ℕ} (j : (⟨3, ![n0, n1, n2]⟩ : Shape).Idx) : j = ix3 (j 0 : Fin n0) (j 1 : Fin n1) (j 2 : Fin n2) := by
  funext a; fin_cases a <;> rfl
theorem eta4 {n0 n1 n2 n3 : ℕ} (j : (⟨4, ![n0, n1, n2, n3]⟩ : Shape).Idx) : j = ix4 (j 0 : Fin n0) (j 1 : Fin n1) (j 2 : Fin n2) (j 3 : Fin n3) := by
  funext a; fin_cases a <;> rfl
theorem eta31 {n0 n2 : ℕ} (j : (⟨3, ![n0, 1, n2]⟩ : Shape).Idx) : j = ix3 (j 0 : Fin n0) (0 : Fin 1) (j 2 : Fin n2) := by
  funext a; fin_cases a
  · rfl
  · exact Subsingleton.elim (α := Fin 1) _ _
  · rfl
theorem eta41 {n0 n2 n3 : ℕ} (j : (⟨4, ![n0, 1, n2, n3]⟩ : Shape).Idx) : j = ix4 (j 0 : Fin n0) (0 : Fin 1) (j 2 : Fin n2) (j 3 : Fin n3) := by
  funext a; fin_cases a
  · rfl
  · exact Subsingleton.elim (α := Fin 1) _ _
  · rfl
  · rfl

variable (I : Inputs)

/-- The input's codes; -/
def arrX (j : (⟨3, ![6, 2880, 256]⟩ : Shape).Idx) : EReal := quant (I.x (j 0 : Fin 6) (j 2 : Fin 256)) (j 1 : Fin 2880)

/-- its scales; -/
def arrXs (j : (⟨3, ![6, 1, 256]⟩ : Shape).Idx) : EReal := qscale (I.x (j 0 : Fin 6) (j 2 : Fin 256))

/-- the codes of the queries or keys `v`; -/
def arrC (v : Fin 30 → Fin 6 → Fin 256 → Fin 96 → EReal) (j : (⟨4, ![6, 30, 96, 256]⟩ : Shape).Idx) : EReal :=
  quant (v (j 1 : Fin 30) (j 0 : Fin 6) (j 3 : Fin 256)) (j 2 : Fin 96)

/-- their scales; -/
def arrS (v : Fin 30 → Fin 6 → Fin 256 → Fin 96 → EReal) (j : (⟨3, ![6, 30, 256]⟩ : Shape).Idx) : EReal :=
  qscale (v (j 1 : Fin 30) (j 0 : Fin 6) (j 2 : Fin 256))

/-- the attention's output; -/
def arrO (j : (⟨4, ![6, 30, 96, 256]⟩ : Shape).Idx) : EReal := ov I (j 1 : Fin 30) (j 0 : Fin 6) (j 3 : Fin 256) (j 2 : Fin 96)

/-- its greatest absolute value over all the heads. -/
def omax (b : Fin 6) (s : Fin 256) : EReal :=
  (Finset.univ : Finset (Fin 30)).fold max (Ideal.ofBits .f32 4286578688#32) (fun h => mx I h b s)

def arrM (j : (⟨3, ![6, 1, 256]⟩ : Shape).Idx) : EReal := omax I (j 0 : Fin 6) (j 2 : Fin 256)

/-- A number with the upper bounds that a running maximum from zero has is that maximum. -/
theorem eq_omax {b : Fin 6} {s : Fin 256} {a : EReal} (h : ∀ z : EReal, a ≤ z ↔ (0 ≤ z ∧ ∀ g : Fin 30, mx I g b s ≤ z)) : a = omax I b s := by
  refine eq_of_forall_ge_iff fun z => ?_
  rw [h z, omax, Finset.fold_max_le, ninf]
  constructor
  · exact fun hz => ⟨bot_le, fun g _ => hz.2 g⟩
  · exact fun hz => ⟨(amax_nonneg (ov I 0 b s)).trans (hz.2 0 (Finset.mem_univ _)), fun g => hz.2 g (Finset.mem_univ _)⟩

end Cert.Spec

end
-- ==== Proof.KFinal.lean ====
/-
  What the idealized kernel's results hold after a run.
-/
module

public import proofs.«01_k».proof.Proof.FrameV
public import proofs.«01_k».proof.Proof.Arrays
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)
open Cert.Spec

variable (m : (ℓ : Loc nD τ sig) → Buf (Elt Ideal) ℓ) (ρ : Dev nD → PrngReg)

theorem index6 : ∀ t : Fin cfg0.N, win0_6.index t = ![0, 0, 0] := by decide +kernel
theorem index7 : ∀ t : Fin cfg0.N, win0_7.index t = ![0, 0, 0] := by decide +kernel
theorem index8 : ∀ t : Fin cfg0.N, win0_8.index t = ![0, t.val, 0, 0] := by decide +kernel
theorem index9 : ∀ t : Fin cfg0.N, win0_9.index t = ![0, 0, 0] := by decide +kernel
theorem index10 : ∀ t : Fin cfg0.N, win0_10.index t = ![0, t.val, 0, 0] := by decide +kernel
theorem index11 : ∀ t : Fin cfg0.N, win0_11.index t = ![0, 0, 0] := by decide +kernel
theorem index12 : ∀ t : Fin cfg0.N, win0_12.index t = ![0, t.val, 0, 0] := by decide +kernel
theorem index13 : ∀ t : Fin cfg0.N, win0_13.index t = ![0, 0, 0] := by decide +kernel

/-! ## The buffers' contents by multi-index -/

variable {I : Inputs} {h : Fin 30}

theorem R6.at {X : S6x2880x256.Idx → Elt Ideal .fp8e4m3} (hX : R6 I X) (j : S6x2880x256.Idx) : X j = arrX I j :=
  (congrArg X (eta3 j)).trans (hX _ _ _)
theorem R7.at {X : S6x1x256.Idx → Elt Ideal .f32} (hX : R7 I X) (j : S6x1x256.Idx) : X j = arrXs I j :=
  (congrArg X (eta31 j)).trans (hX _ _)
theorem R8.at {v : Fin 30 → Fin 6 → Fin 256 → Fin 96 → EReal} {X : S6x1x96x256.Idx → Elt Ideal .fp8e4m3} (hX : R8 v h X) (j : S6x1x96x256.Idx) :
    X j = arrC v (ix4 (j 0 : Fin 6) h (j 2 : Fin 96) (j 3 : Fin 256)) :=
  (congrArg X (eta41 j)).trans (hX _ _ _)
theorem R9.at {v : Fin 30 → Fin 6 → Fin 256 → Fin 96 → EReal} {X : S6x30x256.Idx → Elt Ideal .f32} (hX : R9 v h X) (hh : h.val = 29) (j : S6x30x256.Idx) :
    X j = arrS v j :=
  (congrArg X (eta3 j)).trans (hX _ _ _ (by rw [hh]; exact Nat.le_of_lt_succ (j 1).isLt))
theorem R12.at {X : S6x1x96x256.Idx → Elt Ideal .f32} (hX : R12 I h X) (j : S6x1x96x256.Idx) :
    X j = arrO I (ix4 (j 0 : Fin 6) h (j 2 : Fin 96) (j 3 : Fin 256)) :=
  (congrArg X (eta41 j)).trans (hX _ _ _)
theorem R13.at {X : S6x1x256.Idx → Elt Ideal .f32} (hX : R13 I h X) (hh : h.val = 29) (j : S6x1x256.Idx) : X j = arrM I j :=
  (congrArg X (eta31 j)).trans (eq_omax I fun z => (hX _ _ z).trans
    (and_congr Iff.rfl (forall_congr' fun g => ⟨fun k => k (by rw [hh]; exact Nat.le_of_lt_succ g.isLt), fun k _ => k⟩)))

/-! ## The arrays -/

theorem lastFlush {w : Fin cfg0.W} (hf : ∀ u : Fin cfg0.N, (cfg0.win w).flush u = true ↔ u.val % 30 = 29) {t : Fin cfg0.N}
    (h : (cfg0.win w).flush t = true) : (headOf t).val = 29 := by
  have := (hf t).mp h
  have hN : t.val < 30 := lt_of_lt_of_eq t.isLt N_0
  show t.val = 29
  omega

/-- The last point. -/
def lastPt : Fin cfg0.N := ⟨29, lt_of_lt_of_eq (by norm_num : 29 < 30) N_0.symm⟩

section Arr

variable {c : Dev nD} {after : (w' : Fin cfg0.W) → Fin cfg0.N → (cfg0.win w').block.Idx → Elt Ideal (cfg0.win w').elt}
  (hL : ∀ (w : Fin cfg0.W) (u : Fin cfg0.N), (cfg0.win w).flush u = true → (rdat m (rel m) c).Leaves w u (after w u))

include hL

theorem arr6 : ((rdat m (rel m) c).withAfter after).arrAt 6 cfg0.N = arrX (inputs m c) := by
  funext i
  have hi : ∀ a, (i a : ℕ) < S6x2880x256.size a := fun a => (i a).isLt
  refine Dat.arrAt_forall_of_flushed ((rdat m (rel m) c).withAfter after) 6 (fun i v => v = arrX (inputs m c) i) (fun t hf y => ?_) cfg0.N
    lastPt i (Fin.isLt _) ((flush0_6 _).mpr rfl) ?_
  · have hl : R6 (inputs m c) (after 6 t) := (dats m 0 c).toRRel_leaves (fgt := forgets0) rfl (hL 6 t hf)
    refine (hl.at y).trans (congrArg (arrX (inputs m c)) ?_)
    blk_ext [index6 t, headOf]
  · refine (Pipeline.Window.emb_mem_blk_iff win0_6 lastPt i rfl).mpr ?_
    intro a
    have h := hi a
    fin_cases a <;> simp [Pipeline.Window.xsize, index6] at h ⊢ <;> omega
theorem arr7 : ((rdat m (rel m) c).withAfter after).arrAt 7 cfg0.N = arrXs (inputs m c) := by
  funext i
  have hi : ∀ a, (i a : ℕ) < S6x1x256.size a := fun a => (i a).isLt
  refine Dat.arrAt_forall_of_flushed ((rdat m (rel m) c).withAfter after) 7 (fun i v => v = arrXs (inputs m c) i) (fun t hf y => ?_) cfg0.N
    lastPt i (Fin.isLt _) ((flush0_7 _).mpr rfl) ?_
  · have hl : R7 (inputs m c) (after 7 t) := (dats m 0 c).toRRel_leaves (fgt := forgets0) rfl (hL 7 t hf)
    refine (hl.at y).trans (congrArg (arrXs (inputs m c)) ?_)
    blk_ext [index7 t, headOf]
  · refine (Pipeline.Window.emb_mem_blk_iff win0_7 lastPt i rfl).mpr ?_
    intro a
    have h := hi a
    fin_cases a <;> simp [Pipeline.Window.xsize, index7] at h ⊢ <;> omega
theorem arr8 : ((rdat m (rel m) c).withAfter after).arrAt 8 cfg0.N = arrC (qv (inputs m c)) := by
  funext i
  have hi : ∀ a, (i a : ℕ) < S6x30x96x256.size a := fun a => (i a).isLt
  obtain ⟨t₀, ht₀⟩ : ∃ t : Fin cfg0.N, t.val = (i 1).val := ⟨⟨(i 1).val, lt_of_lt_of_eq (i 1).isLt N_0.symm⟩, rfl⟩
  refine Dat.arrAt_forall_of_flushed ((rdat m (rel m) c).withAfter after) 8 (fun i v => v = arrC (qv (inputs m c)) i) (fun t hf y => ?_) cfg0.N
    t₀ i (Fin.isLt _) (flush0_8 _) ?_
  · have hl : R8 (qv (inputs m c)) (headOf t) (after 8 t) := (dats m 0 c).toRRel_leaves (fgt := forgets0) rfl (hL 8 t hf)
    refine (hl.at y).trans (congrArg (arrC (qv (inputs m c))) ?_)
    blk_ext [index8 t, headOf]
  · refine (Pipeline.Window.emb_mem_blk_iff win0_8 t₀ i rfl).mpr ?_
    intro a
    have h := hi a
    have ht₁ : t₀.val = ((i 1 : Fin 30) : ℕ) := ht₀
    fin_cases a <;> simp [Pipeline.Window.xsize, index8] at h ⊢ <;> omega
theorem arr9 : ((rdat m (rel m) c).withAfter after).arrAt 9 cfg0.N = arrS (qv (inputs m c)) := by
  funext i
  have hi : ∀ a, (i a : ℕ) < S6x30x256.size a := fun a => (i a).isLt
  refine Dat.arrAt_forall_of_flushed ((rdat m (rel m) c).withAfter after) 9 (fun i v => v = arrS (qv (inputs m c)) i) (fun t hf y => ?_) cfg0.N
    lastPt i (Fin.isLt _) ((flush0_9 _).mpr rfl) ?_
  · have hl : R9 (qv (inputs m c)) (headOf t) (after 9 t) := (dats m 0 c).toRRel_leaves (fgt := forgets0) rfl (hL 9 t hf)
    refine (hl.at (lastFlush flush0_9 hf) y).trans (congrArg (arrS (qv (inputs m c))) ?_)
    blk_ext [index9 t, headOf]
  · refine (Pipeline.Window.emb_mem_blk_iff win0_9 lastPt i rfl).mpr ?_
    intro a
    have h := hi a
    fin_cases a <;> simp [Pipeline.Window.xsize, index9] at h ⊢ <;> omega
theorem arr10 : ((rdat m (rel m) c).withAfter after).arrAt 10 cfg0.N = arrC (kv (inputs m c)) := by
  funext i
  have hi : ∀ a, (i a : ℕ) < S6x30x96x256.size a := fun a => (i a).isLt
  obtain ⟨t₀, ht₀⟩ : ∃ t : Fin cfg0.N, t.val = (i 1).val := ⟨⟨(i 1).val, lt_of_lt_of_eq (i 1).isLt N_0.symm⟩, rfl⟩
  refine Dat.arrAt_forall_of_flushed ((rdat m (rel m) c).withAfter after) 10 (fun i v => v = arrC (kv (inputs m c)) i) (fun t hf y => ?_) cfg0.N
    t₀ i (Fin.isLt _) (flush0_10 _) ?_
  · have hl : R8 (kv (inputs m c)) (headOf t) (after 10 t) := (dats m 0 c).toRRel_leaves (fgt := forgets0) rfl (hL 10 t hf)
    refine (hl.at y).trans (congrArg (arrC (kv (inputs m c))) ?_)
    blk_ext [index10 t, headOf]
  · refine (Pipeline.Window.emb_mem_blk_iff win0_10 t₀ i rfl).mpr ?_
    intro a
    have h := hi a
    have ht₁ : t₀.val = ((i 1 : Fin 30) : ℕ) := ht₀
    fin_cases a <;> simp [Pipeline.Window.xsize, index10] at h ⊢ <;> omega
theorem arr11 : ((rdat m (rel m) c).withAfter after).arrAt 11 cfg0.N = arrS (kv (inputs m c)) := by
  funext i
  have hi : ∀ a, (i a : ℕ) < S6x30x256.size a := fun a => (i a).isLt
  refine Dat.arrAt_forall_of_flushed ((rdat m (rel m) c).withAfter after) 11 (fun i v => v = arrS (kv (inputs m c)) i) (fun t hf y => ?_) cfg0.N
    lastPt i (Fin.isLt _) ((flush0_11 _).mpr rfl) ?_
  · have hl : R9 (kv (inputs m c)) (headOf t) (after 11 t) := (dats m 0 c).toRRel_leaves (fgt := forgets0) rfl (hL 11 t hf)
    refine (hl.at (lastFlush flush0_11 hf) y).trans (congrArg (arrS (kv (inputs m c))) ?_)
    blk_ext [index11 t, headOf]
  · refine (Pipeline.Window.emb_mem_blk_iff win0_11 lastPt i rfl).mpr ?_
    intro a
    have h := hi a
    fin_cases a <;> simp [Pipeline.Window.xsize, index11] at h ⊢ <;> omega
theorem arr12 : ((rdat m (rel m) c).withAfter after).arrAt 12 cfg0.N = arrO (inputs m c) := by
  funext i
  have hi : ∀ a, (i a : ℕ) < S6x30x96x256.size a := fun a => (i a).isLt
  obtain ⟨t₀, ht₀⟩ : ∃ t : Fin cfg0.N, t.val = (i 1).val := ⟨⟨(i 1).val, lt_of_lt_of_eq (i 1).isLt N_0.symm⟩, rfl⟩
  refine Dat.arrAt_forall_of_flushed ((rdat m (rel m) c).withAfter after) 12 (fun i v => v = arrO (inputs m c) i) (fun t hf y => ?_) cfg0.N
    t₀ i (Fin.isLt _) (flush0_12 _) ?_
  · have hl : R12 (inputs m c) (headOf t) (after 12 t) := (dats m 0 c).toRRel_leaves (fgt := forgets0) rfl (hL 12 t hf)
    refine (hl.at y).trans (congrArg (arrO (inputs m c)) ?_)
    blk_ext [index12 t, headOf]
  · refine (Pipeline.Window.emb_mem_blk_iff win0_12 t₀ i rfl).mpr ?_
    intro a
    have h := hi a
    have ht₁ : t₀.val = ((i 1 : Fin 30) : ℕ) := ht₀
    fin_cases a <;> simp [Pipeline.Window.xsize, index12] at h ⊢ <;> omega
theorem arr13 : ((rdat m (rel m) c).withAfter after).arrAt 13 cfg0.N = arrM (inputs m c) := by
  funext i
  have hi : ∀ a, (i a : ℕ) < S6x1x256.size a := fun a => (i a).isLt
  refine Dat.arrAt_forall_of_flushed ((rdat m (rel m) c).withAfter after) 13 (fun i v => v = arrM (inputs m c) i) (fun t hf y => ?_) cfg0.N
    lastPt i (Fin.isLt _) ((flush0_13 _).mpr rfl) ?_
  · have hl : R13 (inputs m c) (headOf t) (after 13 t) := (dats m 0 c).toRRel_leaves (fgt := forgets0) rfl (hL 13 t hf)
    refine (hl.at (lastFlush flush0_13 hf) y).trans (congrArg (arrM (inputs m c)) ?_)
    blk_ext [index13 t, headOf]
  · refine (Pipeline.Window.emb_mem_blk_iff win0_13 lastPt i rfl).mpr ?_
    intro a
    have h := hi a
    fin_cases a <;> simp [Pipeline.Window.xsize, index13] at h ⊢ <;> omega

end Arr

/-- THE RESULTS of a run. -/
theorem results : θ_run defs (onTc (τ := τ) (main (F := Ideal))) (s₀ m ρ) (fun r => ∀ c : Dev nD,
      r.2.mem ((c.tc : Thread nD τ).loc main_v18_0) = arrX (inputs m c)
      ∧ r.2.mem ((c.tc : Thread nD τ).loc main_v18_1) = arrXs (inputs m c)
      ∧ r.2.mem ((c.tc : Thread nD τ).loc main_v18_2) = arrC (qv (inputs m c))
      ∧ r.2.mem ((c.tc : Thread nD τ).loc main_v18_3) = arrS (qv (inputs m c))
      ∧ r.2.mem ((c.tc : Thread nD τ).loc main_v18_4) = arrC (kv (inputs m c))
      ∧ r.2.mem ((c.tc : Thread nD τ).loc main_v18_5) = arrS (kv (inputs m c))
      ∧ r.2.mem ((c.tc : Thread nD τ).loc main_v18_6) = arrO (inputs m c)
      ∧ r.2.mem ((c.tc : Thread nD τ).loc main_v18_7) = arrM (inputs m c)) := by
  refine (θ_run defs _ _).mono (fun r hr c => ?_) (run_main m ρ)
  obtain ⟨after, hL, hA⟩ := hr.exists_exact c
  exact ⟨(hA 6).trans (arr6 m hL), (hA 7).trans (arr7 m hL), (hA 8).trans (arr8 m hL), (hA 9).trans (arr9 m hL),
    (hA 10).trans (arr10 m hL), (hA 11).trans (arr11 m hL), (hA 12).trans (arr12 m hL), (hA 13).trans (arr13 m hL)⟩

end Cert.KernelIdeal.Hand

end
-- ==== Proof.RRead.lean ====
/-
  The reference's values read at an index, over the extended reals.
-/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen
open Idealize.ShloMosaic
open Cert.Spec

theorem ofBits_one : Ideal.ofBits .f32 0x3F800000#32 = 1 := by
  have := Cert.Expo.ofBits_pow 127 (by norm_num) (by norm_num)
  norm_num at this ⊢

theorem ofBits_zero : Ideal.ofBits .f32 0x00000000#32 = 0 := by rw [Ideal.ofBits]; simp [Ideal.ieee]

/-! ## The quantiser -/

/-- The exponent, element by element. -/
theorem expo_apply {S : Shape} (y : FVec Ideal S .f32) (i : S.Idx) :
    select (cmpf .olt y (broadcast S (Scalar.ofBits .f32 0x00800000#32))) (broadcast S (Scalar.ofBits (F := Ideal) .f32 0x00000000#32))
      (minimumf (addf (floor (divf (log y) (log (broadcast S (Scalar.ofBits .f32 0x40000000#32))))) (broadcast S (Scalar.ofBits .f32 0x3F800000#32)))
        (broadcast S (Scalar.ofBits .f32 0x42FC0000#32))) i = Cert.Expo.expo (y i) := by
  show Scalar.select (Ideal.cmp .olt (y i) (Ideal.ofBits .f32 8388608#32)) (Ideal.ofBits .f32 0x00000000#32) (min (Ideal.liftRound Int.floor (Ideal.div (Ideal.log (y i)) (Ideal.log (Ideal.ofBits .f32 1073741824#32))) + Ideal.ofBits .f32 0x3F800000#32) (Ideal.ofBits .f32 1123811328#32)) = _
  rw [ofBits_one, ofBits_zero]
  unfold Cert.Expo.expo Scalar.select Ideal.cmp
  by_cases h : y i < Ideal.ofBits .f32 8388608#32
  · simp [h]
  · simp [h]

theorem exp2_apply {S : Shape} (u : FVec Ideal S .f32) (i : S.Idx) : exp2 u i = Ideal.exp2 (u i) := rfl

/-- Both clips. -/
def clip (a : EReal) : EReal := min (Ideal.ofBits .f32 1138753536#32) (max (Ideal.ofBits .f32 3286237184#32) a)

theorem clip_apply {S : Shape} (u : FVec Ideal S .f32) (i : S.Idx) :
    minimumf (broadcast S (Scalar.ofBits (F := Ideal) .f32 0x43E00000#32)) (maximumf (broadcast S (Scalar.ofBits (F := Ideal) .f32 0xC3E00000#32)) u) i = clip (u i) := rfl

theorem down_zero (a w : EReal) : a * Ideal.exp2 (Ideal.ofBits .f32 0x00000000#32 - w) = a * Ideal.exp2 (0 - w) := by rw [ofBits_zero]

theorem exp2_sub_apply {S : Shape} (w : FVec Ideal S .f32) (i : S.Idx) :
    exp2 (subf (broadcast S (Scalar.ofBits (F := Ideal) .f32 0x00000000#32)) w) i = Ideal.exp2 (Ideal.ofBits .f32 0x00000000#32 - w i) := rfl

/-- A row of the input times the inverse of its scale. -/
theorem down3_apply (u : FVec Ideal S6x256x2880 .f32) (w : FVec Ideal S6x256x1 .f32) (b : Fin 6) (s : Fin 256) (d : Fin 2880) :
    mulf u (broadcastTo S6x256x2880 (exp2 (subf (broadcast S6x256x1 (Scalar.ofBits (F := Ideal) .f32 0x00000000#32)) w)) broadcasts_S6x256x1_S6x256x2880) (ix3 b s d)
      = u (ix3 b s d) * Ideal.exp2 (0 - w (ix3 b s (0 : Fin 1))) := by
  rw [← down_zero, ← exp2_sub_apply]
  generalize exp2 (subf (broadcast S6x256x1 (Scalar.ofBits (F := Ideal) .f32 0x00000000#32)) w) = z
  pointwise []

/-- A head vector times the inverse of its scale. -/
theorem down4_apply (u : FVec Ideal S6x256x30x96 .f32) (w : FVec Ideal S6x256x30x1 .f32) (b : Fin 6) (s : Fin 256) (h : Fin 30) (r : Fin 96) :
    mulf u (broadcastTo S6x256x30x96 (exp2 (subf (broadcast S6x256x30x1 (Scalar.ofBits (F := Ideal) .f32 0x00000000#32)) w)) broadcasts_S6x256x30x1_S6x256x30x96) (ix4 b s h r)
      = u (ix4 b s h r) * Ideal.exp2 (0 - w (ix4 b s h (0 : Fin 1))) := by
  rw [← down_zero, ← exp2_sub_apply]
  generalize exp2 (subf (broadcast S6x256x30x1 (Scalar.ofBits (F := Ideal) .f32 0x00000000#32)) w) = z
  pointwise []

theorem scaled_apply {S : Shape} (u : FVec Ideal S .f32) (c : BitVec 32) (i : S.Idx) :
    mulf u (broadcast S (Scalar.ofBits (F := Ideal) .f32 c)) i = u i * Ideal.ofBits .f32 c := rfl

/-- The largest magnitude of a row, over the whole input. -/
theorem amax3_apply (x : Vec Ideal S6x256x2880 .bf16) (b : Fin 6) (s : Fin 256) :
    shapeCast S6x256x1 (multiReduction .maximumf [2] S6x256 (absf (k0_pay4 (F := Ideal) x)) 0xFF800000#32 reduces_S6x256x2880_S6x256 (.inl rfl) rfl)
      shapeCasts_S6x256_S6x256x1 (ix3 b s (0 : Fin 1)) = amax (fun k => x (ix3 b s k)) := by
  have h : amax (fun k => x (ix3 b s k)) = Finset.fold max (Ideal.ofBits .f32 4286578688#32) (fun k => FloatOps.absf (F := Ideal) (φ := .f32) (x (ix3 b s k))) Finset.univ := rfl
  generalize amax (fun k => x (ix3 b s k)) = R at h ⊢
  pointwise [k0_pay4]
  exact h.symm

/-- The largest magnitude of a head vector. -/
theorem amax4_apply (v : FVec Ideal S6x256x30x96 .f32) (b : Fin 6) (s : Fin 256) (h : Fin 30) :
    shapeCast S6x256x30x1 (multiReduction .maximumf [3] S6x256x30 (absf v) 0xFF800000#32 reduces_S6x256x30x96_S6x256x30 (.inl rfl) rfl)
      shapeCasts_S6x256x30_S6x256x30x1 (ix4 b s h (0 : Fin 1)) = amax (fun k => v (ix4 b s h k)) := by
  have h' : amax (fun k => v (ix4 b s h k)) = Finset.fold max (Ideal.ofBits .f32 4286578688#32) (fun k => FloatOps.absf (F := Ideal) (φ := .f32) (v (ix4 b s h k))) Finset.univ := rfl
  generalize amax (fun k => v (ix4 b s h k)) = R at h' ⊢
  pointwise []
  exact h'.symm

theorem pay5_apply (x : Vec Ideal S6x256x2880 .bf16) (b : Fin 6) (s : Fin 256) :
    k0_pay5 (F := Ideal) x (ix3 b s (0 : Fin 1)) = rowExpo (fun k => x (ix3 b s k)) := by
  unfold rowExpo
  refine (expo_apply _ _).trans (congrArg Cert.Expo.expo ?_)
  exact (scaled_apply _ _ _).trans (congrArg (· * Ideal.ofBits .f32 991054117#32) (amax3_apply x b s))

theorem pay6_apply (x : Vec Ideal S6x256x2880 .bf16) (b : Fin 6) (s : Fin 256) (d : Fin 2880) :
    k0_pay6 (F := Ideal) x (ix3 b s d) = quant (fun k => x (ix3 b s k)) d := by
  unfold quant
  rw [← pay5_apply]
  refine (clip_apply _ _).trans (congrArg clip ?_)
  generalize k0_pay5 x = w
  exact down3_apply (k0_pay4 x) w b s d

theorem pay7_apply (x : Vec Ideal S6x256x2880 .bf16) (b : Fin 6) (s : Fin 256) :
    k0_pay7 (F := Ideal) x (ix3 b s (0 : Fin 1)) = qscale (fun k => x (ix3 b s k)) := by
  unfold qscale
  rw [← pay5_apply]
  exact exp2_apply (k0_pay5 x) _

theorem pay8_apply (x : Vec Ideal S6x256x2880 .bf16) (b : Fin 6) (s : Fin 256) (d : Fin 2880) :
    k0_pay8 (F := Ideal) x (ix3 b d s) = quant (fun k => x (ix3 b s k)) d := by
  rw [← pay6_apply]
  unfold k0_pay8
  generalize k0_pay6 x = w
  pointwise []

theorem pay9_apply (x : FVec Ideal S6x256x1 .f32) (b : Fin 6) (s : Fin 256) :
    k0_pay9 (F := Ideal) x (ix3 b (0 : Fin 1) s) = x (ix3 b s (0 : Fin 1)) := by
  pointwise [k0_pay9]

theorem pay16_apply (v : FVec Ideal S6x256x30x96 .f32) (b : Fin 6) (s : Fin 256) (h : Fin 30) :
    k0_pay16 (F := Ideal) v (ix4 b s h (0 : Fin 1)) = rowExpo (fun k => v (ix4 b s h k)) := by
  unfold rowExpo
  refine (expo_apply _ _).trans (congrArg Cert.Expo.expo ?_)
  exact (scaled_apply _ _ _).trans (congrArg (· * Ideal.ofBits .f32 991054117#32) (amax4_apply v b s h))

theorem pay20_apply (v : FVec Ideal S6x256x30x96 .f32) (b : Fin 6) (s : Fin 256) (h : Fin 30) :
    k0_pay20 (F := Ideal) v (ix4 b s h (0 : Fin 1)) = rowExpo (fun k => v (ix4 b s h k)) :=
  pay16_apply v b s h

theorem pay18_apply (v : FVec Ideal S6x256x30x96 .f32) (b : Fin 6) (s : Fin 256) (h : Fin 30) (r : Fin 96) :
    k0_pay18 (F := Ideal) (k0_pay17 v) (Scalar.ofBits .f32 0xC3E00000#32) (ix4 b s h r) = quant (fun k => v (ix4 b s h k)) r := by
  unfold quant
  rw [← pay16_apply]
  refine (clip_apply _ _).trans (congrArg clip ?_)
  unfold k0_pay17
  generalize k0_pay16 v = w
  exact down4_apply v w b s h r

theorem pay19_apply (v : FVec Ideal S6x256x30x96 .f32) (b : Fin 6) (s : Fin 256) (h : Fin 30) :
    k0_pay19 (F := Ideal) (k0_pay16 v) (ix4 b s h (0 : Fin 1)) = qscale (fun k => v (ix4 b s h k)) := by
  unfold qscale
  rw [← pay16_apply]
  exact exp2_apply (k0_pay16 v) _

theorem pay21_apply (v : FVec Ideal S6x256x30x96 .f32) (b : Fin 6) (s : Fin 256) (h : Fin 30) (r : Fin 96) :
    k0_pay21 (F := Ideal) v (ix4 b s h r) = quant (fun k => v (ix4 b s h k)) r :=
  pay18_apply v b s h r

theorem pay22_apply (v : FVec Ideal S6x256x30x96 .f32) (b : Fin 6) (s : Fin 256) (h : Fin 30) :
    k0_pay22 (F := Ideal) v (ix4 b s h (0 : Fin 1)) = qscale (fun k => v (ix4 b s h k)) :=
  pay19_apply v b s h

/-! ## The projection, the rotation and the normalisation -/

theorem pay10_apply (xc : FVec Ideal S6x256x2880 .fp8e4m3) (xs : FVec Ideal S6x256x1 .f32) (w : Vec Ideal S3x30x96x2880 .fp8e4m3)
    (ws : Vec Ideal S3x30x96 .f32) (b : Fin 6) (s : Fin 256) (p : Fin 3) (h : Fin 30) (r : Fin 96) :
    k0_pay10 xc xs w ws (ix5 b s p h r)
      = proj (fun k => xc (ix3 b s k)) (xs (ix3 b s (0 : Fin 1))) (fun k => w (ix4 p h r k)) (ws (ix3 p h r)) := by
  unfold proj
  pointwise [k0_pay10]

/-- The rotation and the normalisation, over any head vectors. -/
def rotn (v2 v5 : FVec Ideal S1x256x1x48 .f32) (v6 : FVec Ideal S30x96 .f32) (v55 : FVec Ideal S6x256x30x96 .f32) : FVec Ideal S6x256x30x96 .f32 :=
  have v56 : FVec Ideal S6x256x30x48 .f32 := extractStridedSlice S6x256x30x48 ![0, 0, 0, 0] v55 slices_S6x256x30x96_o0_0_0_0_S6x256x30x48
  have v57 : FVec Ideal S6x256x30x48 .f32 := extractStridedSlice S6x256x30x48 ![0, 0, 0, 48] v55 slices_S6x256x30x96_o0_0_0_48_S6x256x30x48
  have v58 : FVec Ideal S6x256x30x48 .f32 := broadcastTo S6x256x30x48 v2 broadcasts_S1x256x1x48_S6x256x30x48
  have v60 : FVec Ideal S6x256x30x48 .f32 := broadcastTo S6x256x30x48 v5 broadcasts_S1x256x1x48_S6x256x30x48
  have v62 : FVec Ideal S6x256x30x48 .f32 := subf (mulf v56 v58) (mulf v57 v60)
  have v67 : FVec Ideal S6x256x30x48 .f32 := addf (mulf v57 v58) (mulf v56 v60)
  have v68 : FVec Ideal S6x256x30x96 .f32 := concatenate S6x256x30x96 3 [⟨S6x256x30x48, v62⟩, ⟨S6x256x30x48, v67⟩] concatenates_S6x256x30x48_S6x256x30x48_S6x256x30x96_d3
  have v70 : FVec Ideal S6x256x30 .f32 := multiReduction .add [3] S6x256x30 (mulf v68 v68) 0x00000000#32 reduces_S6x256x30x96_S6x256x30 (.inl rfl) rfl
  have v71 : FVec Ideal S6x256x30x1 .f32 := shapeCast S6x256x30x1 v70 shapeCasts_S6x256x30_S6x256x30x1
  have v74 : FVec Ideal S6x256x30x1 .f32 := rsqrt (addf v71 (broadcast S6x256x30x1 (Scalar.ofBits .f32 0x2B8CBCCC#32)))
  have v76 : FVec Ideal S6x256x30x96 .f32 := mulf v68 (broadcastTo S6x256x30x96 v74 broadcasts_S6x256x30x1_S6x256x30x96)
  have v77 : FVec Ideal S1x1x30x96 .f32 := shapeCast S1x1x30x96 v6 shapeCasts_S30x96_S1x1x30x96
  mulf (broadcastTo S6x256x30x96 v77 broadcasts_S1x1x30x96_S6x256x30x96) v76

set_option maxHeartbeats 1000000 in
theorem rotn_apply (v2 v5 : FVec Ideal S1x256x1x48 .f32) (v6 : FVec Ideal S30x96 .f32) (v55 : FVec Ideal S6x256x30x96 .f32)
    (b : Fin 6) (s : Fin 256) (h : Fin 30) (r : Fin 96) :
    rotn v2 v5 v6 v55 (ix4 b s h r) = normed (fun k => v6 (ix2 h k)) (fun k => v55 (ix4 b s h k))
      (fun k => v2 (ix4 (0 : Fin 1) s (0 : Fin 1) k)) (fun k => v5 (ix4 (0 : Fin 1) s (0 : Fin 1) k)) r := by
  unfold normed rlo rhi
  pointwise [rotn]

/-- One of the three projections, as head vectors. -/
theorem pay11_eq (v2 v5 : FVec Ideal S1x256x1x48 .f32) (v6 : Vec Ideal S30x96 .f32) (xc : FVec Ideal S6x256x2880 .fp8e4m3) (xs : FVec Ideal S6x256x1 .f32)
    (w : Vec Ideal S3x30x96x2880 .fp8e4m3) (ws : Vec Ideal S3x30x96 .f32) :
    k0_pay11 v2 v5 v6 xc xs w ws = rotn v2 v5 v6 (shapeCast S6x256x30x96 (extractStridedSlice S6x256x1x30x96 ![0, 0, 0, 0, 0]
      (k0_pay10 xc xs w ws) slices_S6x256x3x30x96_o0_0_0_0_0_S6x256x1x30x96) shapeCasts_S6x256x1x30x96_S6x256x30x96) := rfl

theorem pay14_eq (v2 v5 : FVec Ideal S1x256x1x48 .f32) (v6 : Vec Ideal S30x96 .f32) (xc : FVec Ideal S6x256x2880 .fp8e4m3) (xs : FVec Ideal S6x256x1 .f32)
    (w : Vec Ideal S3x30x96x2880 .fp8e4m3) (ws : Vec Ideal S3x30x96 .f32) :
    k0_pay14 v2 v5 v6 (k0_pay12 xc xs w ws) (k0_pay13 xc xs w ws) = rotn v2 v5 v6 (k0_pay12 xc xs w ws) := rfl

theorem slice0_apply (v : FVec Ideal S6x256x3x30x96 .f32) (b : Fin 6) (s : Fin 256) (h : Fin 30) (r : Fin 96) :
    shapeCast S6x256x30x96 (extractStridedSlice S6x256x1x30x96 ![0, 0, 0, 0, 0] v slices_S6x256x3x30x96_o0_0_0_0_0_S6x256x1x30x96)
      shapeCasts_S6x256x1x30x96_S6x256x30x96 (ix4 b s h r) = v (ix5 b s (0 : Fin 3) h r) := by
  pointwise []

theorem slice1_apply (v : FVec Ideal S6x256x3x30x96 .f32) (b : Fin 6) (s : Fin 256) (h : Fin 30) (r : Fin 96) :
    shapeCast S6x256x30x96 (extractStridedSlice S6x256x1x30x96 ![0, 0, 1, 0, 0] v slices_S6x256x3x30x96_o0_0_1_0_0_S6x256x1x30x96)
      shapeCasts_S6x256x1x30x96_S6x256x30x96 (ix4 b s h r) = v (ix5 b s (1 : Fin 3) h r) := by
  pointwise []

theorem pay15_apply (v : FVec Ideal S6x256x3x30x96 .f32) (b : Fin 6) (s : Fin 256) (h : Fin 30) (r : Fin 96) :
    k0_pay15 v (ix4 b s h r) = v (ix5 b s (2 : Fin 3) h r) := by
  pointwise [k0_pay15]

theorem pay2_apply (v : Vec Ideal S256x48 .f32) (s : Fin 256) (k : Fin 48) :
    k0_pay2 v (ix4 (0 : Fin 1) s (0 : Fin 1) k) = v (ix2 s k) := by
  pointwise [k0_pay2]

theorem pay3_apply (v : Vec Ideal S256x48 .f32) (s : Fin 256) (k : Fin 48) :
    k0_pay3 v (ix4 (0 : Fin 1) s (0 : Fin 1) k) = v (ix2 s k) := by
  pointwise [k0_pay3]

/-! ## What is stored -/

theorem pay23_apply (v : FVec Ideal S6x256x30x96 .f32) (b : Fin 6) (s : Fin 256) (h : Fin 30) (r : Fin 96) :
    k0_pay23 (F := Ideal) (k0_pay17 v) (Scalar.ofBits .f32 0xC3E00000#32) (ix4 b h r s) = quant (fun k => v (ix4 b s h k)) r := by
  rw [← pay18_apply]
  unfold k0_pay23
  generalize k0_pay18 (F := Ideal) (k0_pay17 v) (Scalar.ofBits .f32 0xC3E00000#32) = w
  pointwise []

theorem pay25_apply (v : FVec Ideal S6x256x30x96 .fp8e4m3) (b : Fin 6) (s : Fin 256) (h : Fin 30) (r : Fin 96) :
    k0_pay25 (F := Ideal) v (ix4 b h r s) = v (ix4 b s h r) := by
  pointwise [k0_pay25]

theorem pay24_apply (v : FVec Ideal S6x256x30x1 .f32) (b : Fin 6) (s : Fin 256) (h : Fin 30) :
    k0_pay24 (F := Ideal) v (ix3 b h s) = k0_pay19 v (ix4 b s h (0 : Fin 1)) := by
  unfold k0_pay24
  generalize k0_pay19 v = w
  pointwise []

theorem pay26_apply (v : FVec Ideal S6x256x30x1 .f32) (b : Fin 6) (s : Fin 256) (h : Fin 30) :
    k0_pay26 (F := Ideal) v (ix3 b h s) = v (ix4 b s h (0 : Fin 1)) := by
  pointwise [k0_pay26]

end Cert.ReferenceIdeal.Hand

end
-- ==== Proof.RAttn.lean ====
/-
  The reference's attention over any codes, scales and values, read at an index, over the extended reals.
-/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen
open Idealize.ShloMosaic
open Cert.Spec

/-- Batch entry and head as one index. -/
def bh (b : Fin 6) (h : Fin 30) : Fin 180 := ⟨b.val * 30 + h.val, by omega⟩

/-- Heads before positions, and batch entries with heads. -/
def heads {e : FTy} (v : FVec Ideal S6x256x30x96 e) : FVec Ideal S180x256x96 e :=
  shapeCast S180x256x96 (transpose S6x30x256x96 [0, 2, 1, 3] v transposes_S6x256x30x96_p0_2_1_3_S6x30x256x96) shapeCasts_S6x30x256x96_S180x256x96

theorem heads_apply' {e : FTy} (v : FVec Ideal S6x256x30x96 e) (n : Fin 180) (s : Fin 256) (r : Fin 96) :
    heads v (ix3 n s r) = v (ix4 (⟨n.val / 30, by omega⟩ : Fin 6) s (⟨n.val % 30, by omega⟩ : Fin 30) r) := by
  pointwise [heads]

theorem heads_apply {e : FTy} (v : FVec Ideal S6x256x30x96 e) (b : Fin 6) (h : Fin 30) (s : Fin 256) (r : Fin 96) :
    heads v (ix3 (bh b h) s r) = v (ix4 b s h r) := by
  rw [heads_apply']
  have h1 : (⟨(bh b h).val / 30, by have := (bh b h).isLt; omega⟩ : Fin 6) = b := by apply Fin.ext; show (b.val * 30 + h.val) / 30 = b.val; omega
  have h2 : (⟨(bh b h).val % 30, by omega⟩ : Fin 30) = h := by apply Fin.ext; show (b.val * 30 + h.val) % 30 = h.val; omega
  rw [h1, h2]

/-- The same of the scales. -/
def headScales (v : FVec Ideal S6x256x30x1 .f32) : FVec Ideal S180x256x1 .f32 :=
  shapeCast S180x256x1 (transpose S6x30x256x1 [0, 2, 1, 3] v transposes_S6x256x30x1_p0_2_1_3_S6x30x256x1) shapeCasts_S6x30x256x1_S180x256x1

theorem headScales_apply' (v : FVec Ideal S6x256x30x1 .f32) (n : Fin 180) (s : Fin 256) :
    headScales v (ix3 n s (0 : Fin 1)) = v (ix4 (⟨n.val / 30, by omega⟩ : Fin 6) s (⟨n.val % 30, by omega⟩ : Fin 30) (0 : Fin 1)) := by
  pointwise [headScales]

theorem headScales_apply (v : FVec Ideal S6x256x30x1 .f32) (b : Fin 6) (h : Fin 30) (s : Fin 256) :
    headScales v (ix3 (bh b h) s (0 : Fin 1)) = v (ix4 b s h (0 : Fin 1)) := by
  rw [headScales_apply']
  have h1 : (⟨(bh b h).val / 30, by have := (bh b h).isLt; omega⟩ : Fin 6) = b := by apply Fin.ext; show (b.val * 30 + h.val) / 30 = b.val; omega
  have h2 : (⟨(bh b h).val % 30, by omega⟩ : Fin 30) = h := by apply Fin.ext; show (b.val * 30 + h.val) % 30 = h.val; omega
  rw [h1, h2]

/-- The products of queries and keys. -/
def dots (q k : FVec Ideal S180x256x96 .fp8e4m3) : FVec Ideal S180x256x256 .f32 :=
  matmul dot_S180x256x96_S180x256x96_S180x256x256_2_2_1_1_0_0 none q k (constant S180x256x256 .f32 0x00000000#32)

theorem dots_apply (q k : FVec Ideal S180x256x96 .fp8e4m3) (n : Fin 180) (s u : Fin 256) : dots q k (ix3 n s u) = ∑ r, q (ix3 n s r) * k (ix3 n u r) := by
  pointwise [dots]

/-- The same under both scales. -/
def scaled (d : FVec Ideal S180x256x256 .f32) (qs ks : FVec Ideal S180x256x1 .f32) : FVec Ideal S180x256x256 .f32 :=
  have v185 : FVec Ideal S180x256x1 .f32 := mulf (broadcast S180x256x1 (Scalar.ofBits .f32 0x411CC471#32)) qs
  have v187 : FVec Ideal S180x256x256 .f32 := mulf d (broadcastTo S180x256x256 v185 broadcasts_S180x256x1_S180x256x256)
  have v190 : FVec Ideal S180x1x256 .f32 := transpose S180x1x256 [0, 2, 1] ks transposes_S180x256x1_p0_2_1_S180x1x256
  mulf v187 (broadcastTo S180x256x256 v190 broadcasts_S180x1x256_S180x256x256)

theorem scaled_apply3 (d : FVec Ideal S180x256x256 .f32) (qs ks : FVec Ideal S180x256x1 .f32) (n : Fin 180) (s u : Fin 256) :
    scaled d qs ks (ix3 n s u) = d (ix3 n s u) * (Ideal.ofBits .f32 1092404337#32 * qs (ix3 n s (0 : Fin 1))) * ks (ix3 n u (0 : Fin 1)) := by
  pointwise [scaled]

def queryPos : IVec S180x256x256 32 := iota .tc S180x256x256 32 [1] iota_S180x256x256_d1_w32
def keyPos : IVec S180x256x256 32 := iota .tc S180x256x256 32 [2] iota_S180x256x256_d2_w32

/-- Later keys masked. -/
def masked (v189 : FVec Ideal S180x256x256 .f32) : FVec Ideal S180x256x256 .f32 :=
  select (cmpi .sge queryPos keyPos) v189 (broadcast S180x256x256 (Scalar.ofBits (F := Ideal) .f32 0xFF800000#32))

theorem pos_sge (n : Fin 180) (s u : Fin 256) : (cmpi .sge queryPos keyPos) (ix3 n s u) = if u.val ≤ s.val then 1 else 0 := by
  have e1 : queryPos (ix3 n s u) = BitVec.ofNat 32 s.val := by pointwise [queryPos]
  have e2 : keyPos (ix3 n s u) = BitVec.ofNat 32 u.val := by pointwise [keyPos]
  show BitVec.ofBool (BitVec.sle (keyPos (ix3 n s u)) (queryPos (ix3 n s u))) = _
  rw [e1, e2]
  have hu := u.isLt
  have hs := s.isLt
  have : (BitVec.sle (BitVec.ofNat 32 u.val) (BitVec.ofNat 32 s.val)) = decide (u.val ≤ s.val) := by
    rw [BitVec.sle_eq_decide]
    congr 1
    rw [BitVec.toInt_eq_toNat_of_lt (by simp [BitVec.toNat_ofNat]; omega), BitVec.toInt_eq_toNat_of_lt (by simp [BitVec.toNat_ofNat]; omega)]
    simp only [BitVec.toNat_ofNat]
    rw [Nat.mod_eq_of_lt (by omega), Nat.mod_eq_of_lt (by omega)]
    simp
  rw [this]
  by_cases h : u.val ≤ s.val <;> simp [h]

theorem masked_apply (v : FVec Ideal S180x256x256 .f32) (n : Fin 180) (s u : Fin 256) :
    masked v (ix3 n s u) = if u.val ≤ s.val then v (ix3 n s u) else Ideal.ofBits .f32 4286578688#32 := by
  show Scalar.select ((cmpi .sge queryPos keyPos) (ix3 n s u)) (v (ix3 n s u)) (Ideal.ofBits .f32 4286578688#32) = _
  rw [pos_sge]
  by_cases h : u.val ≤ s.val <;> simp [h, Scalar.select]

/-- A row's exponentials over its greatest entry's, -/
def expds (v197 : FVec Ideal S180x256x256 .f32) : FVec Ideal S180x256x256 .f32 :=
  have v198 : FVec Ideal S180x256 .f32 := multiReduction .maximumf [2] S180x256 v197 0xFF800000#32 reduces_S180x256x256_S180x256 (.inl rfl) rfl
  have v199 : FVec Ideal S180x256x1 .f32 := shapeCast S180x256x1 v198 shapeCasts_S180x256_S180x256x1
  exp (subf v197 (broadcastTo S180x256x256 v199 broadcasts_S180x256x1_S180x256x256))

theorem expds_apply (v : FVec Ideal S180x256x256 .f32) (n : Fin 180) (s u : Fin 256) : expds v (ix3 n s u) = expd (fun u => v (ix3 n s u)) u := by
  have h : expd (fun u => v (ix3 n s u)) u = Ideal.exp (v (ix3 n s u) - (Finset.univ : Finset (Fin 256)).fold max (Ideal.ofBits .f32 4286578688#32) (fun u => v (ix3 n s u))) := rfl
  generalize expd (fun u => v (ix3 n s u)) u = R at h ⊢
  pointwise [expds]
  exact h.symm

/-- over their sum. -/
def weights (v202 : FVec Ideal S180x256x256 .f32) : FVec Ideal S180x256x256 .bf16 :=
  have v203 : FVec Ideal S180x256 .f32 := multiReduction .add [2] S180x256 v202 0x00000000#32 reduces_S180x256x256_S180x256 (.inl rfl) rfl
  have v204 : FVec Ideal S180x256x1 .f32 := shapeCast S180x256x1 v203 shapeCasts_S180x256_S180x256x1
  truncf .bf16 (divf v202 (broadcastTo S180x256x256 v204 broadcasts_S180x256x1_S180x256x256)) bitsLt_bf16_f32

theorem weights_apply (v : FVec Ideal S180x256x256 .f32) (n : Fin 180) (s u : Fin 256) :
    weights v (ix3 n s u) = Ideal.div (v (ix3 n s u)) (∑ k, v (ix3 n s k)) := by
  pointwise [weights]

/-- The weighted sum of the values. -/
def mixed (w : FVec Ideal S180x256x256 .bf16) (v : FVec Ideal S180x256x96 .bf16) : FVec Ideal S180x256x96 .f32 :=
  matmul dot_S180x256x256_S180x256x96_S180x256x96_2_1_1_2_0_0 none w v (constant S180x256x96 .f32 0x00000000#32)

theorem mixed_apply (w : FVec Ideal S180x256x256 .bf16) (v : FVec Ideal S180x256x96 .bf16) (n : Fin 180) (s : Fin 256) (r : Fin 96) :
    mixed w v (ix3 n s r) = ∑ u, w (ix3 n s u) * v (ix3 n u r) := by
  pointwise [mixed]

/-- The output as it is stored. -/
def outT (o : FVec Ideal S180x256x96 .f32) : FVec Ideal S6x30x96x256 .f32 :=
  transpose S6x30x96x256 [0, 1, 3, 2] (shapeCast S6x30x256x96 o shapeCasts_S180x256x96_S6x30x256x96) transposes_S6x30x256x96_p0_1_3_2_S6x30x96x256

theorem outT_apply (o : FVec Ideal S180x256x96 .f32) (b : Fin 6) (h : Fin 30) (r : Fin 96) (s : Fin 256) :
    outT o (ix4 b h r s) = o (ix3 (bh b h) s r) := by
  pointwise [outT, bh]

theorem pay27_eq (v : FVec Ideal S6x256x30x96 .bf16) (q k : FVec Ideal S6x256x30x96 .fp8e4m3) (qs ks : FVec Ideal S6x256x30x1 .f32) :
    k0_pay27 v q qs k ks = outT (mixed (weights (expds (masked (scaled (dots (heads q) (heads k)) (headScales qs) (headScales ks))))) (heads v)) := rfl

theorem pay27_apply (v : FVec Ideal S6x256x30x96 .bf16) (q k : FVec Ideal S6x256x30x96 .fp8e4m3) (qs ks : FVec Ideal S6x256x30x1 .f32)
    (b : Fin 6) (h : Fin 30) (r : Fin 96) (s : Fin 256) :
    k0_pay27 v q qs k ks (ix4 b h r s)
      = ∑ u, weight (fun u => score (fun r => q (ix4 b s h r)) (fun r => k (ix4 b u h r)) (qs (ix4 b s h (0 : Fin 1))) (ks (ix4 b u h (0 : Fin 1))) u s) u * v (ix4 b u h r) := by
  have e : ∀ u, masked (scaled (dots (heads q) (heads k)) (headScales qs) (headScales ks)) (ix3 (bh b h) s u)
      = score (fun r => q (ix4 b s h r)) (fun r => k (ix4 b u h r)) (qs (ix4 b s h (0 : Fin 1))) (ks (ix4 b u h (0 : Fin 1))) u s := by
    intro u
    rw [masked_apply, scaled_apply3, dots_apply]
    unfold score
    simp only [heads_apply, headScales_apply]
  rw [pay27_eq, outT_apply, mixed_apply]
  refine Finset.sum_congr rfl fun u _ => ?_
  rw [weights_apply, heads_apply]
  simp only [expds_apply, e]
  rfl

/-- The greatest magnitude over heads and channels. -/
theorem pay1_apply (o : FVec Ideal S6x30x96x256 .f32) (b : Fin 6) (s : Fin 256) :
    k0_pay1 o (ix3 b (0 : Fin 1) s) = (Finset.univ : Finset (Fin 30)).fold max (Ideal.ofBits .f32 4286578688#32) (fun h => amax (fun r => o (ix4 b h r s))) := by
  have h : (Finset.univ : Finset (Fin 30)).fold max (Ideal.ofBits .f32 4286578688#32) (fun h => amax (fun r => o (ix4 b h r s)))
      = (Finset.univ : Finset (Fin 30)).fold max (Ideal.ofBits .f32 4286578688#32) (fun h =>
        (Finset.univ : Finset (Fin 96)).fold max (Ideal.ofBits .f32 4286578688#32) (fun r => FloatOps.absf (F := Ideal) (φ := .f32) (o (ix4 b h r s)))) := rfl
  generalize (Finset.univ : Finset (Fin 30)).fold max (Ideal.ofBits .f32 4286578688#32) (fun h => amax (fun r => o (ix4 b h r s))) = R at h ⊢
  pointwise [k0_pay1]
  exact h.symm

end Cert.ReferenceIdeal.Hand

end
-- ==== Proof.RVal.lean ====
/-
  What the reference's results hold after a run.
-/
module

public import proofs.«01_k».proof.Proof.Gen.ReferenceIdeal.Frame
public import proofs.«01_k».proof.Proof.RRead
public import proofs.«01_k».proof.Proof.RAttn
public import proofs.«01_k».proof.Proof.Arrays
public import Idealize.ShloMosaic.Lib.Pipeline.Value
public import Idealize.ShloMosaic.Lib.Pipeline.ValueKit.Geometry

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)
open Cert.Spec

/-- Six arrays read as inputs. -/
def inputsOf (x0 : S6x256x2880.Idx → EReal) (x1 : S3x30x96x2880.Idx → EReal) (x2 : S3x30x96.Idx → EReal) (x3 : S30x96.Idx → EReal)
    (x4 x5 : S256x48.Idx → EReal) : Inputs where
  x b s d := x0 (ix3 b s d)
  w p h r d := x1 (ix4 p h r d)
  ws p h r := x2 (ix3 p h r)
  sqk h r := x3 (ix2 h r)
  cs s k := x4 (ix2 s k)
  sn s k := x5 (ix2 s k)

section Values

variable (x0 : Vec Ideal S6x256x2880 .bf16) (x1 : Vec Ideal S3x30x96x2880 .fp8e4m3) (x2 : Vec Ideal S3x30x96 .f32) (x3 : Vec Ideal S30x96 .f32)
  (x4 x5 : Vec Ideal S256x48 .f32)

local notation "J" => inputsOf x0 x1 x2 x3 x4 x5

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide

theorem xld : View.ld (Val := Elt Ideal) x0 r0_2 = x0 := View.ld_unit_zero z3 _ _
theorem wld : View.ld (Val := Elt Ideal) x1 r0_5 = x1 := View.ld_unit_zero z4 _ _
theorem wsld : View.ld (Val := Elt Ideal) x2 r0_6 = x2 := View.ld_unit_zero z3 _ _
theorem gld : View.ld (Val := Elt Ideal) x3 r0_1 = x3 := View.ld_unit_zero z2 _ _
theorem tld (x : Vec Ideal S256x48 .f32) : View.ld (Val := Elt Ideal) x r0_0 = x := View.ld_unit_zero z2 _ _

/-- A projection. -/
theorem proj_apply (b : Fin 6) (s : Fin 256) (p : Fin 3) (h : Fin 30) (r : Fin 96) :
    k0_pay10 (k0_pay30 x0 x1 x2 x3 x4 x5) (k0_pay31 x0 x1 x2 x3 x4 x5) x1 x2 (ix5 b s p h r) = pj J p h b s r := by
  rw [pay10_apply]
  unfold k0_pay30 k0_pay31
  rw [xld, pay7_apply, funext (pay6_apply x0 b s)]
  rfl

/-- The queries, -/
theorem q_apply (b : Fin 6) (s : Fin 256) (h : Fin 30) (r : Fin 96) :
    k0_pay32 x0 x1 x2 x3 x4 x5 (ix4 b s h r) = qv J h b s r := by
  unfold k0_pay32 k0_pay28 k0_pay29
  rw [pay11_eq, rotn_apply, gld, wld, wsld, tld, tld]
  simp only [slice0_apply, pay2_apply, pay3_apply, proj_apply]
  rfl

/-- the keys. -/
theorem k_apply (b : Fin 6) (s : Fin 256) (h : Fin 30) (r : Fin 96) :
    k0_pay33 x0 x1 x2 x3 x4 x5 (ix4 b s h r) = kv J h b s r := by
  unfold k0_pay33 k0_pay28 k0_pay29
  rw [pay14_eq, rotn_apply, gld, wld, wsld, tld, tld]
  have e : ∀ k, k0_pay12 (k0_pay30 x0 x1 x2 x3 x4 x5) (k0_pay31 x0 x1 x2 x3 x4 x5) x1 x2 (ix4 b s h k) = pj J 1 h b s k := fun k =>
    (slice1_apply _ b s h k).trans (proj_apply x0 x1 x2 x3 x4 x5 b s 1 h k)
  simp only [pay2_apply, pay3_apply, e]
  rfl

/-- The output. -/
theorem o_apply (b : Fin 6) (h : Fin 30) (r : Fin 96) (s : Fin 256) : k0_pay38 x0 x1 x2 x3 x4 x5 (ix4 b h r s) = ov J h b s r := by
  unfold k0_pay38 k0_pay34 k0_pay35 k0_pay36 k0_pay37
  rw [wld, wsld, pay27_apply]
  simp only [pay15_apply, proj_apply, pay18_apply, pay19_apply, pay21_apply, pay22_apply, q_apply, k_apply]
  rfl

theorem out6_apply (j : S6x2880x256.Idx) : out0_6 x0 x1 x2 x3 x4 x5 j = arrX J j := by
  unfold out0_6
  rw [View.canon_unit_zero z3, xld]
  exact (congrArg _ (eta3 j)).trans (pay8_apply x0 _ _ _)

theorem out7_apply (j : S6x1x256.Idx) : out0_7 x0 x1 x2 x3 x4 x5 j = arrXs J j := by
  unfold out0_7 k0_pay31
  rw [View.canon_unit_zero z3, xld]
  exact (congrArg _ (eta31 j)).trans ((pay9_apply _ _ _).trans (pay7_apply x0 _ _))

theorem out8_apply (j : S6x30x96x256.Idx) : out0_8 x0 x1 x2 x3 x4 x5 j = arrC (qv J) j := by
  unfold out0_8 k0_pay35
  rw [View.canon_unit_zero z4]
  refine (congrArg _ (eta4 j)).trans ((pay23_apply _ _ _ _ _).trans ?_)
  exact congrArg (fun v => quant v _) (funext (q_apply x0 x1 x2 x3 x4 x5 _ _ _))

theorem out9_apply (j : S6x30x256.Idx) : out0_9 x0 x1 x2 x3 x4 x5 j = arrS (qv J) j := by
  unfold out0_9 k0_pay34
  rw [View.canon_unit_zero z3]
  refine (congrArg _ (eta3 j)).trans ((pay24_apply _ _ _ _).trans ((pay19_apply _ _ _ _).trans ?_))
  exact congrArg qscale (funext (q_apply x0 x1 x2 x3 x4 x5 _ _ _))

theorem out10_apply (j : S6x30x96x256.Idx) : out0_10 x0 x1 x2 x3 x4 x5 j = arrC (kv J) j := by
  unfold out0_10 k0_pay36
  rw [View.canon_unit_zero z4]
  refine (congrArg _ (eta4 j)).trans ((pay25_apply _ _ _ _ _).trans ((pay21_apply _ _ _ _ _).trans ?_))
  exact congrArg (fun v => quant v _) (funext (k_apply x0 x1 x2 x3 x4 x5 _ _ _))

theorem out11_apply (j : S6x30x256.Idx) : out0_11 x0 x1 x2 x3 x4 x5 j = arrS (kv J) j := by
  unfold out0_11 k0_pay37
  rw [View.canon_unit_zero z3]
  refine (congrArg _ (eta3 j)).trans ((pay26_apply _ _ _ _).trans ((pay22_apply _ _ _ _).trans ?_))
  exact congrArg qscale (funext (k_apply x0 x1 x2 x3 x4 x5 _ _ _))

theorem out12_apply (j : S6x30x96x256.Idx) : out0_12 x0 x1 x2 x3 x4 x5 j = arrO J j := by
  unfold out0_12
  rw [View.canon_unit_zero z4]
  exact (congrArg _ (eta4 j)).trans (o_apply x0 x1 x2 x3 x4 x5 _ _ _ _)

theorem out13_apply (j : S6x1x256.Idx) : out0_13 x0 x1 x2 x3 x4 x5 j = arrM J j := by
  unfold out0_13
  rw [View.canon_unit_zero z3]
  refine (congrArg _ (eta31 j)).trans ((pay1_apply _ _ _).trans ?_)
  exact congrArg (fun f => Finset.fold max _ f Finset.univ) (funext fun h => congrArg amax (funext fun r => o_apply x0 x1 x2 x3 x4 x5 _ h r _))

end Values

end Cert.ReferenceIdeal.Hand

end
-- ==== Proof.RFinal.lean ====
/-
  The reference's run: its results' arrays.
-/
module

public import proofs.«01_k».proof.Proof.Gen.ReferenceIdeal.Frame
public import proofs.«01_k».proof.Proof.RVal
public import Idealize.ShloMosaic.Lib.Pipeline.Value
public import Idealize.ShloMosaic.Lib.Pipeline.ValueKit.Geometry

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)
open Cert.Spec

/-! ## The run -/

variable (m : (ℓ : Loc nD τ sig) → Buf (Elt Ideal) ℓ) (ρ : Dev nD → PrngReg)

/-- The reference's inputs. -/
def inputs (c : Dev nD) : Inputs :=
  inputsOf (V m c main_arg0) (V m c main_arg1) (V m c main_arg2) (V m c main_arg3) (V m c main_v13) (V m c main_v14)

/-- The one point. -/
def pt : Fin cfg0.N := ⟨0, by decide +kernel⟩

theorem index0 : ∀ t : Fin cfg0.N, win0_0.index t = ![0, 0, 0] := by decide +kernel
theorem index1 : ∀ t : Fin cfg0.N, win0_1.index t = ![0, 0, 0, 0] := by decide +kernel
theorem index2 : ∀ t : Fin cfg0.N, win0_2.index t = ![0, 0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0, 0] := by decide +kernel
theorem index7 : ∀ t : Fin cfg0.N, win0_7.index t = ![0, 0, 0] := by decide +kernel
theorem index8 : ∀ t : Fin cfg0.N, win0_8.index t = ![0, 0, 0, 0] := by decide +kernel
theorem index9 : ∀ t : Fin cfg0.N, win0_9.index t = ![0, 0, 0] := by decide +kernel
theorem index10 : ∀ t : Fin cfg0.N, win0_10.index t = ![0, 0, 0, 0] := by decide +kernel
theorem index11 : ∀ t : Fin cfg0.N, win0_11.index t = ![0, 0, 0] := by decide +kernel
theorem index12 : ∀ t : Fin cfg0.N, win0_12.index t = ![0, 0, 0, 0] := by decide +kernel
theorem index13 : ∀ t : Fin cfg0.N, win0_13.index t = ![0, 0, 0] := by decide +kernel

theorem iblk0_eq (c : Dev nD) (t : Fin cfg0.N) : iblk m c 0 t = V m c main_arg0 := by
  funext y; blk_simp [iblk]; refine congrArg _ ?_; blk_ext [index0 t]
theorem iblk1_eq (c : Dev nD) (t : Fin cfg0.N) : iblk m c 1 t = V m c main_arg1 := by
  funext y; blk_simp [iblk]; refine congrArg _ ?_; blk_ext [index1 t]
theorem iblk2_eq (c : Dev nD) (t : Fin cfg0.N) : iblk m c 2 t = V m c main_arg2 := by
  funext y; blk_simp [iblk]; refine congrArg _ ?_; blk_ext [index2 t]
theorem iblk3_eq (c : Dev nD) (t : Fin cfg0.N) : iblk m c 3 t = V m c main_arg3 := by
  funext y; blk_simp [iblk]; refine congrArg _ ?_; blk_ext [index3 t]
theorem iblk4_eq (c : Dev nD) (t : Fin cfg0.N) : iblk m c 4 t = V m c main_v13 := by
  funext y; blk_simp [iblk]; refine congrArg _ ?_; blk_ext [index4 t]
theorem iblk5_eq (c : Dev nD) (t : Fin cfg0.N) : iblk m c 5 t = V m c main_v14 := by
  funext y; blk_simp [iblk]; refine congrArg _ ?_; blk_ext [index5 t]

theorem arr6 (c : Dev nD) : (dats m 0 c).arrAt 6 cfg0.N = arrX (inputs m c) := by
  funext i
  have hi : ∀ a, (i a : ℕ) < S6x2880x256.size a := fun a => (i a).isLt
  refine Dat.arrAt_forall_of_flushed (dats m 0 c) 6 (fun i v => v = arrX (inputs m c) i) (fun t hf y => ?_) cfg0.N pt i (Fin.isLt _) (flush0_6 _) ?_
  · have hl : ∀ j : S6x2880x256.Idx, (dats m 0 c).after 6 t j = arrX (inputs m c) j := fun j => by
      rw [after0_6, iblk0_eq, iblk1_eq, iblk2_eq, iblk3_eq, iblk4_eq, iblk5_eq]
      exact out6_apply _ _ _ _ _ _ j
    refine (hl y).trans (congrArg (arrX (inputs m c)) ?_)
    blk_ext [index6 t]
  · refine (Pipeline.Window.emb_mem_blk_iff win0_6 pt i rfl).mpr ?_
    intro a
    have h := hi a
    fin_cases a <;> simp [Pipeline.Window.xsize, index6] at h ⊢ <;> omega

theorem arr7 (c : Dev nD) : (dats m 0 c).arrAt 7 cfg0.N = arrXs (inputs m c) := by
  funext i
  have hi : ∀ a, (i a : ℕ) < S6x1x256.size a := fun a => (i a).isLt
  refine Dat.arrAt_forall_of_flushed (dats m 0 c) 7 (fun i v => v = arrXs (inputs m c) i) (fun t hf y => ?_) cfg0.N pt i (Fin.isLt _) (flush0_7 _) ?_
  · have hl : ∀ j : S6x1x256.Idx, (dats m 0 c).after 7 t j = arrXs (inputs m c) j := fun j => by
      rw [after0_7, iblk0_eq, iblk1_eq, iblk2_eq, iblk3_eq, iblk4_eq, iblk5_eq]
      exact out7_apply _ _ _ _ _ _ j
    refine (hl y).trans (congrArg (arrXs (inputs m c)) ?_)
    blk_ext [index7 t]
  · refine (Pipeline.Window.emb_mem_blk_iff win0_7 pt i rfl).mpr ?_
    intro a
    have h := hi a
    fin_cases a <;> simp [Pipeline.Window.xsize, index7] at h ⊢ <;> omega

theorem arr8 (c : Dev nD) : (dats m 0 c).arrAt 8 cfg0.N = arrC (qv (inputs m c)) := by
  funext i
  have hi : ∀ a, (i a : ℕ) < S6x30x96x256.size a := fun a => (i a).isLt
  refine Dat.arrAt_forall_of_flushed (dats m 0 c) 8 (fun i v => v = arrC (qv (inputs m c)) i) (fun t hf y => ?_) cfg0.N pt i (Fin.isLt _) (flush0_8 _) ?_
  · have hl : ∀ j : S6x30x96x256.Idx, (dats m 0 c).after 8 t j = arrC (qv (inputs m c)) j := fun j => by
      rw [after0_8, iblk0_eq, iblk1_eq, iblk2_eq, iblk3_eq, iblk4_eq, iblk5_eq]
      exact out8_apply _ _ _ _ _ _ j
    refine (hl y).trans (congrArg (arrC (qv (inputs m c))) ?_)
    blk_ext [index8 t]
  · refine (Pipeline.Window.emb_mem_blk_iff win0_8 pt i rfl).mpr ?_
    intro a
    have h := hi a
    fin_cases a <;> simp [Pipeline.Window.xsize, index8] at h ⊢ <;> omega

theorem arr9 (c : Dev nD) : (dats m 0 c).arrAt 9 cfg0.N = arrS (qv (inputs m c)) := by
  funext i
  have hi : ∀ a, (i a : ℕ) < S6x30x256.size a := fun a => (i a).isLt
  refine Dat.arrAt_forall_of_flushed (dats m 0 c) 9 (fun i v => v = arrS (qv (inputs m c)) i) (fun t hf y => ?_) cfg0.N pt i (Fin.isLt _) (flush0_9 _) ?_
  · have hl : ∀ j : S6x30x256.Idx, (dats m 0 c).after 9 t j = arrS (qv (inputs m c)) j := fun j => by
      rw [after0_9, iblk0_eq, iblk1_eq, iblk2_eq, iblk3_eq, iblk4_eq, iblk5_eq]
      exact out9_apply _ _ _ _ _ _ j
    refine (hl y).trans (congrArg (arrS (qv (inputs m c))) ?_)
    blk_ext [index9 t]
  · refine (Pipeline.Window.emb_mem_blk_iff win0_9 pt i rfl).mpr ?_
    intro a
    have h := hi a
    fin_cases a <;> simp [Pipeline.Window.xsize, index9] at h ⊢ <;> omega

theorem arr10 (c : Dev nD) : (dats m 0 c).arrAt 10 cfg0.N = arrC (kv (inputs m c)) := by
  funext i
  have hi : ∀ a, (i a : ℕ) < S6x30x96x256.size a := fun a => (i a).isLt
  refine Dat.arrAt_forall_of_flushed (dats m 0 c) 10 (fun i v => v = arrC (kv (inputs m c)) i) (fun t hf y => ?_) cfg0.N pt i (Fin.isLt _) (flush0_10 _) ?_
  · have hl : ∀ j : S6x30x96x256.Idx, (dats m 0 c).after 10 t j = arrC (kv (inputs m c)) j := fun j => by
      rw [after0_10, iblk0_eq, iblk1_eq, iblk2_eq, iblk3_eq, iblk4_eq, iblk5_eq]
      exact out10_apply _ _ _ _ _ _ j
    refine (hl y).trans (congrArg (arrC (kv (inputs m c))) ?_)
    blk_ext [index10 t]
  · refine (Pipeline.Window.emb_mem_blk_iff win0_10 pt i rfl).mpr ?_
    intro a
    have h := hi a
    fin_cases a <;> simp [Pipeline.Window.xsize, index10] at h ⊢ <;> omega

theorem arr11 (c : Dev nD) : (dats m 0 c).arrAt 11 cfg0.N = arrS (kv (inputs m c)) := by
  funext i
  have hi : ∀ a, (i a : ℕ) < S6x30x256.size a := fun a => (i a).isLt
  refine Dat.arrAt_forall_of_flushed (dats m 0 c) 11 (fun i v => v = arrS (kv (inputs m c)) i) (fun t hf y => ?_) cfg0.N pt i (Fin.isLt _) (flush0_11 _) ?_
  · have hl : ∀ j : S6x30x256.Idx, (dats m 0 c).after 11 t j = arrS (kv (inputs m c)) j := fun j => by
      rw [after0_11, iblk0_eq, iblk1_eq, iblk2_eq, iblk3_eq, iblk4_eq, iblk5_eq]
      exact out11_apply _ _ _ _ _ _ j
    refine (hl y).trans (congrArg (arrS (kv (inputs m c))) ?_)
    blk_ext [index11 t]
  · refine (Pipeline.Window.emb_mem_blk_iff win0_11 pt i rfl).mpr ?_
    intro a
    have h := hi a
    fin_cases a <;> simp [Pipeline.Window.xsize, index11] at h ⊢ <;> omega

theorem arr12 (c : Dev nD) : (dats m 0 c).arrAt 12 cfg0.N = arrO (inputs m c) := by
  funext i
  have hi : ∀ a, (i a : ℕ) < S6x30x96x256.size a := fun a => (i a).isLt
  refine Dat.arrAt_forall_of_flushed (dats m 0 c) 12 (fun i v => v = arrO (inputs m c) i) (fun t hf y => ?_) cfg0.N pt i (Fin.isLt _) (flush0_12 _) ?_
  · have hl : ∀ j : S6x30x96x256.Idx, (dats m 0 c).after 12 t j = arrO (inputs m c) j := fun j => by
      rw [after0_12, iblk0_eq, iblk1_eq, iblk2_eq, iblk3_eq, iblk4_eq, iblk5_eq]
      exact out12_apply _ _ _ _ _ _ j
    refine (hl y).trans (congrArg (arrO (inputs m c)) ?_)
    blk_ext [index12 t]
  · refine (Pipeline.Window.emb_mem_blk_iff win0_12 pt i rfl).mpr ?_
    intro a
    have h := hi a
    fin_cases a <;> simp [Pipeline.Window.xsize, index12] at h ⊢ <;> omega

theorem arr13 (c : Dev nD) : (dats m 0 c).arrAt 13 cfg0.N = arrM (inputs m c) := by
  funext i
  have hi : ∀ a, (i a : ℕ) < S6x1x256.size a := fun a => (i a).isLt
  refine Dat.arrAt_forall_of_flushed (dats m 0 c) 13 (fun i v => v = arrM (inputs m c) i) (fun t hf y => ?_) cfg0.N pt i (Fin.isLt _) (flush0_13 _) ?_
  · have hl : ∀ j : S6x1x256.Idx, (dats m 0 c).after 13 t j = arrM (inputs m c) j := fun j => by
      rw [after0_13, iblk0_eq, iblk1_eq, iblk2_eq, iblk3_eq, iblk4_eq, iblk5_eq]
      exact out13_apply _ _ _ _ _ _ j
    refine (hl y).trans (congrArg (arrM (inputs m c)) ?_)
    blk_ext [index13 t]
  · refine (Pipeline.Window.emb_mem_blk_iff win0_13 pt i rfl).mpr ?_
    intro a
    have h := hi a
    fin_cases a <;> simp [Pipeline.Window.xsize, index13] at h ⊢ <;> omega

/-- THE RESULTS of a run. -/
theorem results : θ_run defs (onTc (τ := τ) (main (F := Ideal))) (s₀ m ρ) (fun r => ∀ c : Dev nD,
      r.2.mem ((c.tc : Thread nD τ).loc main_v15_0) = arrX (inputs m c)
      ∧ r.2.mem ((c.tc : Thread nD τ).loc main_v15_1) = arrXs (inputs m c)
      ∧ r.2.mem ((c.tc : Thread nD τ).loc main_v15_2) = arrC (qv (inputs m c))
      ∧ r.2.mem ((c.tc : Thread nD τ).loc main_v15_3) = arrS (qv (inputs m c))
      ∧ r.2.mem ((c.tc : Thread nD τ).loc main_v15_4) = arrC (kv (inputs m c))
      ∧ r.2.mem ((c.tc : Thread nD τ).loc main_v15_5) = arrS (kv (inputs m c))
      ∧ r.2.mem ((c.tc : Thread nD τ).loc main_v15_6) = arrO (inputs m c)
      ∧ r.2.mem ((c.tc : Thread nD τ).loc main_v15_7) = arrM (inputs m c)) := by
  refine (θ_run defs _ _).mono (fun r hr c => ?_) (run_main m ρ)
  exact ⟨((hr c).1 6).trans (arr6 m c), ((hr c).1 7).trans (arr7 m c), ((hr c).1 8).trans (arr8 m c), ((hr c).1 9).trans (arr9 m c),
    ((hr c).1 10).trans (arr10 m c), ((hr c).1 11).trans (arr11 m c), ((hr c).1 12).trans (arr12 m c), ((hr c).1 13).trans (arr13 m c)⟩

end Cert.ReferenceIdeal.Hand

end
-- ==== Proof.Host.lean ====
/-
  From equal arguments both programs hand their kernels equal inputs: the input transposed or not, the rotary tables
  computed alike and transposed or not.
-/
module

public import proofs.«01_k».proof.Proof.FrameV
public import proofs.«01_k».proof.Proof.RFinal
public import Idealize.ShloMosaic.Lib.StableHlo.ReadAt
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The rotary angles. -/
def angles : FVec Ideal S256x48 .f32 :=
  mulf (broadcastInDim S256x48 ![0, 1] bcast_S256x1_S256x48_0_1 (broadcastInDim S256x1 ![0] bcast_S256_S256x1_0 (sitofp (F := Ideal) .f32 (iotaInDim S256 32 0))))
    (broadcastInDim S256x48 ![0, 1] bcast_S1x48_S256x48_0_1 (broadcastInDim S1x48 ![1] bcast_S48_S1x48_1
      (Host.powf (broadcastInDim S48 ![] bcast_S_S48 (constant (F := Ideal) S_ .f32 0x461C4000#32))
        (Host.divf (mulf (broadcastInDim S48 ![] bcast_S_S48 (constant (F := Ideal) S_ .f32 0xC0000000#32)) (sitofp (F := Ideal) .f32 (iotaInDim S48 32 0)))
          (broadcastInDim S48 ![] bcast_S_S48 (constant (F := Ideal) S_ .f32 0x42C00000#32))))))

theorem V_cos (c : Dev nD) : V m c main_v14 = transpose S48x256 [1, 0] (Host.cos angles) transposes_S256x48_S48x256_1_0 := by
  unfold_abbrev_sides
  after_results
  rfl

theorem V_sin (c : Dev nD) : V m c main_v16 = transpose S48x256 [1, 0] (Host.sin angles) transposes_S256x48_S48x256_1_0 := by
  unfold_abbrev_sides
  after_results
  rfl

theorem V_x (c : Dev nD) : V m c main_v17 = transpose S6x2880x256 [0, 2, 1] (m ((c : Thread nD τ).loc main_arg0) : S6x256x2880.Idx → Elt Ideal .bf16) transposes_S6x256x2880_S6x2880x256_0_2_1 := by
  unfold_abbrev_sides
  after_results

theorem t48_apply (v : FVec Ideal S256x48 .f32) (k : Fin 48) (s : Fin 256) :
    transpose S48x256 [1, 0] v transposes_S256x48_S48x256_1_0 (ix2 k s) = v (ix2 s k) := by
  pointwise []

theorem tx_apply (v : FVec Ideal S6x256x2880 .bf16) (b : Fin 6) (d : Fin 2880) (s : Fin 256) :
    transpose S6x2880x256 [0, 2, 1] v transposes_S6x256x2880_S6x2880x256_0_2_1 (ix3 b d s) = v (ix3 b s d) := by
  pointwise []

end Cert.KernelIdeal.Hand

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ)

theorem V_cos (c : Dev nD) : V m c main_v13 = Host.cos Cert.KernelIdeal.Hand.angles := by
  unfold_abbrev_sides
  after_results
  rfl

theorem V_sin (c : Dev nD) : V m c main_v14 = Host.sin Cert.KernelIdeal.Hand.angles := by
  unfold_abbrev_sides
  after_results
  rfl

end Cert.ReferenceIdeal.Hand

namespace Cert.Hand

open Idealize.ShloMosaic Idealize.ShloMosaic.TcCoe

/-- EQUAL ARGUMENTS GIVE EQUAL INPUTS. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.inputs m' c = Cert.KernelIdeal.Hand.inputs m c := by
  have e0 := (Cert.ReferenceIdeal.Gen.V_main_arg0 m' c).trans h0
  have e1 := ((Cert.ReferenceIdeal.Gen.V_main_arg1 m' c).trans h1).trans (Cert.KernelIdeal.Gen.V_main_arg1 m c).symm
  have e2 := ((Cert.ReferenceIdeal.Gen.V_main_arg2 m' c).trans h2).trans (Cert.KernelIdeal.Gen.V_main_arg2 m c).symm
  have e3 := ((Cert.ReferenceIdeal.Gen.V_main_arg3 m' c).trans h3).trans (Cert.KernelIdeal.Gen.V_main_arg3 m c).symm
  unfold Cert.ReferenceIdeal.Hand.inputs Cert.ReferenceIdeal.Hand.inputsOf Cert.KernelIdeal.Hand.inputs
  rw [Cert.Spec.Inputs.mk.injEq]
  refine ⟨?_, ?_, ?_, ?_, ?_, ?_⟩
  · funext b s d
    exact (congrFun e0 (ix3 b s d)).trans ((Cert.KernelIdeal.Hand.tx_apply _ b d s).symm.trans (congrFun (Cert.KernelIdeal.Hand.V_x m c) (ix3 b d s)).symm)
  · funext p h r d
    exact congrFun e1 (ix4 p h r d)
  · funext p h r
    exact congrFun e2 (ix3 p h r)
  · funext h r
    exact congrFun e3 (ix2 h r)
  · funext s k
    exact (congrFun (Cert.ReferenceIdeal.Hand.V_cos m' c) (ix2 s k)).trans ((Cert.KernelIdeal.Hand.t48_apply _ k s).symm.trans (congrFun (Cert.KernelIdeal.Hand.V_cos m c) (ix2 k s)).symm)
  · funext s k
    exact (congrFun (Cert.ReferenceIdeal.Hand.V_sin m' c) (ix2 s k)).trans ((Cert.KernelIdeal.Hand.t48_apply _ k s).symm.trans (congrFun (Cert.KernelIdeal.Hand.V_sin m c) (ix2 k s)).symm)

end Cert.Hand

end
-- ==== Proof.OKFrame.lean ====
/-
  The frame of the second call as it is printed: the program the idealized call is, operation for operation, so the frame
  proved of that one for any reading of the floats is its own.
-/
module

public import proofs.«01_k».proof.Defs
public import proofs.«01_k».proof.Proof.Gen.KernelO
public import proofs.«01_k».proof.Proof.Gen.KernelOIdeal.Frame
public import Idealize.ShloMosaic.Lib.Pipeline.Regions

@[expose] public section

noncomputable section

namespace Cert.KernelO.Hand

open Idealize.ShloMosaic Idealize.ShloMosaic.TcCoe

/-- The idealized call's frame at the bit patterns. -/
def idealFrame : Prop :=
  ∀ (m : (ℓ : Loc Cert.KernelOIdeal.nD Cert.KernelOIdeal.τ Cert.KernelOIdeal.sig) → Buf (Elt Bits) ℓ) (g : Dev Cert.KernelOIdeal.nD → PrngReg), True →
    θ_run (Cert.KernelOIdeal.defs (F := Bits)) (onTc (τ := Cert.KernelOIdeal.τ) (Cert.KernelOIdeal.main (F := Bits))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ r.2.sem = fun _ => 0)

theorem same : @Cert.quiescent_KernelO Cert.KernelO.Gen.facts = idealFrame := by
  chain_rfl

theorem frame : @Cert.quiescent_KernelO Cert.KernelO.Gen.facts :=
  same.mpr fun m ρ _ => Cert.KernelOIdeal.Gen.frame (F := Bits) m ρ

end Cert.KernelO.Hand

end
-- ==== Proof.OKOut.lean ====
/-
  What one grid point of the second call leaves in its output buffers and its carried scratch, as the body's values of the
  blocks it reads.
-/
module

public import proofs.«01_k».proof.Proof.Gen.KernelOIdeal.Frame
public import Idealize.ShloMosaic.Lib.Pipeline.Value
public import Idealize.ShloMosaic.Lib.Pipeline.ValueKit.Geometry

@[expose] public section

set_option maxRecDepth 16384

noncomputable section

namespace Cert.KernelOIdeal.Hand

open Cert.KernelOIdeal Cert.KernelOIdeal.Gen
open Idealize.ShloMosaic Idealize.ShloMosaic.TcCoe Idealize.ShloMosaic.Tactic
open Idealize.ShloMosaic.Pipeline (Dat Cfg Window)

variable {F : FTy → Type} [FloatOps F]

theorem z2 : (![0, 0] : Fin 2 → ℕ) = fun _ => 0 := by decide
theorem z3 : (![0, 0, 0] : Fin 3 → ℕ) = fun _ => 0 := by decide

/-! ## The values, from the blocks and the scratch -/

section Values

variable (o : Vec F S1x2880x256 .f32) (oa : Vec F S1x1x256 .f32) (wt : Vec F S2880x2880 .fp8e4m3) (ws al : Vec F S2880x128 .f32)
  (xt : Vec F S1x2880x256 .bf16)

/-- The mixed row and its sum of squares; -/
def mixedV : FVec F S2880x256 .f32 := k0_pay14 (k0_pay9 oa) (k0_pay10 oa o) (Scalar.ofBits .f32 0xC3E00000#32) wt ws xt al
def sumsqV : FVec F S1x256 .f32 := k0_pay15 (k0_pay9 oa) (k0_pay10 oa o) (Scalar.ofBits .f32 0xC3E00000#32) wt ws xt al
/-- it over its scale; -/
def downV : FVec F S2880x256 .f32 := k0_pay20 (mixedV o oa wt ws al xt) (sumsqV o oa wt ws al xt) (Scalar.ofBits .f32 0x2B8CBCCC#32)
/-- the six buffers. -/
def val6 : FVec F S1x2880x256 .fp8e4m3 := k0_pay12 (k0_pay10 oa o) (Scalar.ofBits .f32 0xC3E00000#32)
def val7 : FVec F S1x1x256 .f32 := k0_pay13 (k0_pay9 oa)
def val8 : FVec F S1x2880x256 .fp8e4m3 := k0_pay2 (downV o oa wt ws al xt) (Scalar.ofBits .f32 0xC3E00000#32) (Scalar.ofBits .f32 0x43E00000#32)
def val9 : FVec F S1x1x256 .f32 := k0_pay3 (k0_pay19 (mixedV o oa wt ws al xt) (sumsqV o oa wt ws al xt) (Scalar.ofBits .f32 0x2B8CBCCC#32))
def val10 : FVec F S256x2880 .fp8e4m3 := k0_pay4 (downV o oa wt ws al xt) (Scalar.ofBits .f32 0xC3E00000#32) (Scalar.ofBits .f32 0x43E00000#32)
def val11 : FVec F S1x2880x256 .f32 := k0_pay17 (mixedV o oa wt ws al xt) (sumsqV o oa wt ws al xt) (Scalar.ofBits .f32 0x2B8CBCCC#32)

end Values

section Out

variable (c : Dev nD) (i : grid0.Coords) (arg1 : Memref sig .tc .vmem S1x2880x256 .f32) (harg1 : arg1.IsWhole) (arg2 : Memref sig .tc .vmem S1x1x256 .f32) (harg2 : arg2.IsWhole) (arg3 : Memref sig .tc .vmem S2880x2880 .fp8e4m3) (harg3 : arg3.IsWhole) (arg4 : Memref sig .tc .vmem S1x2880 .f32) (harg4 : arg4.IsWhole) (arg5 : Memref sig .tc .vmem S1x2880 .f32) (harg5 : arg5.IsWhole) (arg6 : Memref sig .tc .vmem S1x2880x256 .bf16) (harg6 : arg6.IsWhole) (arg7 : Memref sig .tc .vmem S1x2880x256 .fp8e4m3) (harg7 : arg7.IsWhole) (arg8 : Memref sig .tc .vmem S1x1x256 .f32) (harg8 : arg8.IsWhole) (arg9 : Memref sig .tc .vmem S1x2880x256 .fp8e4m3) (harg9 : arg9.IsWhole) (arg10 : Memref sig .tc .vmem S1x1x256 .f32) (harg10 : arg10.IsWhole) (arg11 : Memref sig .tc .vmem S256x2880 .fp8e4m3) (harg11 : arg11.IsWhole) (arg12 : Memref sig .tc .vmem S1x2880x256 .f32) (harg12 : arg12.IsWhole) (arg13 : Memref sig .tc .vmem S2880x2880 .fp8e4m3) (harg13 : arg13.IsWhole) (arg14 : Memref sig .tc .vmem S2880x128 .f32) (harg14 : arg14.IsWhole) (arg15 : Memref sig .tc .vmem S2880x128 .f32) (harg15 : arg15.IsWhole)
  (x0 : Vec F S1x2880x256 .f32) (x1 : Vec F S1x1x256 .f32) (x2 : Vec F S2880x2880 .fp8e4m3) (x3 : Vec F S1x2880 .f32) (x4 : Vec F S1x2880 .f32) (x5 : Vec F S1x2880x256 .bf16)
  (xs0 : Vec F S2880x2880 .fp8e4m3) (xs1 xs2 : Vec F S2880x128 .f32)

theorem sout_A_0 (hc0 : cond0_0 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = k0_pay5 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5)]
  unfold kernelRun0_A; dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]

theorem sout_A_1 (hc0 : cond0_0 i) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = k0_pay6 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5)]
  unfold kernelRun0_A; dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]

theorem sout_A_2 (hc0 : cond0_0 i) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = k0_pay7 x4 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5)]
  unfold kernelRun0_A; dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]

theorem out_A_6 (hc0 : cond0_0 i) : out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = val6 x0 x1 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5)]
  unfold kernelRun0_A; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_B_6 (hc0 : ¬cond0_0 i) : out0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2 = val6 x0 x1 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2)]
  unfold kernelRun0_B; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_A_7 (hc0 : cond0_0 i) : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = val7 x1 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5)]
  unfold kernelRun0_A; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_B_7 (hc0 : ¬cond0_0 i) : out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2 = val7 x1 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2)]
  unfold kernelRun0_B; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_A_8 (hc0 : cond0_0 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = val8 x0 x1 (k0_pay5 x2) (k0_pay6 x3) (k0_pay7 x4) x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5)]
  unfold kernelRun0_A; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_B_8 (hc0 : ¬cond0_0 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2 = val8 x0 x1 xs0 xs1 xs2 x5 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2)]
  unfold kernelRun0_B; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_A_9 (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = val9 x0 x1 (k0_pay5 x2) (k0_pay6 x3) (k0_pay7 x4) x5 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5)]
  unfold kernelRun0_A; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_B_9 (hc0 : ¬cond0_0 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2 = val9 x0 x1 xs0 xs1 xs2 x5 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2)]
  unfold kernelRun0_B; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_A_10 (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = val10 x0 x1 (k0_pay5 x2) (k0_pay6 x3) (k0_pay7 x4) x5 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5)]
  unfold kernelRun0_A; dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_B_10 (hc0 : ¬cond0_0 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2 = val10 x0 x1 xs0 xs1 xs2 x5 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2)]
  unfold kernelRun0_B; dsimp only
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_A_11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = val11 x0 x1 (k0_pay5 x2) (k0_pay6 x3) (k0_pay7 x4) x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5)]
  unfold kernelRun0_A; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

theorem out_B_11 (hc0 : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2 = val11 x0 x1 xs0 xs1 xs2 x5 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 xs2)]
  unfold kernelRun0_B; dsimp only
  sl_unfold_words
  rw [View.canon_unit_zero z3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S2880x2880) z2, View.ld_unit_zero (S := S1x2880) z2, View.ld_unit_zero (S := S2880x128) z2, View.ld_unit_zero (S := S1x2880x256) z3, View.ld_unit_zero (S := S1x1x256) z3, View.readCov_unit_zero (S := S2880x2880) _ z2, View.readCov_unit_zero (S := S2880x128) _ z2]
  rfl

end Out

end Cert.KernelOIdeal.Hand

end
-- ==== Proof.OSpec.lean ====
/-
  The mathematics of the second call: the attention output quantised with a given maximum, projected, normalised, mixed
  into the residual row and normalised again, and its results' arrays.
-/
module

public import proofs.«01_k».proof.Proof.Spec
public import Idealize.ShloMosaic.Lib.Pointwise
public import Idealize.ShloMosaic.Lib.Pipeline.ValueKit.Geometry

@[expose] public section

noncomputable section

namespace Cert.Expo

open Idealize.ShloMosaic

/-- Below zero the exponent is zero, as at zero. -/
theorem neg_zero {y : EReal} (hy : y < 0) : kexpo y = kexpo 0 ∧ expo y = expo 0 := by
  have hc : ∀ z : EReal, z ≤ 0 → count z = 0#32 := fun z hz => by
    refine count_of (N := 0) (by norm_num) fun x => ⟨fun h => ?_, fun h => absurd h (Nat.not_lt_zero _)⟩
    have h0 : (((2 : ℝ) ^ ((x.val : ℤ) - 126) : ℝ) : EReal) ≤ ((0 : ℝ) : EReal) := le_trans h (by simpa using hz)
    have : (0 : ℝ) < (2 : ℝ) ^ ((x.val : ℤ) - 126) := by positivity
    exact absurd (EReal.coe_le_coe_iff.mp h0) (not_le.mpr this)
  have ht : ∀ z : EReal, z ≤ 0 → expo z = 0 := fun z hz => by
    unfold expo
    rw [if_pos]
    refine lt_of_le_of_lt hz ?_
    rw [ofBits_tiny]
    have : (0 : ℝ) < (2 : ℝ) ^ (-126 : ℤ) := by positivity
    exact_mod_cast this
  refine ⟨?_, (ht y hy.le).trans (ht 0 le_rfl).symm⟩
  unfold kexpo
  rw [hc y hy.le, hc 0 le_rfl]

/-- The kernel's inverse scale is the reference's at every argument; -/
theorem inv_eq' (y : EReal) :
    Ideal.ofBits .f32 (IntOp.shli ArithUnit.vector (IntOp.subi 127#32 (kexpo y)) 23#32) = Ideal.exp2 (0 - expo y) := by
  rcases le_or_gt 0 y with h | h
  · exact inv_eq h
  · rw [(neg_zero h).1, (neg_zero h).2]; exact inv_eq le_rfl

/-- and so is its scale. -/
theorem scale_eq' (y : EReal) :
    Ideal.ofBits .f32 (IntOp.shli ArithUnit.vector (IntOp.addi 127#32 (kexpo y)) 23#32) = Ideal.exp2 (expo y) := by
  rcases le_or_gt 0 y with h | h
  · exact scale_eq h
  · rw [(neg_zero h).1, (neg_zero h).2]; exact scale_eq le_rfl

end Cert.Expo

namespace Cert.OSpec

open Idealize.ShloMosaic Cert.Spec

/-- The scale a given maximum stands for; -/
def gscale (a : EReal) : EReal := Ideal.exp2 (Cert.Expo.expo (a * Ideal.ofBits .f32 991054117#32))

/-- an entry's code under it. -/
def gcode (v a : EReal) : EReal :=
  min (Ideal.ofBits .f32 1138753536#32) (max (Ideal.ofBits .f32 3286237184#32)
    (v * Ideal.exp2 (0 - Cert.Expo.expo (a * Ideal.ofBits .f32 991054117#32))))

/-- A row over its length. -/
def over {n : ℕ} (v : Fin n → EReal) (d : Fin n) : EReal := v d * Ideal.rsqrt (∑ k, v k * v k + Ideal.ofBits .f32 730643660#32)

/-- A row mixed with another, normalised one. -/
def mixed {n : ℕ} (x al y : Fin n → EReal) (d : Fin n) : EReal := x d + al d * (over y d - x d)

/-- The call's inputs: the attention output and its maxima, the projection's codes and scales, the mixing coefficients, the
    residual. -/
structure OIn where
  o : Fin 6 → Fin 256 → Fin 2880 → EReal
  oa : Fin 6 → Fin 256 → EReal
  w : Fin 2880 → Fin 2880 → EReal
  ws : Fin 2880 → EReal
  al : Fin 2880 → EReal
  x : Fin 6 → Fin 256 → Fin 2880 → EReal

variable (I : OIn)

/-- The projected row, -/
def pr (b : Fin 6) (s : Fin 256) (e : Fin 2880) : EReal :=
  proj (fun k => gcode (I.o b s k) (I.oa b s)) (gscale (I.oa b s)) (I.w e) (I.ws e)

/-- and the new residual. -/
def h1 (b : Fin 6) (s : Fin 256) : Fin 2880 → EReal := over (mixed (I.x b s) I.al (pr I b s))

/-! ## The results' arrays -/

abbrev T3 : Shape := ⟨3, ![6, 2880, 256]⟩
abbrev T1 : Shape := ⟨3, ![6, 1, 256]⟩
abbrev T2 : Shape := ⟨2, ![1536, 2880]⟩

def arrOc (j : T3.Idx) : EReal := gcode (I.o (j 0 : Fin 6) (j 2 : Fin 256) (j 1 : Fin 2880)) (I.oa (j 0 : Fin 6) (j 2 : Fin 256))
def arrOs (j : T1.Idx) : EReal := gscale (I.oa (j 0 : Fin 6) (j 2 : Fin 256))
def arrHc (j : T3.Idx) : EReal := quant (h1 I (j 0 : Fin 6) (j 2 : Fin 256)) (j 1 : Fin 2880)
def arrHs (j : T1.Idx) : EReal := qscale (h1 I (j 0 : Fin 6) (j 2 : Fin 256))
def arrH1 (j : T3.Idx) : EReal := h1 I (j 0 : Fin 6) (j 2 : Fin 256) (j 1 : Fin 2880)

/-- A token's batch and position. -/
def tokB (n : ℕ) (h : n < 1536) : Fin 6 := ⟨n / 256, by omega⟩
def tokS (n : ℕ) : Fin 256 := ⟨n % 256, Nat.mod_lt _ (by norm_num)⟩
def arrHt (j : T2.Idx) : EReal := quant (h1 I (tokB (j 0).val (j 0).isLt) (tokS (j 0).val)) (j 1 : Fin 2880)

end Cert.OSpec

end
-- ==== Proof.OKRead.lean ====
/-
  The second call's values read at an index, over the extended reals.
-/
module

public import proofs.«01_k».proof.Proof.Gen.KernelOIdeal.Skeleton
public import proofs.«01_k».proof.Proof.OSpec
public import Idealize.ShloMosaic.Lib.Pointwise

@[expose] public section

set_option maxRecDepth 16384

noncomputable section

namespace Cert.KernelOIdeal.Hand

open Cert.KernelOIdeal Cert.KernelOIdeal.Gen
open Idealize.ShloMosaic
open Cert.Spec Cert.OSpec

/-! ## The given maximum's codes and scales -/

set_option maxHeartbeats 1000000 in
theorem pay11_apply (o : Vec Ideal S1x2880x256 .f32) (oa : Vec Ideal S1x1x256 .f32) (d : Fin 2880) (s : Fin 256) :
    k0_pay11 (F := Ideal) (k0_pay10 oa o) (Scalar.ofBits .f32 0xC3E00000#32) (ix2 d s)
      = gcode (o (ix3 (0 : Fin 1) d s)) (oa (ix3 (0 : Fin 1) (0 : Fin 1) s)) := by
  pointwise [k0_pay11, k0_pay10, k0_pay8]
  exact congrArg (fun z => min _ (max _ (_ * z))) (Cert.Expo.inv_eq' _)

set_option maxHeartbeats 1000000 in
theorem pay9_apply (oa : Vec Ideal S1x1x256 .f32) (s : Fin 256) :
    k0_pay9 (F := Ideal) oa (ix2 (0 : Fin 1) s) = gscale (oa (ix3 (0 : Fin 1) (0 : Fin 1) s)) := by
  pointwise [k0_pay9, k0_pay8]
  exact Cert.Expo.scale_eq' _

theorem pay12_apply (v : FVec Ideal S2880x256 .f32) (c : Ideal .f32) (d : Fin 2880) (s : Fin 256) :
    k0_pay12 v c (ix3 (0 : Fin 1) d s) = k0_pay11 v c (ix2 d s) := by
  unfold k0_pay12
  generalize k0_pay11 v c = w
  pointwise []

theorem pay13_apply (v : FVec Ideal S1x256 .f32) (s : Fin 256) :
    k0_pay13 v (ix3 (0 : Fin 1) (0 : Fin 1) s) = v (ix2 (0 : Fin 1) s) := by
  pointwise [k0_pay13]

/-! ## The projection -/

/-- A row vector as a column, over all lanes. -/
theorem col6_apply (v : Vec Ideal S1x2880 .f32) (d : Fin 2880) (s : Fin 256) :
    concatenate S2880x256 1 [⟨S2880x128, k0_pay6 v⟩, ⟨S2880x128, k0_pay6 v⟩] concatenates_S2880x128_S2880x128_S2880x256_d1 (ix2 d s)
      = v (ix2 (0 : Fin 1) d) := by
  pointwise [k0_pay6]
  split <;> rfl
theorem col7_apply (v : Vec Ideal S1x2880 .f32) (d : Fin 2880) (s : Fin 256) :
    concatenate S2880x256 1 [⟨S2880x128, k0_pay7 v⟩, ⟨S2880x128, k0_pay7 v⟩] concatenates_S2880x128_S2880x128_S2880x256_d1 (ix2 d s)
      = v (ix2 (0 : Fin 1) d) := by
  pointwise [k0_pay7]
  split <;> rfl

/-- The projection's value. -/
def prodV (v33 : FVec Ideal S1x256 .f32) (oc : FVec Ideal S2880x256 .fp8e4m3) (v49 : FVec Ideal S2880x2880 .fp8e4m3) (v54 : FVec Ideal S2880x256 .f32) :
    FVec Ideal S2880x256 .f32 :=
  mulf (mulf (matmul dot_S2880x2880_S2880x256_S2880x256_1_0_0_1_n_n none v49 oc (constant S2880x256 .f32 0x00000000#32))
    (broadcastTo S2880x256 v33 broadcasts_S1x256_S2880x256)) v54

theorem prodV_apply (v33 : FVec Ideal S1x256 .f32) (oc : FVec Ideal S2880x256 .fp8e4m3) (v49 : FVec Ideal S2880x2880 .fp8e4m3) (v54 : FVec Ideal S2880x256 .f32)
    (d : Fin 2880) (s : Fin 256) :
    prodV v33 oc v49 v54 (ix2 d s) = proj (fun k => oc (ix2 k s)) (v33 (ix2 (0 : Fin 1) s)) (fun k => v49 (ix2 d k)) (v54 (ix2 d s)) := by
  have e : proj (fun k => oc (ix2 k s)) (v33 (ix2 (0 : Fin 1) s)) (fun k => v49 (ix2 d k)) (v54 (ix2 d s))
      = (∑ k : Fin 2880, (v49 (ix2 d k) : EReal) * oc (ix2 k s)) * v33 (ix2 (0 : Fin 1) s) * v54 (ix2 d s) :=
    congrArg (fun z : EReal => z * v33 (ix2 (0 : Fin 1) s) * v54 (ix2 d s)) (Finset.sum_congr rfl fun k _ => mul_comm _ _)
  rw [e]
  pointwise [prodV]

theorem pay5_apply (v : Vec Ideal S2880x2880 .fp8e4m3) (d k : Fin 2880) : k0_pay5 (F := Ideal) v (ix2 d k) = v (ix2 k d) := by
  pointwise [k0_pay5]

/-- A column over its length. -/
def overV (u : FVec Ideal S2880x256 .f32) : FVec Ideal S2880x256 .f32 :=
  mulf u (broadcastTo S2880x256 (rsqrt (addf (shapeCast S1x256 (multiReduction .add [0] S256 (mulf u u) 0x00000000#32 reduces_S2880x256_S256 (.inl rfl) rfl)
    shapeCasts_S256_S1x256) (broadcast S1x256 (Scalar.ofBits .f32 0x2B8CBCCC#32)))) broadcasts_S1x256_S2880x256)

theorem overV_apply (u : FVec Ideal S2880x256 .f32) (d : Fin 2880) (s : Fin 256) :
    overV u (ix2 d s) = over (fun k => u (ix2 k s)) d := by
  unfold over
  pointwise [overV]

/-- The mix. -/
def mixV (x : Vec Ideal S1x2880x256 .bf16) (al y : FVec Ideal S2880x256 .f32) : FVec Ideal S2880x256 .f32 :=
  have v65 : FVec Ideal S2880x256 .bf16 := shapeCast S2880x256 x shapeCasts_S1x2880x256_S2880x256
  have v66 : FVec Ideal S2880x256 .f32 := extf .f32 v65 bitsLt_bf16_f32
  addf v66 (mulf al (subf y v66))

theorem mixV_apply (x : Vec Ideal S1x2880x256 .bf16) (al y : FVec Ideal S2880x256 .f32) (d : Fin 2880) (s : Fin 256) :
    mixV x al y (ix2 d s) = x (ix3 (0 : Fin 1) d s) + al (ix2 d s) * (y (ix2 d s) - x (ix3 (0 : Fin 1) d s)) := by
  pointwise [mixV]

theorem pay14_eq (v33 : FVec Ideal S1x256 .f32) (v37 : FVec Ideal S2880x256 .f32) (c : Ideal .f32) (v49 : Vec Ideal S2880x2880 .fp8e4m3) (v53 : Vec Ideal S2880x128 .f32)
    (v64 : Vec Ideal S1x2880x256 .bf16) (v67 : Vec Ideal S2880x128 .f32) :
    k0_pay14 v33 v37 c v49 v53 v64 v67
      = mixV v64 (concatenate S2880x256 1 [⟨S2880x128, v67⟩, ⟨S2880x128, v67⟩] concatenates_S2880x128_S2880x128_S2880x256_d1)
          (overV (prodV v33 (k0_pay11 v37 c) v49 (concatenate S2880x256 1 [⟨S2880x128, v53⟩, ⟨S2880x128, v53⟩] concatenates_S2880x128_S2880x128_S2880x256_d1))) := rfl

theorem pay16_eq (v33 : FVec Ideal S1x256 .f32) (v37 : FVec Ideal S2880x256 .f32) (c : Ideal .f32) (v49 : Vec Ideal S2880x2880 .fp8e4m3) (v53 : Vec Ideal S2880x128 .f32)
    (v64 : Vec Ideal S1x2880x256 .bf16) (v67 : Vec Ideal S2880x128 .f32) :
    k0_pay16 (k0_pay14 v33 v37 c v49 v53 v64 v67) (k0_pay15 v33 v37 c v49 v53 v64 v67) (Scalar.ofBits .f32 0x2B8CBCCC#32)
      = overV (k0_pay14 v33 v37 c v49 v53 v64 v67) := rfl

/-! ## The new residual's codes and scales -/

theorem pay17_apply (v71 : FVec Ideal S2880x256 .f32) (v74 : FVec Ideal S1x256 .f32) (c : Ideal .f32) (d : Fin 2880) (s : Fin 256) :
    k0_pay17 v71 v74 c (ix3 (0 : Fin 1) d s) = k0_pay16 v71 v74 c (ix2 d s) := by
  unfold k0_pay17
  generalize k0_pay16 v71 v74 c = w
  pointwise []

set_option maxHeartbeats 1000000 in
theorem pay1_apply (v71 : FVec Ideal S2880x256 .f32) (v74 : FVec Ideal S1x256 .f32) (c : Ideal .f32) (d : Fin 2880) (s : Fin 256) :
    k0_pay1 (k0_pay20 v71 v74 c) (Scalar.ofBits .f32 0xC3E00000#32) (Scalar.ofBits .f32 0x43E00000#32) (ix2 d s)
      = quant (fun k => k0_pay16 v71 v74 c (ix2 k s)) d := by
  unfold k0_pay20 k0_pay18
  generalize k0_pay16 v71 v74 c = w
  pointwise [k0_pay1]
  exact congrArg (fun z => min _ (max _ (_ * z))) (Cert.Expo.inv_eq (arg_nonneg (fun k => w (ix2 k s))))

set_option maxHeartbeats 1000000 in
theorem pay19_apply (v71 : FVec Ideal S2880x256 .f32) (v74 : FVec Ideal S1x256 .f32) (c : Ideal .f32) (s : Fin 256) :
    k0_pay19 v71 v74 c (ix2 (0 : Fin 1) s) = qscale (fun k => k0_pay16 v71 v74 c (ix2 k s)) := by
  unfold k0_pay19 k0_pay18
  generalize k0_pay16 v71 v74 c = w
  pointwise []
  exact Cert.Expo.scale_eq (arg_nonneg (fun k => w (ix2 k s)))

theorem pay2_apply (v : FVec Ideal S2880x256 .f32) (a c : Ideal .f32) (d : Fin 2880) (s : Fin 256) :
    k0_pay2 v a c (ix3 (0 : Fin 1) d s) = k0_pay1 v a c (ix2 d s) := by
  unfold k0_pay2
  generalize k0_pay1 v a c = w
  pointwise []

theorem pay4_apply (v : FVec Ideal S2880x256 .f32) (a c : Ideal .f32) (d : Fin 2880) (s : Fin 256) :
    k0_pay4 v a c (ix2 s d) = k0_pay1 v a c (ix2 d s) := by
  unfold k0_pay4
  generalize k0_pay1 v a c = w
  pointwise []

theorem pay3_apply (v : FVec Ideal S1x256 .f32) (s : Fin 256) :
    k0_pay3 v (ix3 (0 : Fin 1) (0 : Fin 1) s) = v (ix2 (0 : Fin 1) s) := by
  pointwise [k0_pay3]

/-! ## All of it, from the blocks -/

section Block

variable {I : OIn} {b : Fin 6} {o : Vec Ideal S1x2880x256 .f32} {oa : Vec Ideal S1x1x256 .f32} {w : Vec Ideal S2880x2880 .fp8e4m3}
  {ws al : Vec Ideal S1x2880 .f32} {x : Vec Ideal S1x2880x256 .bf16}

/-- The blocks are batch `b`'s. -/
structure OfBlock (I : OIn) (b : Fin 6) (o : Vec Ideal S1x2880x256 .f32) (oa : Vec Ideal S1x1x256 .f32) (w : Vec Ideal S2880x2880 .fp8e4m3)
    (ws al : Vec Ideal S1x2880 .f32) (x : Vec Ideal S1x2880x256 .bf16) : Prop where
  o : ∀ (d : Fin 2880) (s : Fin 256), o (ix3 (0 : Fin 1) d s) = I.o b s d
  oa : ∀ s : Fin 256, oa (ix3 (0 : Fin 1) (0 : Fin 1) s) = I.oa b s
  w : ∀ e d : Fin 2880, w (ix2 d e) = I.w e d
  ws : ∀ e : Fin 2880, ws (ix2 (0 : Fin 1) e) = I.ws e
  al : ∀ e : Fin 2880, al (ix2 (0 : Fin 1) e) = I.al e
  x : ∀ (d : Fin 2880) (s : Fin 256), x (ix3 (0 : Fin 1) d s) = I.x b s d

variable (H : OfBlock I b o oa w ws al x)
include H

theorem prod_at (d : Fin 2880) (s : Fin 256) :
    prodV (k0_pay9 oa) (k0_pay11 (k0_pay10 oa o) (Scalar.ofBits .f32 0xC3E00000#32)) (k0_pay5 w)
      (concatenate S2880x256 1 [⟨S2880x128, k0_pay6 ws⟩, ⟨S2880x128, k0_pay6 ws⟩] concatenates_S2880x128_S2880x128_S2880x256_d1) (ix2 d s) = pr I b s d := by
  rw [prodV_apply, pay9_apply, col6_apply, H.ws, H.oa]
  unfold pr
  congr 1
  · funext k; rw [pay11_apply, H.o, H.oa]
  · funext k; rw [pay5_apply, H.w]

theorem mixed_at (d : Fin 2880) (s : Fin 256) :
    k0_pay14 (k0_pay9 oa) (k0_pay10 oa o) (Scalar.ofBits .f32 0xC3E00000#32) (k0_pay5 w) (k0_pay6 ws) x (k0_pay7 al) (ix2 d s)
      = mixed (I.x b s) I.al (pr I b s) d := by
  rw [pay14_eq, mixV_apply, col7_apply, overV_apply, H.x, H.al]
  unfold mixed
  rw [show (fun k => prodV (k0_pay9 oa) (k0_pay11 (k0_pay10 oa o) (Scalar.ofBits .f32 0xC3E00000#32)) (k0_pay5 w)
      (concatenate S2880x256 1 [⟨S2880x128, k0_pay6 ws⟩, ⟨S2880x128, k0_pay6 ws⟩] concatenates_S2880x128_S2880x128_S2880x256_d1) (ix2 k s)) = pr I b s from
    funext fun k => prod_at H k s]

theorem h1_at (d : Fin 2880) (s : Fin 256) :
    k0_pay16 (k0_pay14 (k0_pay9 oa) (k0_pay10 oa o) (Scalar.ofBits .f32 0xC3E00000#32) (k0_pay5 w) (k0_pay6 ws) x (k0_pay7 al))
      (k0_pay15 (k0_pay9 oa) (k0_pay10 oa o) (Scalar.ofBits .f32 0xC3E00000#32) (k0_pay5 w) (k0_pay6 ws) x (k0_pay7 al))
      (Scalar.ofBits .f32 0x2B8CBCCC#32) (ix2 d s) = h1 I b s d := by
  rw [pay16_eq, overV_apply]
  unfold h1
  exact congrFun (congrArg over (funext fun k => mixed_at H k s)) d

end Block

end Cert.KernelOIdeal.Hand

end
-- ==== Proof.OKFinal.lean ====
/-
  What the second call's idealized kernel leaves in its results after a run.
-/
module

public import proofs.«01_k».proof.Proof.OKOut
public import proofs.«01_k».proof.Proof.OKRead
public import proofs.«01_k».proof.Proof.Arrays

@[expose] public section

set_option maxRecDepth 16384

noncomputable section

namespace Cert.KernelOIdeal.Hand

open Cert.KernelOIdeal Cert.KernelOIdeal.Gen
open Idealize.ShloMosaic Idealize.ShloMosaic.TcCoe Idealize.ShloMosaic.Tactic
open Idealize.ShloMosaic.Pipeline (Dat Cfg Window)
open Cert.Spec Cert.OSpec

variable (m : (ℓ : Loc nD τ sig) → Buf (Elt Ideal) ℓ) (ρ : Dev nD → PrngReg)

/-- The call's inputs. -/
def inputs (c : Dev nD) : OIn where
  o b s d := (show S6x2880x256.Idx → EReal from V m c main_arg0) (ix3 b d s)
  oa b s := (show S6x1x256.Idx → EReal from V m c main_arg1) (ix3 b (0 : Fin 1) s)
  w e d := (show S2880x2880.Idx → EReal from V m c main_v2) (ix2 d e)
  ws e := (show S1x2880.Idx → EReal from V m c main_v3) (ix2 (0 : Fin 1) e)
  al e := (show S1x2880.Idx → EReal from V m c main_v4) (ix2 (0 : Fin 1) e)
  x b s d := (show S6x2880x256.Idx → EReal from V m c main_v0) (ix3 b d s)

theorem index0 : ∀ t : Fin cfg0.N, win0_0.index t = ![t.val, 0, 0] := by decide +kernel
theorem index1 : ∀ t : Fin cfg0.N, win0_1.index t = ![t.val, 0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![t.val, 0, 0] := by decide +kernel
theorem index6 : ∀ t : Fin cfg0.N, win0_6.index t = ![t.val, 0, 0] := by decide +kernel
theorem index7 : ∀ t : Fin cfg0.N, win0_7.index t = ![t.val, 0, 0] := by decide +kernel
theorem index8 : ∀ t : Fin cfg0.N, win0_8.index t = ![t.val, 0, 0] := by decide +kernel
theorem index9 : ∀ t : Fin cfg0.N, win0_9.index t = ![t.val, 0, 0] := by decide +kernel
theorem index10 : ∀ t : Fin cfg0.N, win0_10.index t = ![t.val, 0] := by decide +kernel
theorem index11 : ∀ t : Fin cfg0.N, win0_11.index t = ![t.val, 0, 0] := by decide +kernel

theorem N6 : cfg0.N = 6 := N_0

/-- The point's batch. -/
def batch (t : Fin cfg0.N) : Fin 6 := ⟨t.val, lt_of_lt_of_eq t.isLt N6⟩

/-! ## The blocks -/

theorem iblk2_eq (c : Dev nD) (t : Fin cfg0.N) : iblk m c 2 t = V m c main_v2 := by
  funext y; blk_simp [iblk]; refine congrArg _ ?_; blk_ext [index2 t]
theorem iblk3_eq (c : Dev nD) (t : Fin cfg0.N) : iblk m c 3 t = V m c main_v3 := by
  funext y; blk_simp [iblk]; refine congrArg _ ?_; blk_ext [index3 t]
theorem iblk4_eq (c : Dev nD) (t : Fin cfg0.N) : iblk m c 4 t = V m c main_v4 := by
  funext y; blk_simp [iblk]; refine congrArg _ ?_; blk_ext [index4 t]

theorem iblk0_at (c : Dev nD) (t : Fin cfg0.N) (d : Fin 2880) (s : Fin 256) :
    (show S1x2880x256.Idx → EReal from iblk m c 0 t) (ix3 (0 : Fin 1) d s) = (inputs m c).o (batch t) s d := by
  show iblk m c 0 t (ix3 (0 : Fin 1) d s) = V m c main_arg0 (ix3 (batch t) d s)
  blk_simp [iblk]; refine congrArg _ ?_; blk_ext [index0 t, batch]
theorem iblk1_at (c : Dev nD) (t : Fin cfg0.N) (s : Fin 256) :
    (show S1x1x256.Idx → EReal from iblk m c 1 t) (ix3 (0 : Fin 1) (0 : Fin 1) s) = (inputs m c).oa (batch t) s := by
  show iblk m c 1 t (ix3 (0 : Fin 1) (0 : Fin 1) s) = V m c main_arg1 (ix3 (batch t) (0 : Fin 1) s)
  blk_simp [iblk]; refine congrArg _ ?_; blk_ext [index1 t, batch]
theorem iblk5_at (c : Dev nD) (t : Fin cfg0.N) (d : Fin 2880) (s : Fin 256) :
    (show S1x2880x256.Idx → EReal from iblk m c 5 t) (ix3 (0 : Fin 1) d s) = (inputs m c).x (batch t) s d := by
  show iblk m c 5 t (ix3 (0 : Fin 1) d s) = V m c main_v0 (ix3 (batch t) d s)
  blk_simp [iblk]; refine congrArg _ ?_; blk_ext [index5 t, batch]

theorem ofBlock (c : Dev nD) (t : Fin cfg0.N) :
    OfBlock (inputs m c) (batch t) (iblk m c 0 t) (iblk m c 1 t) (V m c main_v2) (V m c main_v3) (V m c main_v4) (iblk m c 5 t) where
  o d s := iblk0_at m c t d s
  oa s := iblk1_at m c t s
  w e d := rfl
  ws e := rfl
  al e := rfl
  x d s := iblk5_at m c t d s

/-! ## The carried scratch and the buffers at every point -/

/-- The scratch the first point fills: the transposed weights and the two columns. -/
abbrev wtV (c : Dev nD) : FVec Ideal S2880x2880 .fp8e4m3 := k0_pay5 (V m c main_v2)
abbrev wsV (c : Dev nD) : FVec Ideal S2880x128 .f32 := k0_pay6 (V m c main_v3)
abbrev alV (c : Dev nD) : FVec Ideal S2880x128 .f32 := k0_pay7 (V m c main_v4)

theorem scratch_at (c : Dev nD) : ∀ (n : ℕ) (h : n < cfg0.N),
    (outsAt0 m c n h).2.2.2.2.2.2 = (wtV m c, wsV m c, alV m c) := by
  intro n
  induction n with
  | zero =>
    intro h
    rw [outsAt0_A m c ⟨0, h⟩ rfl]
    dsimp only
    rw [sout_A_0, sout_A_1, sout_A_2, iblk2_eq, iblk3_eq, iblk4_eq]
  | succ n ih =>
    intro h
    have hB : ¬((⟨n + 1, h⟩ : Fin cfg0.N).val % 6 = 0) := by
      have := lt_of_lt_of_eq h N6
      show ¬((n + 1) % 6 = 0)
      omega
    rw [outsAt0_B m c ⟨n + 1, h⟩ hB]
    exact ih (Nat.lt_of_succ_lt h)

theorem outs_at (c : Dev nD) (t : Fin cfg0.N) :
    (outsAt0 m c t.val t.isLt).1 = val6 (iblk m c 0 t) (iblk m c 1 t)
    ∧ (outsAt0 m c t.val t.isLt).2.1 = val7 (iblk m c 1 t)
    ∧ (outsAt0 m c t.val t.isLt).2.2.1 = val8 (iblk m c 0 t) (iblk m c 1 t) (wtV m c) (wsV m c) (alV m c) (iblk m c 5 t)
    ∧ (outsAt0 m c t.val t.isLt).2.2.2.1 = val9 (iblk m c 0 t) (iblk m c 1 t) (wtV m c) (wsV m c) (alV m c) (iblk m c 5 t)
    ∧ (outsAt0 m c t.val t.isLt).2.2.2.2.1 = val10 (iblk m c 0 t) (iblk m c 1 t) (wtV m c) (wsV m c) (alV m c) (iblk m c 5 t)
    ∧ (outsAt0 m c t.val t.isLt).2.2.2.2.2.1 = val11 (iblk m c 0 t) (iblk m c 1 t) (wtV m c) (wsV m c) (alV m c) (iblk m c 5 t) := by
  by_cases h0 : t.val % 6 = 0
  · rw [outsAt0_A m c t h0]
    dsimp only
    rw [out_A_6, out_A_7, out_A_8, out_A_9, out_A_10, out_A_11, iblk2_eq, iblk3_eq, iblk4_eq]
    exact ⟨rfl, rfl, rfl, rfl, rfl, rfl⟩
  · have hp : ∀ h, (outsAt0 m c (t.val - 1) h).2.2.2.2.2.2 = (wtV m c, wsV m c, alV m c) := fun h => scratch_at m c _ h
    rw [outsAt0_B m c t h0]
    dsimp only
    rw [out_B_6, out_B_7, out_B_8, out_B_9, out_B_10, out_B_11]
    simp only [hp]
    exact ⟨trivial, trivial, trivial, trivial, trivial, trivial⟩

/-! ## The arrays -/

theorem eta2 {n0 n1 : ℕ} (j : (⟨2, ![n0, n1]⟩ : Shape).Idx) : j = ix2 (j 0 : Fin n0) (j 1 : Fin n1) := by
  funext a; fin_cases a <;> rfl
theorem eta1 {n1 n2 : ℕ} (j : (⟨3, ![1, n1, n2]⟩ : Shape).Idx) : j = ix3 (0 : Fin 1) (j 1 : Fin n1) (j 2 : Fin n2) := by
  funext a; fin_cases a
  · exact Subsingleton.elim (α := Fin 1) _ _
  · rfl
  · rfl
theorem eta11 {n2 : ℕ} (j : (⟨3, ![1, 1, n2]⟩ : Shape).Idx) : j = ix3 (0 : Fin 1) (0 : Fin 1) (j 2 : Fin n2) := by
  funext a; fin_cases a
  · exact Subsingleton.elim (α := Fin 1) _ _
  · exact Subsingleton.elim (α := Fin 1) _ _
  · rfl

theorem after6 (c : Dev nD) (t : Fin cfg0.N) (j : S1x2880x256.Idx) :
    (dats m 0 c).after 6 t j = arrOc (inputs m c) (ix3 (batch t) (j 1 : Fin 2880) (j 2 : Fin 256)) := by
  rw [after0_6, (outs_at m c t).1]
  refine (congrArg _ (eta1 j)).trans ((pay12_apply _ _ _ _).trans ((pay11_apply _ _ _ _).trans ?_))
  exact congrArg₂ gcode (iblk0_at m c t _ _) (iblk1_at m c t _)

theorem after7 (c : Dev nD) (t : Fin cfg0.N) (j : S1x1x256.Idx) :
    (dats m 0 c).after 7 t j = arrOs (inputs m c) (ix3 (batch t) (0 : Fin 1) (j 2 : Fin 256)) := by
  rw [after0_7, (outs_at m c t).2.1]
  refine (congrArg _ (eta11 j)).trans ((pay13_apply _ _).trans ((pay9_apply _ _).trans ?_))
  exact congrArg gscale (iblk1_at m c t _)

theorem h1_row (c : Dev nD) (t : Fin cfg0.N) (s : Fin 256) :
    (fun k => k0_pay16 (mixedV (iblk m c 0 t) (iblk m c 1 t) (wtV m c) (wsV m c) (alV m c) (iblk m c 5 t))
      (sumsqV (iblk m c 0 t) (iblk m c 1 t) (wtV m c) (wsV m c) (alV m c) (iblk m c 5 t)) (Scalar.ofBits .f32 0x2B8CBCCC#32) (ix2 k s))
      = h1 (inputs m c) (batch t) s :=
  funext fun k => h1_at (ofBlock m c t) k s

theorem after8 (c : Dev nD) (t : Fin cfg0.N) (j : S1x2880x256.Idx) :
    (dats m 0 c).after 8 t j = arrHc (inputs m c) (ix3 (batch t) (j 1 : Fin 2880) (j 2 : Fin 256)) := by
  rw [after0_8, (outs_at m c t).2.2.1]
  refine (congrArg _ (eta1 j)).trans ((pay2_apply _ _ _ _ _).trans ((pay1_apply _ _ _ _ _).trans ?_))
  exact congrFun (congrArg quant (h1_row m c t _)) _

theorem after9 (c : Dev nD) (t : Fin cfg0.N) (j : S1x1x256.Idx) :
    (dats m 0 c).after 9 t j = arrHs (inputs m c) (ix3 (batch t) (0 : Fin 1) (j 2 : Fin 256)) := by
  rw [after0_9, (outs_at m c t).2.2.2.1]
  refine (congrArg _ (eta11 j)).trans ((pay3_apply _ _).trans ((pay19_apply _ _ _ _).trans ?_))
  exact congrArg qscale (h1_row m c t _)

/-- A position's token. -/
def tok (b : Fin 6) (s : Fin 256) : Fin 1536 := ⟨b.val * 256 + s.val, by omega⟩

theorem arrHt_tok (I : OIn) (b : Fin 6) (s : Fin 256) (d : Fin 2880) : arrHt I (ix2 (tok b s) d) = quant (h1 I b s) d := by
  have e1 : tokB (tok b s).val (tok b s).isLt = b := Fin.ext (by show (b.val * 256 + s.val) / 256 = b.val; omega)
  have e2 : tokS (tok b s).val = s := Fin.ext (by show (b.val * 256 + s.val) % 256 = s.val; omega)
  show quant (h1 I (tokB (tok b s).val (tok b s).isLt) (tokS (tok b s).val)) d = _
  rw [e1, e2]

theorem after10 (c : Dev nD) (t : Fin cfg0.N) (j : S256x2880.Idx) :
    (dats m 0 c).after 10 t j = arrHt (inputs m c) (ix2 (tok (batch t) (j 0 : Fin 256)) (j 1 : Fin 2880)) := by
  rw [after0_10, (outs_at m c t).2.2.2.2.1]
  refine Eq.trans ?_ (arrHt_tok (inputs m c) (batch t) (j 0 : Fin 256) (j 1 : Fin 2880)).symm
  refine (congrArg _ (eta2 j)).trans ((pay4_apply _ _ _ _ _).trans ((pay1_apply _ _ _ _ _).trans ?_))
  exact congrFun (congrArg quant (h1_row m c t _)) _

theorem after11 (c : Dev nD) (t : Fin cfg0.N) (j : S1x2880x256.Idx) :
    (dats m 0 c).after 11 t j = arrH1 (inputs m c) (ix3 (batch t) (j 1 : Fin 2880) (j 2 : Fin 256)) := by
  rw [after0_11, (outs_at m c t).2.2.2.2.2]
  refine (congrArg _ (eta1 j)).trans ((pay17_apply _ _ _ _ _).trans ?_)
  exact congrFun (h1_row m c t _) _

theorem arr6 (c : Dev nD) : (dats m 0 c).arrAt 6 cfg0.N = arrOc (inputs m c) := by
  funext i
  have hi : ∀ a, (i a : ℕ) < S6x2880x256.size a := fun a => (i a).isLt
  obtain ⟨t₀, ht₀⟩ : ∃ t : Fin cfg0.N, t.val = (i 0).val := ⟨⟨(i 0).val, lt_of_lt_of_eq (i 0).isLt N6.symm⟩, rfl⟩
  refine Dat.arrAt_forall_of_flushed (dats m 0 c) 6 (fun i v => v = arrOc (inputs m c) i) (fun t hf y => ?_) cfg0.N t₀ i (Fin.isLt _) (flush0_6 _) ?_
  · refine (after6 m c t y).trans (congrArg (arrOc (inputs m c)) ?_)
    blk_ext [index6 t, batch, tok]
  · refine (Pipeline.Window.emb_mem_blk_iff win0_6 t₀ i rfl).mpr ?_
    intro a
    have h := hi a
    have ht₁ : t₀.val = ((i 0 : Fin 6) : ℕ) := ht₀
    fin_cases a <;> simp [Pipeline.Window.xsize, index6] at h ⊢ <;> omega

theorem arr7 (c : Dev nD) : (dats m 0 c).arrAt 7 cfg0.N = arrOs (inputs m c) := by
  funext i
  have hi : ∀ a, (i a : ℕ) < S6x1x256.size a := fun a => (i a).isLt
  obtain ⟨t₀, ht₀⟩ : ∃ t : Fin cfg0.N, t.val = (i 0).val := ⟨⟨(i 0).val, lt_of_lt_of_eq (i 0).isLt N6.symm⟩, rfl⟩
  refine Dat.arrAt_forall_of_flushed (dats m 0 c) 7 (fun i v => v = arrOs (inputs m c) i) (fun t hf y => ?_) cfg0.N t₀ i (Fin.isLt _) (flush0_7 _) ?_
  · refine (after7 m c t y).trans (congrArg (arrOs (inputs m c)) ?_)
    blk_ext [index7 t, batch, tok]
  · refine (Pipeline.Window.emb_mem_blk_iff win0_7 t₀ i rfl).mpr ?_
    intro a
    have h := hi a
    have ht₁ : t₀.val = ((i 0 : Fin 6) : ℕ) := ht₀
    fin_cases a <;> simp [Pipeline.Window.xsize, index7] at h ⊢ <;> omega

theorem arr8 (c : Dev nD) : (dats m 0 c).arrAt 8 cfg0.N = arrHc (inputs m c) := by
  funext i
  have hi : ∀ a, (i a : ℕ) < S6x2880x256.size a := fun a => (i a).isLt
  obtain ⟨t₀, ht₀⟩ : ∃ t : Fin cfg0.N, t.val = (i 0).val := ⟨⟨(i 0).val, lt_of_lt_of_eq (i 0).isLt N6.symm⟩, rfl⟩
  refine Dat.arrAt_forall_of_flushed (dats m 0 c) 8 (fun i v => v = arrHc (inputs m c) i) (fun t hf y => ?_) cfg0.N t₀ i (Fin.isLt _) (flush0_8 _) ?_
  · refine (after8 m c t y).trans (congrArg (arrHc (inputs m c)) ?_)
    blk_ext [index8 t, batch, tok]
  · refine (Pipeline.Window.emb_mem_blk_iff win0_8 t₀ i rfl).mpr ?_
    intro a
    have h := hi a
    have ht₁ : t₀.val = ((i 0 : Fin 6) : ℕ) := ht₀
    fin_cases a <;> simp [Pipeline.Window.xsize, index8] at h ⊢ <;> omega

theorem arr9 (c : Dev nD) : (dats m 0 c).arrAt 9 cfg0.N = arrHs (inputs m c) := by
  funext i
  have hi : ∀ a, (i a : ℕ) < S6x1x256.size a := fun a => (i a).isLt
  obtain ⟨t₀, ht₀⟩ : ∃ t : Fin cfg0.N, t.val = (i 0).val := ⟨⟨(i 0).val, lt_of_lt_of_eq (i 0).isLt N6.symm⟩, rfl⟩
  refine Dat.arrAt_forall_of_flushed (dats m 0 c) 9 (fun i v => v = arrHs (inputs m c) i) (fun t hf y => ?_) cfg0.N t₀ i (Fin.isLt _) (flush0_9 _) ?_
  · refine (after9 m c t y).trans (congrArg (arrHs (inputs m c)) ?_)
    blk_ext [index9 t, batch, tok]
  · refine (Pipeline.Window.emb_mem_blk_iff win0_9 t₀ i rfl).mpr ?_
    intro a
    have h := hi a
    have ht₁ : t₀.val = ((i 0 : Fin 6) : ℕ) := ht₀
    fin_cases a <;> simp [Pipeline.Window.xsize, index9] at h ⊢ <;> omega

theorem arr10 (c : Dev nD) : (dats m 0 c).arrAt 10 cfg0.N = arrHt (inputs m c) := by
  funext i
  have hi : ∀ a, (i a : ℕ) < S1536x2880.size a := fun a => (i a).isLt
  obtain ⟨t₀, ht₀⟩ : ∃ t : Fin cfg0.N, t.val = (i 0).val / 256 := ⟨⟨(i 0).val / 256, lt_of_lt_of_eq (by have h : (i 0).val < 1536 := (i 0).isLt; omega) N6.symm⟩, rfl⟩
  refine Dat.arrAt_forall_of_flushed (dats m 0 c) 10 (fun i v => v = arrHt (inputs m c) i) (fun t hf y => ?_) cfg0.N t₀ i (Fin.isLt _) (flush0_10 _) ?_
  · refine (after10 m c t y).trans (congrArg (arrHt (inputs m c)) ?_)
    blk_ext [index10 t, batch, tok]
  · refine (Pipeline.Window.emb_mem_blk_iff win0_10 t₀ i rfl).mpr ?_
    intro a
    have h := hi a
    have ht₁ : t₀.val = ((i 0 : Fin 1536) : ℕ) / 256 := ht₀
    fin_cases a <;> simp [Pipeline.Window.xsize, Pipeline.Clip.extent, index10] at h ⊢ <;> omega

theorem arr11 (c : Dev nD) : (dats m 0 c).arrAt 11 cfg0.N = arrH1 (inputs m c) := by
  funext i
  have hi : ∀ a, (i a : ℕ) < S6x2880x256.size a := fun a => (i a).isLt
  obtain ⟨t₀, ht₀⟩ : ∃ t : Fin cfg0.N, t.val = (i 0).val := ⟨⟨(i 0).val, lt_of_lt_of_eq (i 0).isLt N6.symm⟩, rfl⟩
  refine Dat.arrAt_forall_of_flushed (dats m 0 c) 11 (fun i v => v = arrH1 (inputs m c) i) (fun t hf y => ?_) cfg0.N t₀ i (Fin.isLt _) (flush0_11 _) ?_
  · refine (after11 m c t y).trans (congrArg (arrH1 (inputs m c)) ?_)
    blk_ext [index11 t, batch, tok]
  · refine (Pipeline.Window.emb_mem_blk_iff win0_11 t₀ i rfl).mpr ?_
    intro a
    have h := hi a
    have ht₁ : t₀.val = ((i 0 : Fin 6) : ℕ) := ht₀
    fin_cases a <;> simp [Pipeline.Window.xsize, index11] at h ⊢ <;> omega

/-- THE RESULTS of a run. -/
theorem results : θ_run defs (onTc (τ := τ) (main (F := Ideal))) (s₀ m ρ) (fun r => ∀ c : Dev nD,
      r.2.mem ((c.tc : Thread nD τ).loc main_v5_0) = arrOc (inputs m c)
      ∧ r.2.mem ((c.tc : Thread nD τ).loc main_v5_1) = arrOs (inputs m c)
      ∧ r.2.mem ((c.tc : Thread nD τ).loc main_v5_2) = arrHc (inputs m c)
      ∧ r.2.mem ((c.tc : Thread nD τ).loc main_v5_3) = arrHs (inputs m c)
      ∧ r.2.mem ((c.tc : Thread nD τ).loc main_v5_4) = arrHt (inputs m c)
      ∧ r.2.mem ((c.tc : Thread nD τ).loc main_v5_5) = arrH1 (inputs m c)) := by
  refine (θ_run defs _ _).mono (fun r hr c => ?_) (run_main m ρ)
  exact ⟨((hr c).1 6).trans (arr6 m c), ((hr c).1 7).trans (arr7 m c), ((hr c).1 8).trans (arr8 m c), ((hr c).1 9).trans (arr9 m c),
    ((hr c).1 10).trans (arr10 m c), ((hr c).1 11).trans (arr11 m c)⟩

end Cert.KernelOIdeal.Hand

end
-- ==== Proof.ORead.lean ====
/-
  The second call's reference values read at an index, over the extended reals.
-/
module

public import proofs.«01_k».proof.Proof.Gen.ReferenceOIdeal.Skeleton
public import proofs.«01_k».proof.Proof.RRead
public import proofs.«01_k».proof.Proof.OSpec

@[expose] public section

set_option maxRecDepth 16384

noncomputable section

namespace Cert.ReferenceOIdeal.Hand

open Cert.ReferenceOIdeal Cert.ReferenceOIdeal.Gen
open Idealize.ShloMosaic
open Cert.Spec Cert.OSpec
open Cert.ReferenceIdeal.Hand (expo_apply clip clip_apply down3_apply scaled_apply)

/-! ## The given maximum's codes and scales -/

theorem swap1_apply (x : Vec Ideal S6x1x256 .f32) (b : Fin 6) (s : Fin 256) :
    transpose S6x256x1 [0, 2, 1] x transposes_S6x1x256_p0_2_1_S6x256x1 (ix3 b s (0 : Fin 1)) = x (ix3 b (0 : Fin 1) s) := by
  pointwise []
theorem swap1'_apply (x : Vec Ideal S6x256x1 .f32) (b : Fin 6) (s : Fin 256) :
    transpose S6x1x256 [0, 2, 1] x transposes_S6x256x1_p0_2_1_S6x1x256 (ix3 b (0 : Fin 1) s) = x (ix3 b s (0 : Fin 1)) := by
  pointwise []
theorem swap_apply (x : Vec Ideal S6x2880x256 .f32) (b : Fin 6) (s : Fin 256) (d : Fin 2880) :
    transpose S6x256x2880 [0, 2, 1] x transposes_S6x2880x256_p0_2_1_S6x256x2880 (ix3 b s d) = x (ix3 b d s) := by
  pointwise []
theorem swap'_apply {φ : EltTy} (x : Vec Ideal S6x256x2880 φ) (b : Fin 6) (s : Fin 256) (d : Fin 2880) :
    transpose S6x2880x256 [0, 2, 1] x transposes_S6x256x2880_p0_2_1_S6x2880x256 (ix3 b d s) = x (ix3 b s d) := by
  pointwise []

theorem pay7_apply (oa : Vec Ideal S6x1x256 .f32) (b : Fin 6) (s : Fin 256) :
    k0_pay7 (F := Ideal) oa (ix3 b s (0 : Fin 1)) = Cert.Expo.expo (oa (ix3 b (0 : Fin 1) s) * Ideal.ofBits .f32 991054117#32) := by
  refine (expo_apply _ _).trans (congrArg Cert.Expo.expo ?_)
  exact (scaled_apply _ _ _).trans (congrArg (· * Ideal.ofBits .f32 991054117#32) (swap1_apply oa b s))

theorem pay8_apply (o : Vec Ideal S6x2880x256 .f32) (oa : Vec Ideal S6x1x256 .f32) (b : Fin 6) (s : Fin 256) (d : Fin 2880) :
    k0_pay8 (F := Ideal) o oa (ix3 b s d) = gcode (o (ix3 b d s)) (oa (ix3 b (0 : Fin 1) s)) := by
  unfold gcode
  rw [← pay7_apply, ← swap_apply o b s d]
  refine (clip_apply _ _).trans (congrArg clip ?_)
  generalize k0_pay7 oa = w
  exact down3_apply _ w b s d

theorem pay9_apply (oa : Vec Ideal S6x1x256 .f32) (b : Fin 6) (s : Fin 256) :
    k0_pay9 (F := Ideal) oa (ix3 b s (0 : Fin 1)) = gscale (oa (ix3 b (0 : Fin 1) s)) := by
  unfold gscale
  rw [← pay7_apply]
  exact Cert.ReferenceIdeal.Hand.exp2_apply (k0_pay7 oa) _

theorem pay10_apply (o : Vec Ideal S6x2880x256 .f32) (oa : Vec Ideal S6x1x256 .f32) (b : Fin 6) (s : Fin 256) (d : Fin 2880) :
    k0_pay10 (F := Ideal) o oa (ix3 b d s) = gcode (o (ix3 b d s)) (oa (ix3 b (0 : Fin 1) s)) :=
  (swap'_apply (φ := .fp8e4m3) (k0_pay8 o oa) b s d).trans (pay8_apply o oa b s d)

theorem pay11_apply (oa : Vec Ideal S6x1x256 .f32) (b : Fin 6) (s : Fin 256) :
    k0_pay11 (F := Ideal) oa (ix3 b (0 : Fin 1) s) = gscale (oa (ix3 b (0 : Fin 1) s)) :=
  (swap1'_apply (k0_pay9 oa) b s).trans (pay9_apply oa b s)

/-! ## The projection -/

/-- The projection's value. -/
def prodV (v29 : FVec Ideal S6x256x1 .f32) (oc : FVec Ideal S6x256x2880 .fp8e4m3) (v35 : Vec Ideal S2880x2880 .fp8e4m3) (v41 : Vec Ideal S2880 .f32) :
    FVec Ideal S6x256x2880 .f32 :=
  have v34 : FVec Ideal S1536x2880 .fp8e4m3 := shapeCast S1536x2880 oc shapeCasts_S6x256x2880_S1536x2880
  have v36 : FVec Ideal S2880x2880 .fp8e4m3 := shapeCast S2880x2880 v35 shapeCasts_S2880x2880_S2880x2880
  have v37 : FVec Ideal S1536x2880 .f32 := matmul dot_S1536x2880_S2880x2880_S1536x2880_1_1_0_0_n_n none v34 v36 (constant S1536x2880 .f32 0x00000000#32)
  have v38 : FVec Ideal S6x256x2880 .f32 := shapeCast S6x256x2880 v37 shapeCasts_S1536x2880_S6x256x2880
  mulf (mulf v38 (broadcastTo S6x256x2880 v29 broadcasts_S6x256x1_S6x256x2880))
    (broadcastTo S6x256x2880 (shapeCast S1x1x2880 v41 shapeCasts_S2880_S1x1x2880) broadcasts_S1x1x2880_S6x256x2880)

theorem prodV_apply (v29 : FVec Ideal S6x256x1 .f32) (oc : FVec Ideal S6x256x2880 .fp8e4m3) (v35 : Vec Ideal S2880x2880 .fp8e4m3) (v41 : Vec Ideal S2880 .f32)
    (b : Fin 6) (s : Fin 256) (d : Fin 2880) :
    prodV v29 oc v35 v41 (ix3 b s d) = proj (fun k => oc (ix3 b s k)) (v29 (ix3 b s (0 : Fin 1))) (fun k => v35 (ix2 d k)) (v41 (ix1 d)) := by
  unfold proj
  pointwise [prodV]

/-- A row over its length. -/
def overV (u : FVec Ideal S6x256x2880 .f32) : FVec Ideal S6x256x2880 .f32 :=
  mulf u (broadcastTo S6x256x2880 (rsqrt (addf (shapeCast S6x256x1 (multiReduction .add [2] S6x256 (mulf u u) 0x00000000#32 reduces_S6x256x2880_S6x256 (.inl rfl) rfl)
    shapeCasts_S6x256_S6x256x1) (broadcast S6x256x1 (Scalar.ofBits .f32 0x2B8CBCCC#32)))) broadcasts_S6x256x1_S6x256x2880)

theorem overV_apply (u : FVec Ideal S6x256x2880 .f32) (b : Fin 6) (s : Fin 256) (d : Fin 2880) :
    overV u (ix3 b s d) = over (fun k => u (ix3 b s k)) d := by
  unfold over
  pointwise [overV]

/-- The mix. -/
def mixV (x : Vec Ideal S6x256x2880 .bf16) (al : Vec Ideal S2880 .f32) (y : FVec Ideal S6x256x2880 .f32) : FVec Ideal S6x256x2880 .f32 :=
  have v46 : FVec Ideal S6x256x2880 .f32 := extf .f32 x bitsLt_bf16_f32
  addf v46 (mulf (broadcastTo S6x256x2880 (shapeCast S1x1x2880 al shapeCasts_S2880_S1x1x2880) broadcasts_S1x1x2880_S6x256x2880) (subf y v46))

theorem mixV_apply (x : Vec Ideal S6x256x2880 .bf16) (al : Vec Ideal S2880 .f32) (y : FVec Ideal S6x256x2880 .f32) (b : Fin 6) (s : Fin 256) (d : Fin 2880) :
    mixV x al y (ix3 b s d) = x (ix3 b s d) + al (ix1 d) * (y (ix3 b s d) - x (ix3 b s d)) := by
  pointwise [mixV]

theorem pay13_eq (v29 : FVec Ideal S6x256x1 .f32) (o : Vec Ideal S6x2880x256 .f32) (oa : Vec Ideal S6x1x256 .f32) (v35 : Vec Ideal S2880x2880 .fp8e4m3)
    (v41 : Vec Ideal S2880 .f32) (v45 : Vec Ideal S6x256x2880 .bf16) (v47 : Vec Ideal S2880 .f32) :
    k0_pay13 v29 (k0_pay12 o oa) v35 v41 v45 v47 = overV (mixV v45 v47 (overV (prodV v29 (k0_pay8 o oa) v35 v41))) := rfl

/-! ## The new residual's codes and scales -/

/-- The exponent of a row's largest magnitude. -/
def exV (v : FVec Ideal S6x256x2880 .f32) : FVec Ideal S6x256x1 .f32 :=
  have y : FVec Ideal S6x256x1 .f32 := mulf (shapeCast S6x256x1 (multiReduction .maximumf [2] S6x256 (absf v) 0xFF800000#32 reduces_S6x256x2880_S6x256 (.inl rfl) rfl)
      shapeCasts_S6x256_S6x256x1) (broadcast S6x256x1 (Scalar.ofBits .f32 0x3B124925#32))
  select (cmpf .olt y (broadcast S6x256x1 (Scalar.ofBits .f32 0x00800000#32))) (broadcast S6x256x1 (Scalar.ofBits (F := Ideal) .f32 0x00000000#32))
      (minimumf (addf (floor (divf (log y) (log (broadcast S6x256x1 (Scalar.ofBits .f32 0x40000000#32))))) (broadcast S6x256x1 (Scalar.ofBits .f32 0x3F800000#32)))
        (broadcast S6x256x1 (Scalar.ofBits .f32 0x42FC0000#32)))

theorem amax_apply (v : FVec Ideal S6x256x2880 .f32) (b : Fin 6) (s : Fin 256) :
    shapeCast S6x256x1 (multiReduction .maximumf [2] S6x256 (absf v) 0xFF800000#32 reduces_S6x256x2880_S6x256 (.inl rfl) rfl)
      shapeCasts_S6x256_S6x256x1 (ix3 b s (0 : Fin 1)) = amax (fun k => v (ix3 b s k)) := by
  have h' : amax (fun k => v (ix3 b s k)) = Finset.fold max (Ideal.ofBits .f32 4286578688#32) (fun k => FloatOps.absf (F := Ideal) (φ := .f32) (v (ix3 b s k))) Finset.univ := rfl
  generalize amax (fun k => v (ix3 b s k)) = R at h' ⊢
  pointwise []
  exact h'.symm

theorem exV_apply (v : FVec Ideal S6x256x2880 .f32) (b : Fin 6) (s : Fin 256) : exV v (ix3 b s (0 : Fin 1)) = rowExpo (fun k => v (ix3 b s k)) := by
  unfold rowExpo
  refine (expo_apply _ _).trans (congrArg Cert.Expo.expo ?_)
  exact (scaled_apply _ _ _).trans (congrArg (· * Ideal.ofBits .f32 991054117#32) (amax_apply v b s))

section Row

variable (v29 : FVec Ideal S6x256x1 .f32) (v34 : FVec Ideal S1536x2880 .fp8e4m3) (v35 : Vec Ideal S2880x2880 .fp8e4m3) (v41 : Vec Ideal S2880 .f32)
  (v45 : Vec Ideal S6x256x2880 .bf16) (v47 : Vec Ideal S2880 .f32)

theorem pay1_eq : k0_pay1 (k0_pay15 v29 v34 v35 v41 v45 v47) (k0_pay16 v29 v34 v35 v41 v45 v47) = exV (k0_pay13 v29 v34 v35 v41 v45 v47) := rfl

theorem pay2_apply (b : Fin 6) (s : Fin 256) (d : Fin 2880) :
    k0_pay2 (k0_pay13 v29 v34 v35 v41 v45 v47) (k0_pay15 v29 v34 v35 v41 v45 v47) (k0_pay16 v29 v34 v35 v41 v45 v47) (ix3 b s d)
      = quant (fun k => k0_pay13 v29 v34 v35 v41 v45 v47 (ix3 b s k)) d := by
  unfold k0_pay2
  rw [pay1_eq]
  generalize k0_pay13 v29 v34 v35 v41 v45 v47 = v
  unfold quant
  rw [← exV_apply]
  refine (clip_apply _ _).trans (congrArg clip ?_)
  generalize exV v = w
  exact down3_apply v w b s d

theorem pay3_apply (b : Fin 6) (s : Fin 256) (d : Fin 2880) :
    k0_pay3 (k0_pay13 v29 v34 v35 v41 v45 v47) (k0_pay15 v29 v34 v35 v41 v45 v47) (k0_pay16 v29 v34 v35 v41 v45 v47) (ix3 b d s)
      = quant (fun k => k0_pay13 v29 v34 v35 v41 v45 v47 (ix3 b s k)) d :=
  (swap'_apply (φ := .fp8e4m3) (k0_pay2 (k0_pay13 v29 v34 v35 v41 v45 v47) (k0_pay15 v29 v34 v35 v41 v45 v47) (k0_pay16 v29 v34 v35 v41 v45 v47)) b s d).trans (pay2_apply v29 v34 v35 v41 v45 v47 b s d)

theorem flat_apply (x : Vec Ideal S6x256x2880 .fp8e4m3) (n : Fin 1536) (d : Fin 2880) :
    shapeCast S1536x2880 x shapeCasts_S6x256x2880_S1536x2880 (ix2 n d) = x (ix3 (tokB n.val n.isLt) (tokS n.val) d) := by
  unfold tokB tokS
  pointwise []

theorem pay5_apply (n : Fin 1536) (d : Fin 2880) :
    k0_pay5 (k0_pay13 v29 v34 v35 v41 v45 v47) (k0_pay15 v29 v34 v35 v41 v45 v47) (k0_pay16 v29 v34 v35 v41 v45 v47) (ix2 n d)
      = quant (fun k => k0_pay13 v29 v34 v35 v41 v45 v47 (ix3 (tokB n.val n.isLt) (tokS n.val) k)) d :=
  (flat_apply (k0_pay2 (k0_pay13 v29 v34 v35 v41 v45 v47) (k0_pay15 v29 v34 v35 v41 v45 v47) (k0_pay16 v29 v34 v35 v41 v45 v47)) n d).trans (pay2_apply v29 v34 v35 v41 v45 v47 _ _ d)

theorem pay4_apply (b : Fin 6) (s : Fin 256) :
    k0_pay4 (k0_pay15 v29 v34 v35 v41 v45 v47) (k0_pay16 v29 v34 v35 v41 v45 v47) (ix3 b (0 : Fin 1) s)
      = qscale (fun k => k0_pay13 v29 v34 v35 v41 v45 v47 (ix3 b s k)) := by
  unfold k0_pay4
  rw [pay1_eq]
  generalize k0_pay13 v29 v34 v35 v41 v45 v47 = v
  unfold qscale
  rw [← exV_apply]
  exact (swap1'_apply (exp2 (exV v)) b s).trans (Cert.ReferenceIdeal.Hand.exp2_apply (exV v) _)

theorem pay6_apply (v : FVec Ideal S6x256x2880 .f32) (b : Fin 6) (s : Fin 256) (d : Fin 2880) : k0_pay6 v (ix3 b d s) = v (ix3 b s d) :=
  swap'_apply (φ := .f32) v b s d

end Row

end Cert.ReferenceOIdeal.Hand

end
-- ==== Proof.ORFinal.lean ====
/-
  What the second call's reference leaves in its results after a run.
-/
module

public import proofs.«01_k».proof.Proof.Gen.ReferenceOIdeal.Frame
public import proofs.«01_k».proof.Proof.ORead
public import proofs.«01_k».proof.Proof.Arrays
public import Idealize.ShloMosaic.Lib.Pipeline.Value
public import Idealize.ShloMosaic.Lib.Pipeline.ValueKit.Geometry

@[expose] public section

set_option maxRecDepth 16384

noncomputable section

namespace Cert.ReferenceOIdeal.Hand

open Cert.ReferenceOIdeal Cert.ReferenceOIdeal.Gen
open Idealize.ShloMosaic Idealize.ShloMosaic.TcCoe Idealize.ShloMosaic.Tactic
open Idealize.ShloMosaic.Pipeline (Dat Cfg Window)
open Cert.Spec Cert.OSpec

/-- Six arrays read as the call's inputs. -/
def inputsOf (x0 : S6x2880x256.Idx → EReal) (x1 : S6x1x256.Idx → EReal) (x2 : S2880x2880.Idx → EReal) (x3 x4 : S2880.Idx → EReal)
    (x5 : S6x256x2880.Idx → EReal) : OIn where
  o b s d := x0 (ix3 b d s)
  oa b s := x1 (ix3 b (0 : Fin 1) s)
  w e d := x2 (ix2 e d)
  ws e := x3 (ix1 e)
  al e := x4 (ix1 e)
  x b s d := x5 (ix3 b s d)

theorem eta2 {n0 n1 : ℕ} (j : (⟨2, ![n0, n1]⟩ : Shape).Idx) : j = ix2 (j 0 : Fin n0) (j 1 : Fin n1) := by
  funext a; fin_cases a <;> rfl

section Values

variable (x0 : Vec Ideal S6x2880x256 .f32) (x1 : Vec Ideal S6x1x256 .f32) (x2 : Vec Ideal S2880x2880 .fp8e4m3) (x3 x4 : Vec Ideal S2880 .f32)
  (x5 : Vec Ideal S6x256x2880 .bf16)

local notation "J" => inputsOf x0 x1 x2 x3 x4 x5

theorem z1 : (![0] : Fin 1 → ℕ) = fun _ => 0 := by decide
theorem z2 : (![0, 0] : Fin 2 → ℕ) = fun _ => 0 := by decide
theorem z3 : (![0, 0, 0] : Fin 3 → ℕ) = fun _ => 0 := by decide

theorem old : View.ld (Val := Elt Ideal) x0 r0_0 = x0 := View.ld_unit_zero z3 _ _
theorem oald : View.ld (Val := Elt Ideal) x1 r0_1 = x1 := View.ld_unit_zero z3 _ _
theorem wld : View.ld (Val := Elt Ideal) x2 r0_2 = x2 := View.ld_unit_zero z2 _ _
theorem vld (x : Vec Ideal S2880 .f32) : View.ld (Val := Elt Ideal) x r0_3 = x := View.ld_unit_zero z1 _ _
theorem xld : View.ld (Val := Elt Ideal) x5 r0_4 = x5 := View.ld_unit_zero z3 _ _

theorem prod_apply (b : Fin 6) (s : Fin 256) (d : Fin 2880) :
    prodV (k0_pay9 x1) (k0_pay8 x0 x1) x2 x3 (ix3 b s d) = pr J b s d := by
  rw [prodV_apply, pay9_apply, funext (pay8_apply x0 x1 b s)]
  rfl

theorem h1_apply (b : Fin 6) (s : Fin 256) (d : Fin 2880) :
    k0_pay13 (k0_pay9 x1) (k0_pay12 x0 x1) x2 x3 x5 x4 (ix3 b s d) = h1 J b s d := by
  rw [pay13_eq, overV_apply]
  unfold h1
  refine congrFun (congrArg over (funext fun k => ?_)) d
  rw [mixV_apply, overV_apply, funext (prod_apply x0 x1 x2 x3 x4 x5 b s)]
  rfl

theorem out6_apply (j : S6x2880x256.Idx) : out0_6 x0 x1 x2 x3 x4 x5 j = arrOc J j := by
  unfold out0_6
  rw [View.canon_unit_zero z3, old, oald]
  exact (congrArg _ (eta3 j)).trans (pay10_apply x0 x1 _ _ _)

theorem out7_apply (j : S6x1x256.Idx) : out0_7 x0 x1 x2 x3 x4 x5 j = arrOs J j := by
  unfold out0_7
  rw [View.canon_unit_zero z3, oald]
  exact (congrArg _ (eta31 j)).trans (pay11_apply x1 _ _)

theorem out8_apply (j : S6x2880x256.Idx) : out0_8 x0 x1 x2 x3 x4 x5 j = arrHc J j := by
  unfold out0_8 k0_pay19 k0_pay20 k0_pay21 k0_pay17 k0_pay18
  rw [View.canon_unit_zero z3, old, oald, wld, vld, vld, xld]
  refine (congrArg _ (eta3 j)).trans ((pay3_apply _ _ _ _ _ _ _ _ _).trans ?_)
  exact congrFun (congrArg quant (funext (h1_apply x0 x1 x2 x3 x4 x5 _ _))) _

theorem out9_apply (j : S6x1x256.Idx) : out0_9 x0 x1 x2 x3 x4 x5 j = arrHs J j := by
  unfold out0_9 k0_pay20 k0_pay21 k0_pay17 k0_pay18
  rw [View.canon_unit_zero z3, old, oald, wld, vld, vld, xld]
  refine (congrArg _ (eta31 j)).trans ((pay4_apply _ _ _ _ _ _ _ _).trans ?_)
  exact congrArg qscale (funext (h1_apply x0 x1 x2 x3 x4 x5 _ _))

theorem out10_apply (j : S1536x2880.Idx) : out0_10 x0 x1 x2 x3 x4 x5 j = arrHt J j := by
  unfold out0_10 k0_pay19 k0_pay20 k0_pay21 k0_pay17 k0_pay18
  rw [View.canon_unit_zero z2, old, oald, wld, vld, vld, xld]
  refine (congrArg _ (eta2 j)).trans ((pay5_apply _ _ _ _ _ _ _ _).trans ?_)
  exact congrFun (congrArg quant (funext (h1_apply x0 x1 x2 x3 x4 x5 _ _))) _

theorem out11_apply (j : S6x2880x256.Idx) : out0_11 x0 x1 x2 x3 x4 x5 j = arrH1 J j := by
  unfold out0_11 k0_pay19 k0_pay17 k0_pay18
  rw [View.canon_unit_zero z3, old, oald, wld, vld, vld, xld]
  exact (congrArg _ (eta3 j)).trans ((pay6_apply _ _ _ _).trans (h1_apply x0 x1 x2 x3 x4 x5 _ _ _))

end Values

/-! ## The run -/

variable (m : (ℓ : Loc nD τ sig) → Buf (Elt Ideal) ℓ) (ρ : Dev nD → PrngReg)

/-- The reference's inputs. -/
def inputs (c : Dev nD) : OIn :=
  inputsOf (V m c main_arg0) (V m c main_arg1) (V m c main_v0) (V m c main_arg3) (V m c main_arg4) (V m c main_arg5)

/-- The one point. -/
def pt : Fin cfg0.N := ⟨0, by decide +kernel⟩

theorem index0 : ∀ t : Fin cfg0.N, win0_0.index t = ![0, 0, 0] := by decide +kernel
theorem index1 : ∀ t : Fin cfg0.N, win0_1.index t = ![0, 0, 0] := by decide +kernel
theorem index2 : ∀ t : Fin cfg0.N, win0_2.index t = ![0, 0] := by decide +kernel
theorem index3 : ∀ t : Fin cfg0.N, win0_3.index t = ![0] := by decide +kernel
theorem index4 : ∀ t : Fin cfg0.N, win0_4.index t = ![0] := by decide +kernel
theorem index5 : ∀ t : Fin cfg0.N, win0_5.index t = ![0, 0, 0] := by decide +kernel
theorem index6 : ∀ t : Fin cfg0.N, win0_6.index t = ![0, 0, 0] := by decide +kernel
theorem index7 : ∀ t : Fin cfg0.N, win0_7.index t = ![0, 0, 0] := by decide +kernel
theorem index8 : ∀ t : Fin cfg0.N, win0_8.index t = ![0, 0, 0] := by decide +kernel
theorem index9 : ∀ t : Fin cfg0.N, win0_9.index t = ![0, 0, 0] := by decide +kernel
theorem index10 : ∀ t : Fin cfg0.N, win0_10.index t = ![0, 0] := by decide +kernel
theorem index11 : ∀ t : Fin cfg0.N, win0_11.index t = ![0, 0, 0] := by decide +kernel

theorem iblk0_eq (c : Dev nD) (t : Fin cfg0.N) : iblk m c 0 t = V m c main_arg0 := by
  funext y; blk_simp [iblk]; refine congrArg _ ?_; blk_ext [index0 t]
theorem iblk1_eq (c : Dev nD) (t : Fin cfg0.N) : iblk m c 1 t = V m c main_arg1 := by
  funext y; blk_simp [iblk]; refine congrArg _ ?_; blk_ext [index1 t]
theorem iblk2_eq (c : Dev nD) (t : Fin cfg0.N) : iblk m c 2 t = V m c main_v0 := by
  funext y; blk_simp [iblk]; refine congrArg _ ?_; blk_ext [index2 t]
theorem iblk3_eq (c : Dev nD) (t : Fin cfg0.N) : iblk m c 3 t = V m c main_arg3 := by
  funext y; blk_simp [iblk]; refine congrArg _ ?_; blk_ext [index3 t]
theorem iblk4_eq (c : Dev nD) (t : Fin cfg0.N) : iblk m c 4 t = V m c main_arg4 := by
  funext y; blk_simp [iblk]; refine congrArg _ ?_; blk_ext [index4 t]
theorem iblk5_eq (c : Dev nD) (t : Fin cfg0.N) : iblk m c 5 t = V m c main_arg5 := by
  funext y; blk_simp [iblk]; refine congrArg _ ?_; blk_ext [index5 t]

theorem arr6 (c : Dev nD) : (dats m 0 c).arrAt 6 cfg0.N = arrOc (inputs m c) := by
  funext i
  have hi : ∀ a, (i a : ℕ) < S6x2880x256.size a := fun a => (i a).isLt
  refine Dat.arrAt_forall_of_flushed (dats m 0 c) 6 (fun i v => v = arrOc (inputs m c) i) (fun t hf y => ?_) cfg0.N pt i (Fin.isLt _) (flush0_6 _) ?_
  · have hl : ∀ j : S6x2880x256.Idx, (dats m 0 c).after 6 t j = arrOc (inputs m c) j := fun j => by
      rw [after0_6, iblk0_eq, iblk1_eq, iblk2_eq, iblk3_eq, iblk4_eq, iblk5_eq]
      exact out6_apply _ _ _ _ _ _ j
    refine (hl y).trans (congrArg (arrOc (inputs m c)) ?_)
    blk_ext [index6 t]
  · refine (Pipeline.Window.emb_mem_blk_iff win0_6 pt i rfl).mpr ?_
    intro a
    have h := hi a
    fin_cases a <;> simp [Pipeline.Window.xsize, index6] at h ⊢ <;> omega

theorem arr7 (c : Dev nD) : (dats m 0 c).arrAt 7 cfg0.N = arrOs (inputs m c) := by
  funext i
  have hi : ∀ a, (i a : ℕ) < S6x1x256.size a := fun a => (i a).isLt
  refine Dat.arrAt_forall_of_flushed (dats m 0 c) 7 (fun i v => v = arrOs (inputs m c) i) (fun t hf y => ?_) cfg0.N pt i (Fin.isLt _) (flush0_7 _) ?_
  · have hl : ∀ j : S6x1x256.Idx, (dats m 0 c).after 7 t j = arrOs (inputs m c) j := fun j => by
      rw [after0_7, iblk0_eq, iblk1_eq, iblk2_eq, iblk3_eq, iblk4_eq, iblk5_eq]
      exact out7_apply _ _ _ _ _ _ j
    refine (hl y).trans (congrArg (arrOs (inputs m c)) ?_)
    blk_ext [index7 t]
  · refine (Pipeline.Window.emb_mem_blk_iff win0_7 pt i rfl).mpr ?_
    intro a
    have h := hi a
    fin_cases a <;> simp [Pipeline.Window.xsize, index7] at h ⊢ <;> omega

theorem arr8 (c : Dev nD) : (dats m 0 c).arrAt 8 cfg0.N = arrHc (inputs m c) := by
  funext i
  have hi : ∀ a, (i a : ℕ) < S6x2880x256.size a := fun a => (i a).isLt
  refine Dat.arrAt_forall_of_flushed (dats m 0 c) 8 (fun i v => v = arrHc (inputs m c) i) (fun t hf y => ?_) cfg0.N pt i (Fin.isLt _) (flush0_8 _) ?_
  · have hl : ∀ j : S6x2880x256.Idx, (dats m 0 c).after 8 t j = arrHc (inputs m c) j := fun j => by
      rw [after0_8, iblk0_eq, iblk1_eq, iblk2_eq, iblk3_eq, iblk4_eq, iblk5_eq]
      exact out8_apply _ _ _ _ _ _ j
    refine (hl y).trans (congrArg (arrHc (inputs m c)) ?_)
    blk_ext [index8 t]
  · refine (Pipeline.Window.emb_mem_blk_iff win0_8 pt i rfl).mpr ?_
    intro a
    have h := hi a
    fin_cases a <;> simp [Pipeline.Window.xsize, index8] at h ⊢ <;> omega

theorem arr9 (c : Dev nD) : (dats m 0 c).arrAt 9 cfg0.N = arrHs (inputs m c) := by
  funext i
  have hi : ∀ a, (i a : ℕ) < S6x1x256.size a := fun a => (i a).isLt
  refine Dat.arrAt_forall_of_flushed (dats m 0 c) 9 (fun i v => v = arrHs (inputs m c) i) (fun t hf y => ?_) cfg0.N pt i (Fin.isLt _) (flush0_9 _) ?_
  · have hl : ∀ j : S6x1x256.Idx, (dats m 0 c).after 9 t j = arrHs (inputs m c) j := fun j => by
      rw [after0_9, iblk0_eq, iblk1_eq, iblk2_eq, iblk3_eq, iblk4_eq, iblk5_eq]
      exact out9_apply _ _ _ _ _ _ j
    refine (hl y).trans (congrArg (arrHs (inputs m c)) ?_)
    blk_ext [index9 t]
  · refine (Pipeline.Window.emb_mem_blk_iff win0_9 pt i rfl).mpr ?_
    intro a
    have h := hi a
    fin_cases a <;> simp [Pipeline.Window.xsize, index9] at h ⊢ <;> omega

theorem arr10 (c : Dev nD) : (dats m 0 c).arrAt 10 cfg0.N = arrHt (inputs m c) := by
  funext i
  have hi : ∀ a, (i a : ℕ) < S1536x2880.size a := fun a => (i a).isLt
  refine Dat.arrAt_forall_of_flushed (dats m 0 c) 10 (fun i v => v = arrHt (inputs m c) i) (fun t hf y => ?_) cfg0.N pt i (Fin.isLt _) (flush0_10 _) ?_
  · have hl : ∀ j : S1536x2880.Idx, (dats m 0 c).after 10 t j = arrHt (inputs m c) j := fun j => by
      rw [after0_10, iblk0_eq, iblk1_eq, iblk2_eq, iblk3_eq, iblk4_eq, iblk5_eq]
      exact out10_apply _ _ _ _ _ _ j
    refine (hl y).trans (congrArg (arrHt (inputs m c)) ?_)
    blk_ext [index10 t]
  · refine (Pipeline.Window.emb_mem_blk_iff win0_10 pt i rfl).mpr ?_
    intro a
    have h := hi a
    fin_cases a <;> simp [Pipeline.Window.xsize, index10] at h ⊢ <;> omega

theorem arr11 (c : Dev nD) : (dats m 0 c).arrAt 11 cfg0.N = arrH1 (inputs m c) := by
  funext i
  have hi : ∀ a, (i a : ℕ) < S6x2880x256.size a := fun a => (i a).isLt
  refine Dat.arrAt_forall_of_flushed (dats m 0 c) 11 (fun i v => v = arrH1 (inputs m c) i) (fun t hf y => ?_) cfg0.N pt i (Fin.isLt _) (flush0_11 _) ?_
  · have hl : ∀ j : S6x2880x256.Idx, (dats m 0 c).after 11 t j = arrH1 (inputs m c) j := fun j => by
      rw [after0_11, iblk0_eq, iblk1_eq, iblk2_eq, iblk3_eq, iblk4_eq, iblk5_eq]
      exact out11_apply _ _ _ _ _ _ j
    refine (hl y).trans (congrArg (arrH1 (inputs m c)) ?_)
    blk_ext [index11 t]
  · refine (Pipeline.Window.emb_mem_blk_iff win0_11 pt i rfl).mpr ?_
    intro a
    have h := hi a
    fin_cases a <;> simp [Pipeline.Window.xsize, index11] at h ⊢ <;> omega

/-- THE RESULTS of a run. -/
theorem results : θ_run defs (onTc (τ := τ) (main (F := Ideal))) (s₀ m ρ) (fun r => ∀ c : Dev nD,
      r.2.mem ((c.tc : Thread nD τ).loc main_v1_0) = arrOc (inputs m c)
      ∧ r.2.mem ((c.tc : Thread nD τ).loc main_v1_1) = arrOs (inputs m c)
      ∧ r.2.mem ((c.tc : Thread nD τ).loc main_v1_2) = arrHc (inputs m c)
      ∧ r.2.mem ((c.tc : Thread nD τ).loc main_v1_3) = arrHs (inputs m c)
      ∧ r.2.mem ((c.tc : Thread nD τ).loc main_v1_4) = arrHt (inputs m c)
      ∧ r.2.mem ((c.tc : Thread nD τ).loc main_v1_5) = arrH1 (inputs m c)) := by
  refine (θ_run defs _ _).mono (fun r hr c => ?_) (run_main m ρ)
  exact ⟨((hr c).1 6).trans (arr6 m c), ((hr c).1 7).trans (arr7 m c), ((hr c).1 8).trans (arr8 m c), ((hr c).1 9).trans (arr9 m c),
    ((hr c).1 10).trans (arr10 m c), ((hr c).1 11).trans (arr11 m c)⟩

end Cert.ReferenceOIdeal.Hand

end
-- ==== Proof.OHost.lean ====
/-
  From equal arguments both programs of the second call read equal inputs: the residual transposed or not, the projection's
  weights transposed and flattened or flattened alone, the scales as rows or as vectors.
-/
module

public import proofs.«01_k».proof.Proof.OKFinal
public import proofs.«01_k».proof.Proof.ORFinal
public import Idealize.ShloMosaic.Lib.StableHlo.ReadAt
public import Idealize.ShloMosaic.Lib.Claim

@[expose] public section

noncomputable section

namespace Cert.KernelOIdeal.Hand

open Cert.KernelOIdeal Cert.KernelOIdeal.Gen
open Idealize.ShloMosaic Idealize.ShloMosaic.TcCoe Idealize.ShloMosaic.Tactic

variable (m : (ℓ : Loc nD τ sig) → Buf (Elt Ideal) ℓ)

theorem V_x (c : Dev nD) : V m c main_v0 = transpose S6x2880x256 [0, 2, 1] (m ((c : Thread nD τ).loc main_arg5) : S6x256x2880.Idx → Elt Ideal .bf16) transposes_S6x256x2880_S6x2880x256_0_2_1 := by
  unfold_abbrev_sides
  after_results

theorem V_w (c : Dev nD) : V m c main_v2 = shapeCast S2880x2880 (transpose S30x96x2880 [1, 2, 0] (m ((c : Thread nD τ).loc main_arg2) : S2880x30x96.Idx → Elt Ideal .fp8e4m3) transposes_S2880x30x96_S30x96x2880_1_2_0) shapeCasts_S30x96x2880_S2880x2880 := by
  unfold_abbrev_sides
  after_results
  rfl

theorem V_ws (c : Dev nD) : V m c main_v3 = broadcastInDim S1x2880 ![1] bcast_S2880_S1x2880_1 (m ((c : Thread nD τ).loc main_arg3) : S2880.Idx → Elt Ideal .f32) := by
  unfold_abbrev_sides
  after_results

theorem V_al (c : Dev nD) : V m c main_v4 = broadcastInDim S1x2880 ![1] bcast_S2880_S1x2880_1 (m ((c : Thread nD τ).loc main_arg4) : S2880.Idx → Elt Ideal .f32) := by
  unfold_abbrev_sides
  after_results

theorem V_o (c : Dev nD) : V m c main_arg0 = m ((c : Thread nD τ).loc main_arg0) := by
  unfold_abbrev_sides
  after_results

theorem V_oa (c : Dev nD) : V m c main_arg1 = m ((c : Thread nD τ).loc main_arg1) := by
  unfold_abbrev_sides
  after_results

theorem tx_apply (v : FVec Ideal S6x256x2880 .bf16) (b : Fin 6) (d : Fin 2880) (s : Fin 256) :
    transpose S6x2880x256 [0, 2, 1] v transposes_S6x256x2880_S6x2880x256_0_2_1 (ix3 b d s) = v (ix3 b s d) := by
  pointwise []

/-- An input channel's head, and its place in the head. -/
def hd (d : Fin 2880) : Fin 30 := ⟨d.val / 96, by omega⟩
def pl (d : Fin 2880) : Fin 96 := ⟨d.val % 96, Nat.mod_lt _ (by norm_num)⟩

theorem tw_apply (v : FVec Ideal S2880x30x96 .fp8e4m3) (d e : Fin 2880) :
    shapeCast S2880x2880 (transpose S30x96x2880 [1, 2, 0] v transposes_S2880x30x96_S30x96x2880_1_2_0) shapeCasts_S30x96x2880_S2880x2880 (ix2 d e) = v (ix3 e (hd d) (pl d)) := by
  unfold hd pl
  pointwise []

theorem row_apply (v : FVec Ideal S2880 .f32) (e : Fin 2880) :
    broadcastInDim S1x2880 ![1] bcast_S2880_S1x2880_1 v (ix2 (0 : Fin 1) e) = v (ix1 e) := by
  pointwise []

end Cert.KernelOIdeal.Hand

namespace Cert.ReferenceOIdeal.Hand

open Cert.ReferenceOIdeal Cert.ReferenceOIdeal.Gen
open Idealize.ShloMosaic Idealize.ShloMosaic.TcCoe Idealize.ShloMosaic.Tactic

variable (m : (ℓ : Loc nD τ sig) → Buf (Elt Ideal) ℓ)

theorem V_w (c : Dev nD) : V m c main_v0 = shapeCast S2880x2880 (m ((c : Thread nD τ).loc main_arg2) : S2880x30x96.Idx → Elt Ideal .fp8e4m3) shapeCasts_S2880x30x96_S2880x2880 := by
  unfold_abbrev_sides
  after_results
  rfl

theorem tw_apply (v : FVec Ideal S2880x30x96 .fp8e4m3) (e d : Fin 2880) :
    shapeCast S2880x2880 v shapeCasts_S2880x30x96_S2880x2880 (ix2 e d) = v (ix3 e (Cert.KernelOIdeal.Hand.hd d) (Cert.KernelOIdeal.Hand.pl d)) := by
  unfold Cert.KernelOIdeal.Hand.hd Cert.KernelOIdeal.Hand.pl
  pointwise []

end Cert.ReferenceOIdeal.Hand

namespace Cert.Hand

open Idealize.ShloMosaic Idealize.ShloMosaic.TcCoe

/-- EQUAL ARGUMENTS GIVE EQUAL INPUTS. -/
theorem inputsO_eq (m : (ℓ : Loc Cert.KernelOIdeal.nD Cert.KernelOIdeal.τ Cert.KernelOIdeal.sig) → Buf (Elt Ideal) ℓ)
    (m' : (ℓ : Loc Cert.ReferenceOIdeal.nD Cert.ReferenceOIdeal.τ Cert.ReferenceOIdeal.sig) → Buf (Elt Ideal) ℓ) (c : Dev Cert.KernelOIdeal.nD)
    (h0 : m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0))
    (h1 : m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1))
    (h2 : m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2))
    (h3 : m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3))
    (h4 : m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4))
    (h5 : m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)) :
    Cert.ReferenceOIdeal.Hand.inputs m' c = Cert.KernelOIdeal.Hand.inputs m c := by
  have e0 := ((Cert.ReferenceOIdeal.Gen.V_main_arg0 m' c).trans h0).trans (Cert.KernelOIdeal.Hand.V_o m c).symm
  have e1 := ((Cert.ReferenceOIdeal.Gen.V_main_arg1 m' c).trans h1).trans (Cert.KernelOIdeal.Hand.V_oa m c).symm
  have e3 := (Cert.ReferenceOIdeal.Gen.V_main_arg3 m' c).trans h3
  have e4 := (Cert.ReferenceOIdeal.Gen.V_main_arg4 m' c).trans h4
  have e5 := (Cert.ReferenceOIdeal.Gen.V_main_arg5 m' c).trans h5
  unfold Cert.ReferenceOIdeal.Hand.inputs Cert.ReferenceOIdeal.Hand.inputsOf Cert.KernelOIdeal.Hand.inputs
  rw [Cert.OSpec.OIn.mk.injEq]
  refine ⟨?_, ?_, ?_, ?_, ?_, ?_⟩
  · funext b s d
    exact congrFun e0 (ix3 b d s)
  · funext b s
    exact congrFun e1 (ix3 b (0 : Fin 1) s)
  · funext e d
    refine (congrFun (Cert.ReferenceOIdeal.Hand.V_w m' c) (ix2 e d)).trans ((Cert.ReferenceOIdeal.Hand.tw_apply _ e d).trans ?_)
    exact (congrFun h2 (ix3 e _ _)).trans ((Cert.KernelOIdeal.Hand.tw_apply _ d e).symm.trans (congrFun (Cert.KernelOIdeal.Hand.V_w m c) (ix2 d e)).symm)
  · funext e
    exact (congrFun e3 (ix1 e)).trans ((Cert.KernelOIdeal.Hand.row_apply _ e).symm.trans (congrFun (Cert.KernelOIdeal.Hand.V_ws m c) (ix2 (0 : Fin 1) e)).symm)
  · funext e
    exact (congrFun e4 (ix1 e)).trans ((Cert.KernelOIdeal.Hand.row_apply _ e).symm.trans (congrFun (Cert.KernelOIdeal.Hand.V_al m c) (ix2 (0 : Fin 1) e)).symm)
  · funext b s d
    exact (congrFun e5 (ix3 b s d)).trans ((Cert.KernelOIdeal.Hand.tx_apply _ b d s).symm.trans (congrFun (Cert.KernelOIdeal.Hand.V_x m c) (ix3 b d s)).symm)

end Cert.Hand

end
-- ==== Proof.DRun.lean ====
/-
  The body's runs at a grid point of the idealized down projection, one for each way its branches go.
-/
module

public import proofs.«01_k».proof.Proof.Gen.KernelDIdeal.Frame
public import proofs.«01_k».proof.Proof.Gen.KernelDIdeal.Skeleton
public import Idealize.ShloMosaic.Lib.Pipeline.Value
public import Idealize.ShloMosaic.Lib.Pipeline.ValueKit
public import Idealize.ShloMosaic.Lib.WritesUnit

@[expose] public section

-- membership in a rectangle of production extents: the elaborator's structural look recurses along the long axes
set_option maxRecDepth 16384

noncomputable section

namespace Cert.KernelDIdeal.Hand

open Cert.KernelDIdeal Cert.KernelDIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the stores leave -/

theorem inbC (j : Fin 15) (a : Fin 2) : (![0, 512 * j.val] : Fin 2 → ℕ) a + S256x512.size a ≤ S256x7680.size a := by
  have := j.isLt
  fin_cases a <;> simp <;> omega

/-- The `j`-th chunk of 512 columns. -/
abbrev rC (j : Fin 15) : Rect S256x7680 := Rect.unit (s := S256x7680) ![0, 512 * j.val] S256x512.size (inbC j)

/-- The chunk of a column, -/
def chunkOf (k : Fin 7680) : Fin 15 := ⟨k.val / 512, by have := k.isLt; omega⟩
/-- and its place there. -/
def inChunk (k : Fin 7680) : Fin 512 := ⟨k.val % 512, Nat.mod_lt _ (by norm_num)⟩

/-- The codes of one batch entry: chunk by chunk, from the rows and their maxima. -/
def mcOf (x0 : Vec F S256x7680 .f32) (x1 : Vec F S256x128 .f32) : Vec F S256x7680 .fp8e4m3 := fun ix =>
  k0_pay10 (k0_pay7 x1) (View.ld x0 (rC (chunkOf (ix 1)))) (ix2 (ix 0 : Fin 256) (inChunk (ix 1)))

/-- The scales of one batch entry. -/
def msOf (x1 : Vec F S256x128 .f32) : Vec F S1x1x256 .f32 := k0_pay9 (F := F) (k0_pay8 x1)

/-- The place of a row in its tile of 576. -/
def inTile (k : Fin 2880) : Fin 576 := ⟨k.val % 576, Nat.mod_lt _ (by norm_num)⟩

/-- The array `old` with the point's tile of rows replaced. -/
def hmPut (i : grid0.Coords) (P : Vec F S576x256 .f32) (old : Vec F S2880x256 .f32) : Vec F S2880x256 .f32 := fun ix =>
  if (ix 0).val / 576 = (i 1).val then P (ix2 (inTile (ix 0)) (ix 1 : Fin 256)) else old ix

/-- The point's rows of a column scratch. -/
abbrev rW (i : grid0.Coords) : Rect S2880x128 := Rect.unit (s := S2880x128) (k0_off1 i) S576x128.size (k0_off1_inb i)

section Reads

variable {s : Shape} {e : EltTy}

theorem readAt_unread {m : Memref sig .tc .vmem s e} (h : m.IsWhole) (y : s.Idx → Elt F e) (r : Rect s) :
    m.view.readAt (Elt F) r.toLoadRect (h.unread y) = View.ld y r := by
  rw [View.readAt_eq_ld, h.read_unread]

/-- A store over the whole array leaves its payload. -/
theorem read_whole (v : View sig .tc .vmem s e) (f : v.ty.Contents (Elt F)) {off : Fin s.rank → ℕ} (hoff : off = fun _ => 0)
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y hoff (fun a => by simp)

theorem z2 : (![0, 0] : Fin 2 → ℕ) = fun _ => 0 := by funext a; fin_cases a <;> rfl
theorem z3 : (![0, 0, 0] : Fin 3 → ℕ) = fun _ => 0 := by funext a; fin_cases a <;> rfl

end Reads

/-- The tile stored at the point's rows. -/
theorem read_tile (v : View sig .tc .vmem S2880x256 .f32) (f : v.ty.Contents (Elt F)) (i : grid0.Coords) (P : Vec F S576x256 .f32) :
    v.read (Elt F) (v.writes (Elt F) f [⟨Rect.unit (s := S2880x256) (k0_off2 i) S576x256.size (k0_off2_inb i), P⟩])
      = hmPut i P (v.read (Elt F) f) := by
  funext y
  have h0 : (y 0).val < 2880 := (y 0).isLt
  have hi : (i 1).val < 5 := (i 1).isLt
  unfold hmPut
  by_cases h : (y 0).val / 576 = (i 1).val
  · rw [if_pos h]
    refine View.read_writes_cons_unit_of_mem v f _ P [] y (ix2 (inTile (y 0)) (y 1 : Fin 256)) (k0_off2_eq i) (fun a => ?_)
    fin_cases a
    · show (y 0).val = 576 * (i 1).val + (y 0).val % 576
      omega
    · show (y 1).val = 0 + (y 1).val
      omega
  · rw [if_neg h]
    refine View.read_writes_cons_unit_of_not_mem v f _ P [] y (k0_off2_eq i) (0 : Fin 2) ?_
    show (y 0).val < 576 * (i 1).val ∨ 576 * (i 1).val + 576 ≤ (y 0).val
    omega

/-- Fifteen chunks stored. -/
theorem read_chunks (v : View sig .tc .vmem S256x7680 .fp8e4m3) (f : v.ty.Contents (Elt F)) (P : Fin 15 → Vec F S256x512 .fp8e4m3) :
    v.read (Elt F) (v.writes (Elt F) f (View.tilePieces (s := S256x7680) S256x512.size (fun j : Fin 15 => ![0, 512 * j.val]) inbC P 15 le_rfl))
      = fun ix => P (chunkOf (ix 1)) (ix2 (ix 0 : Fin 256) (inChunk (ix 1))) := by
  funext y
  have h1 : (y 1).val < 7680 := (y 1).isLt
  refine View.read_tilePieces v f _ _ _ P 15 le_rfl y (chunkOf (y 1)) (chunkOf (y 1)).isLt _ (fun a => ?_) (1 : Fin 2) (fun j hj => ?_)
  · fin_cases a
    · show (y 0).val = 0 + (y 0).val
      omega
    · show (y 1).val = 512 * ((y 1).val / 512) + (y 1).val % 512
      omega
  · have : j.val ≠ (y 1).val / 512 := fun h => hj (Fin.ext h)
    show (y 1).val < 512 * j.val ∨ 512 * j.val + 512 ≤ (y 1).val
    omega

set_option maxHeartbeats 1600000 in
/-- The fifteen chunks' codes, stored one after another, are the batch entry's codes. -/
theorem read_codes (v : View sig .tc .vmem S256x7680 .fp8e4m3) (f : v.ty.Contents (Elt F)) {x0 : Vec F S256x7680 .f32} {x1 : Vec F S256x128 .f32}
    {p0 p1 p2 p3 p4 p5 p6 p7 p8 p9 p10 p11 p12 p13 p14 : Vec F S256x512 .fp8e4m3} (h0 : p0 = k0_pay10 (k0_pay7 x1) (View.ld x0 (rC 0))) (h1 : p1 = k0_pay10 (k0_pay7 x1) (View.ld x0 (rC 1))) (h2 : p2 = k0_pay10 (k0_pay7 x1) (View.ld x0 (rC 2))) (h3 : p3 = k0_pay10 (k0_pay7 x1) (View.ld x0 (rC 3))) (h4 : p4 = k0_pay10 (k0_pay7 x1) (View.ld x0 (rC 4))) (h5 : p5 = k0_pay10 (k0_pay7 x1) (View.ld x0 (rC 5))) (h6 : p6 = k0_pay10 (k0_pay7 x1) (View.ld x0 (rC 6))) (h7 : p7 = k0_pay10 (k0_pay7 x1) (View.ld x0 (rC 7))) (h8 : p8 = k0_pay10 (k0_pay7 x1) (View.ld x0 (rC 8))) (h9 : p9 = k0_pay10 (k0_pay7 x1) (View.ld x0 (rC 9))) (h10 : p10 = k0_pay10 (k0_pay7 x1) (View.ld x0 (rC 10))) (h11 : p11 = k0_pay10 (k0_pay7 x1) (View.ld x0 (rC 11))) (h12 : p12 = k0_pay10 (k0_pay7 x1) (View.ld x0 (rC 12))) (h13 : p13 = k0_pay10 (k0_pay7 x1) (View.ld x0 (rC 13))) (h14 : p14 = k0_pay10 (k0_pay7 x1) (View.ld x0 (rC 14))) :
    v.read (Elt F) (v.writes (Elt F) f
      [⟨Rect.unit (s := S256x7680) ![0, 7168] S256x512.size inb_S256x7680_S256x512_0_7168, p14⟩,
       ⟨Rect.unit (s := S256x7680) ![0, 6656] S256x512.size inb_S256x7680_S256x512_0_6656, p13⟩,
       ⟨Rect.unit (s := S256x7680) ![0, 6144] S256x512.size inb_S256x7680_S256x512_0_6144, p12⟩,
       ⟨Rect.unit (s := S256x7680) ![0, 5632] S256x512.size inb_S256x7680_S256x512_0_5632, p11⟩,
       ⟨Rect.unit (s := S256x7680) ![0, 5120] S256x512.size inb_S256x7680_S256x512_0_5120, p10⟩,
       ⟨Rect.unit (s := S256x7680) ![0, 4608] S256x512.size inb_S256x7680_S256x512_0_4608, p9⟩,
       ⟨Rect.unit (s := S256x7680) ![0, 4096] S256x512.size inb_S256x7680_S256x512_0_4096, p8⟩,
       ⟨Rect.unit (s := S256x7680) ![0, 3584] S256x512.size inb_S256x7680_S256x512_0_3584, p7⟩,
       ⟨Rect.unit (s := S256x7680) ![0, 3072] S256x512.size inb_S256x7680_S256x512_0_3072, p6⟩,
       ⟨Rect.unit (s := S256x7680) ![0, 2560] S256x512.size inb_S256x7680_S256x512_0_2560, p5⟩,
       ⟨Rect.unit (s := S256x7680) ![0, 2048] S256x512.size inb_S256x7680_S256x512_0_2048, p4⟩,
       ⟨Rect.unit (s := S256x7680) ![0, 1536] S256x512.size inb_S256x7680_S256x512_0_1536, p3⟩,
       ⟨Rect.unit (s := S256x7680) ![0, 1024] S256x512.size inb_S256x7680_S256x512_0_1024, p2⟩,
       ⟨Rect.unit (s := S256x7680) ![0, 512] S256x512.size inb_S256x7680_S256x512_0_512, p1⟩,
       ⟨Rect.unit (s := S256x7680) ![0, 0] S256x512.size inb_S256x7680_S256x512_0_0, p0⟩]) = mcOf x0 x1 := by
  subst h0 h1 h2 h3 h4 h5 h6 h7 h8 h9 h10 h11 h12 h13 h14
  exact read_chunks v f (fun j => k0_pay10 (k0_pay7 x1) (View.ld x0 (rC j)))

/-! ## The chunks' payloads are one function -/

theorem pc0 (v : FVec F S256x1 .f32) (x : Vec F S256x512 .f32) : k0_pay10 v x = k0_pay10 v x := rfl
theorem pc1 (v : FVec F S256x1 .f32) (x : Vec F S256x512 .f32) : k0_pay11 v x = k0_pay10 v x := rfl
theorem pc2 (v : FVec F S256x1 .f32) (x : Vec F S256x512 .f32) : k0_pay12 v x = k0_pay10 v x := rfl
theorem pc3 (v : FVec F S256x1 .f32) (x : Vec F S256x512 .f32) : k0_pay13 v x = k0_pay10 v x := rfl
theorem pc4 (v : FVec F S256x1 .f32) (x : Vec F S256x512 .f32) : k0_pay14 v x = k0_pay10 v x := rfl
theorem pc5 (v : FVec F S256x1 .f32) (x : Vec F S256x512 .f32) : k0_pay15 v x = k0_pay10 v x := rfl
theorem pc6 (v : FVec F S256x1 .f32) (x : Vec F S256x512 .f32) : k0_pay16 v x = k0_pay10 v x := rfl
theorem pc7 (v : FVec F S256x1 .f32) (x : Vec F S256x512 .f32) : k0_pay17 v x = k0_pay10 v x := rfl
theorem pc8 (v : FVec F S256x1 .f32) (x : Vec F S256x512 .f32) : k0_pay18 v x = k0_pay10 v x := rfl
theorem pc9 (v : FVec F S256x1 .f32) (x : Vec F S256x512 .f32) : k0_pay21 (k0_pay19 v x) k0_pay20 = k0_pay10 v x := rfl
theorem pc10 (v : FVec F S256x1 .f32) (x : Vec F S256x512 .f32) : k0_pay22 v x = k0_pay10 v x := rfl
theorem pc11 (v : FVec F S256x1 .f32) (x : Vec F S256x512 .f32) : k0_pay23 v x = k0_pay10 v x := rfl
theorem pc12 (v : FVec F S256x1 .f32) (x : Vec F S256x512 .f32) : k0_pay24 v x = k0_pay10 v x := rfl
theorem pc13 (v : FVec F S256x1 .f32) (x : Vec F S256x512 .f32) : k0_pay3 (k0_pay25 v x) (Scalar.ofBits .f32 0xC3E00000#32) = k0_pay10 v x := rfl
theorem pc14 (v : FVec F S256x1 .f32) (x : Vec F S256x512 .f32) : k0_pay4 v x = k0_pay10 v x := rfl

theorem congr3 {α β γ δ : Type} (f : α → β → γ → δ) {a a' : α} {b b' : β} {c c' : γ} (ha : a = a') (hb : b = b') (hc : c = c') :
    f a b c = f a' b' c' := by subst ha hb hc; rfl
theorem congr4 {α β γ δ ε : Type} (f : α → β → γ → δ → ε) {a a' : α} {b b' : β} {c c' : γ} {d d' : δ} (ha : a = a') (hb : b = b') (hc : c = c')
    (hd : d = d') : f a b c d = f a' b' c' d' := by subst ha hb hc hd; rfl

/-- The condition of the body's first branch: the first point only. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-! ## The runs -/

-- (the run's proof term is large: checking it walks past the default budget)
set_option maxHeartbeats 4000000 in
/-- The body's run at the first point. -/
theorem runA (c : Dev nD) (i : grid0.Coords) (arg2 : Memref sig .tc .vmem S256x7680 .f32) (harg2 : arg2.IsWhole) (arg3 : Memref sig .tc .vmem S256x128 .f32) (harg3 : arg3.IsWhole) (arg4 : Memref sig .tc .vmem S576x7680 .fp8e4m3) (harg4 : arg4.IsWhole) (arg5 : Memref sig .tc .vmem S1x2880 .f32) (harg5 : arg5.IsWhole) (arg6 : Memref sig .tc .vmem S1x2880 .f32) (harg6 : arg6.IsWhole) (arg7 : Memref sig .tc .vmem S1x2880x256 .f32) (harg7 : arg7.IsWhole) (arg8 : Memref sig .tc .vmem S256x7680 .fp8e4m3) (harg8 : arg8.IsWhole) (arg9 : Memref sig .tc .vmem S1x1x256 .f32) (harg9 : arg9.IsWhole) (arg10 : Memref sig .tc .vmem S1x2880x256 .bf16) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x256 .f32) (harg13 : arg13.IsWhole)
    (hc1 : cond1 i) (hc2 : k0_cond2 i = 1#1) (hc3 : ¬ k0_cond3 i = 1#1)
    (x0 : Vec F S256x7680 .f32) (x1 : Vec F S256x128 .f32) (x2 : Vec F S576x7680 .fp8e4m3) (x3 : Vec F S1x2880 .f32) (x4 : Vec F S1x2880 .f32) (x5 : Vec F S1x2880x256 .f32) (y6 : Vec F S256x7680 .fp8e4m3) (y7 : Vec F S1x1x256 .f32) (y8 : Vec F S1x2880x256 .bf16) (w : Vec F S2880x128 .f32) (a : Vec F S2880x128 .f32) (h : Vec F S2880x256 .f32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (y6) ∗ owns (c : Thread nD τ) arg9 fullShare (y7) ∗ owns (c : Thread nD τ) arg10 fullShare (y8) ∗ owns (c : Thread nD τ) arg11 fullShare (w) ∗ owns (c : Thread nD τ) arg12 fullShare (a) ∗ owns (c : Thread nD τ) arg13 fullShare (h)
            ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (mcOf x0 x1) ∗ owns (c : Thread nD τ) arg9 fullShare (msOf x1) ∗ owns (c : Thread nD τ) arg10 fullShare (y8) ∗ owns (c : Thread nD τ) arg11 fullShare (k0_pay1 x3) ∗ owns (c : Thread nD τ) arg12 fullShare (k0_pay2 x4) ∗ owns (c : Thread nD τ) arg13 fullShare (hmPut i (k0_pay5 x2 (mcOf x0 x1) (msOf x1) (View.ld (k0_pay1 x3) (rW i))) h)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13) K := by
    intro E K
    simp only [cc0_down_eq_skeleton]; unfold cc0_down_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc1 | sl_exact hc2 | sl_exact hc3)
    sl_step
    iapply Hk
    isplitl [H0]
    · iexists _; isplitr; swap; · iexact H0
      ipureintro
      exact harg2.read_unread _
    isplitl [H1]
    · iexists _; isplitr; swap; · iexact H1
      ipureintro
      exact harg3.read_unread _
    isplitl [H2]
    · iexists _; isplitr; swap; · iexact H2
      ipureintro
      exact harg4.read_unread _
    isplitl [H3]
    · iexists _; isplitr; swap; · iexact H3
      ipureintro
      exact harg5.read_unread _
    isplitl [H4]
    · iexists _; isplitr; swap; · iexact H4
      ipureintro
      exact harg6.read_unread _
    isplitl [H5]
    · iexists _; isplitr; swap; · iexact H5
      ipureintro
      exact harg7.read_unread _
    isplitl [H6]
    · iexists _; isplitr; swap; · iexact H6
      ipureintro
      exact (read_codes arg8.view _ ((pc0 _ _).trans (congrArg₂ k0_pay10 (congrArg k0_pay7 ((readAt_unread harg3 x1 _).trans (View.ld_unit_zero z2 _ _))) (readAt_unread harg2 x0 (rC 0)))) ((pc1 _ _).trans (congrArg₂ k0_pay10 (congrArg k0_pay7 ((readAt_unread harg3 x1 _).trans (View.ld_unit_zero z2 _ _))) (readAt_unread harg2 x0 (rC 1)))) ((pc2 _ _).trans (congrArg₂ k0_pay10 (congrArg k0_pay7 ((readAt_unread harg3 x1 _).trans (View.ld_unit_zero z2 _ _))) (readAt_unread harg2 x0 (rC 2)))) ((pc3 _ _).trans (congrArg₂ k0_pay10 (congrArg k0_pay7 ((readAt_unread harg3 x1 _).trans (View.ld_unit_zero z2 _ _))) (readAt_unread harg2 x0 (rC 3)))) ((pc4 _ _).trans (congrArg₂ k0_pay10 (congrArg k0_pay7 ((readAt_unread harg3 x1 _).trans (View.ld_unit_zero z2 _ _))) (readAt_unread harg2 x0 (rC 4)))) ((pc5 _ _).trans (congrArg₂ k0_pay10 (congrArg k0_pay7 ((readAt_unread harg3 x1 _).trans (View.ld_unit_zero z2 _ _))) (readAt_unread harg2 x0 (rC 5)))) ((pc6 _ _).trans (congrArg₂ k0_pay10 (congrArg k0_pay7 ((readAt_unread harg3 x1 _).trans (View.ld_unit_zero z2 _ _))) (readAt_unread harg2 x0 (rC 6)))) ((pc7 _ _).trans (congrArg₂ k0_pay10 (congrArg k0_pay7 ((readAt_unread harg3 x1 _).trans (View.ld_unit_zero z2 _ _))) (readAt_unread harg2 x0 (rC 7)))) ((pc8 _ _).trans (congrArg₂ k0_pay10 (congrArg k0_pay7 ((readAt_unread harg3 x1 _).trans (View.ld_unit_zero z2 _ _))) (readAt_unread harg2 x0 (rC 8)))) ((pc9 _ _).trans (congrArg₂ k0_pay10 (congrArg k0_pay7 ((readAt_unread harg3 x1 _).trans (View.ld_unit_zero z2 _ _))) (readAt_unread harg2 x0 (rC 9)))) ((pc10 _ _).trans (congrArg₂ k0_pay10 (congrArg k0_pay7 ((readAt_unread harg3 x1 _).trans (View.ld_unit_zero z2 _ _))) (readAt_unread harg2 x0 (rC 10)))) ((pc11 _ _).trans (congrArg₂ k0_pay10 (congrArg k0_pay7 ((readAt_unread harg3 x1 _).trans (View.ld_unit_zero z2 _ _))) (readAt_unread harg2 x0 (rC 11)))) ((pc12 _ _).trans (congrArg₂ k0_pay10 (congrArg k0_pay7 ((readAt_unread harg3 x1 _).trans (View.ld_unit_zero z2 _ _))) (readAt_unread harg2 x0 (rC 12)))) ((pc13 _ _).trans (congrArg₂ k0_pay10 (congrArg k0_pay7 ((readAt_unread harg3 x1 _).trans (View.ld_unit_zero z2 _ _))) (readAt_unread harg2 x0 (rC 13)))) ((pc14 _ _).trans (congrArg₂ k0_pay10 (congrArg k0_pay7 ((readAt_unread harg3 x1 _).trans (View.ld_unit_zero z2 _ _))) (readAt_unread harg2 x0 (rC 14)))))
    isplitl [H7]
    · iexists _; isplitr; swap; · iexact H7
      ipureintro
      exact (read_whole arg9.view _ z3 _ _ _).trans (congrArg msOf ((readAt_unread harg3 x1 _).trans (View.ld_unit_zero z2 _ _)))
    isplitl [H8]
    · iexists _; isplitr; swap; · iexact H8
      ipureintro
      exact harg10.read_unread _
    isplitl [H9]
    · iexists _; isplitr; swap; · iexact H9
      ipureintro
      exact (read_whole arg11.view _ z2 _ _ _).trans (congrArg k0_pay1 ((readAt_unread harg5 x3 _).trans (View.ld_unit_zero z2 _ _)))
    isplitl [H10]
    · iexists _; isplitr; swap; · iexact H10
      ipureintro
      exact (read_whole arg12.view _ z2 _ _ _).trans (congrArg k0_pay2 ((readAt_unread harg6 x4 _).trans (View.ld_unit_zero z2 _ _)))
    iexists _; isplitr; swap; · iexact H11
    ipureintro
    refine (read_tile arg13.view _ i _).trans ((congrArg (hmPut i _) (harg13.read_unread _)).trans (congrArg (fun P => hmPut i P h) ?_))
    exact congr4 k0_pay5 ((readAt_unread harg4 x2 _).trans (View.ld_unit_zero z2 _ _)) ((View.readAt_eq_ld ..).trans ((View.ld_unit_zero z2 _ _).trans (read_codes arg8.view _ ((pc0 _ _).trans (congrArg₂ k0_pay10 (congrArg k0_pay7 ((readAt_unread harg3 x1 _).trans (View.ld_unit_zero z2 _ _))) (readAt_unread harg2 x0 (rC 0)))) ((pc1 _ _).trans (congrArg₂ k0_pay10 (congrArg k0_pay7 ((readAt_unread harg3 x1 _).trans (View.ld_unit_zero z2 _ _))) (readAt_unread harg2 x0 (rC 1)))) ((pc2 _ _).trans (congrArg₂ k0_pay10 (congrArg k0_pay7 ((readAt_unread harg3 x1 _).trans (View.ld_unit_zero z2 _ _))) (readAt_unread harg2 x0 (rC 2)))) ((pc3 _ _).trans (congrArg₂ k0_pay10 (congrArg k0_pay7 ((readAt_unread harg3 x1 _).trans (View.ld_unit_zero z2 _ _))) (readAt_unread harg2 x0 (rC 3)))) ((pc4 _ _).trans (congrArg₂ k0_pay10 (congrArg k0_pay7 ((readAt_unread harg3 x1 _).trans (View.ld_unit_zero z2 _ _))) (readAt_unread harg2 x0 (rC 4)))) ((pc5 _ _).trans (congrArg₂ k0_pay10 (congrArg k0_pay7 ((readAt_unread harg3 x1 _).trans (View.ld_unit_zero z2 _ _))) (readAt_unread harg2 x0 (rC 5)))) ((pc6 _ _).trans (congrArg₂ k0_pay10 (congrArg k0_pay7 ((readAt_unread harg3 x1 _).trans (View.ld_unit_zero z2 _ _))) (readAt_unread harg2 x0 (rC 6)))) ((pc7 _ _).trans (congrArg₂ k0_pay10 (congrArg k0_pay7 ((readAt_unread harg3 x1 _).trans (View.ld_unit_zero z2 _ _))) (readAt_unread harg2 x0 (rC 7)))) ((pc8 _ _).trans (congrArg₂ k0_pay10 (congrArg k0_pay7 ((readAt_unread harg3 x1 _).trans (View.ld_unit_zero z2 _ _))) (readAt_unread harg2 x0 (rC 8)))) ((pc9 _ _).trans (congrArg₂ k0_pay10 (congrArg k0_pay7 ((readAt_unread harg3 x1 _).trans (View.ld_unit_zero z2 _ _))) (readAt_unread harg2 x0 (rC 9)))) ((pc10 _ _).trans (congrArg₂ k0_pay10 (congrArg k0_pay7 ((readAt_unread harg3 x1 _).trans (View.ld_unit_zero z2 _ _))) (readAt_unread harg2 x0 (rC 10)))) ((pc11 _ _).trans (congrArg₂ k0_pay10 (congrArg k0_pay7 ((readAt_unread harg3 x1 _).trans (View.ld_unit_zero z2 _ _))) (readAt_unread harg2 x0 (rC 11)))) ((pc12 _ _).trans (congrArg₂ k0_pay10 (congrArg k0_pay7 ((readAt_unread harg3 x1 _).trans (View.ld_unit_zero z2 _ _))) (readAt_unread harg2 x0 (rC 12)))) ((pc13 _ _).trans (congrArg₂ k0_pay10 (congrArg k0_pay7 ((readAt_unread harg3 x1 _).trans (View.ld_unit_zero z2 _ _))) (readAt_unread harg2 x0 (rC 13)))) ((pc14 _ _).trans (congrArg₂ k0_pay10 (congrArg k0_pay7 ((readAt_unread harg3 x1 _).trans (View.ld_unit_zero z2 _ _))) (readAt_unread harg2 x0 (rC 14))))))) ((View.readAt_eq_ld ..).trans ((View.ld_unit_zero z3 _ _).trans ((read_whole arg9.view _ z3 _ _ _).trans (congrArg msOf ((readAt_unread harg3 x1 _).trans (View.ld_unit_zero z2 _ _)))))) ((View.readAt_eq_ld ..).trans (congrArg (fun W => View.ld W (rW i)) ((read_whole arg11.view _ z2 _ _ _).trans (congrArg k0_pay1 ((readAt_unread harg5 x3 _).trans (View.ld_unit_zero z2 _ _))))))

-- (the run's proof term is large: checking it walks past the default budget)
set_option maxHeartbeats 4000000 in
/-- The body's run at a later batch entry's first point. -/
theorem runB (c : Dev nD) (i : grid0.Coords) (arg2 : Memref sig .tc .vmem S256x7680 .f32) (harg2 : arg2.IsWhole) (arg3 : Memref sig .tc .vmem S256x128 .f32) (harg3 : arg3.IsWhole) (arg4 : Memref sig .tc .vmem S576x7680 .fp8e4m3) (harg4 : arg4.IsWhole) (arg5 : Memref sig .tc .vmem S1x2880 .f32) (harg5 : arg5.IsWhole) (arg6 : Memref sig .tc .vmem S1x2880 .f32) (harg6 : arg6.IsWhole) (arg7 : Memref sig .tc .vmem S1x2880x256 .f32) (harg7 : arg7.IsWhole) (arg8 : Memref sig .tc .vmem S256x7680 .fp8e4m3) (harg8 : arg8.IsWhole) (arg9 : Memref sig .tc .vmem S1x1x256 .f32) (harg9 : arg9.IsWhole) (arg10 : Memref sig .tc .vmem S1x2880x256 .bf16) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x256 .f32) (harg13 : arg13.IsWhole)
    (hc1 : ¬ cond1 i) (hc2 : k0_cond2 i = 1#1) (hc3 : ¬ k0_cond3 i = 1#1)
    (x0 : Vec F S256x7680 .f32) (x1 : Vec F S256x128 .f32) (x2 : Vec F S576x7680 .fp8e4m3) (x3 : Vec F S1x2880 .f32) (x4 : Vec F S1x2880 .f32) (x5 : Vec F S1x2880x256 .f32) (y6 : Vec F S256x7680 .fp8e4m3) (y7 : Vec F S1x1x256 .f32) (y8 : Vec F S1x2880x256 .bf16) (w : Vec F S2880x128 .f32) (a : Vec F S2880x128 .f32) (h : Vec F S2880x256 .f32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (y6) ∗ owns (c : Thread nD τ) arg9 fullShare (y7) ∗ owns (c : Thread nD τ) arg10 fullShare (y8) ∗ owns (c : Thread nD τ) arg11 fullShare (w) ∗ owns (c : Thread nD τ) arg12 fullShare (a) ∗ owns (c : Thread nD τ) arg13 fullShare (h)
            ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (mcOf x0 x1) ∗ owns (c : Thread nD τ) arg9 fullShare (msOf x1) ∗ owns (c : Thread nD τ) arg10 fullShare (y8) ∗ owns (c : Thread nD τ) arg11 fullShare (w) ∗ owns (c : Thread nD τ) arg12 fullShare (a) ∗ owns (c : Thread nD τ) arg13 fullShare (hmPut i (k0_pay5 x2 (mcOf x0 x1) (msOf x1) (View.ld (w) (rW i))) h)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13) K := by
    intro E K
    simp only [cc0_down_eq_skeleton]; unfold cc0_down_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc1 | sl_exact hc2 | sl_exact hc3)
    sl_step
    iapply Hk
    isplitl [H0]
    · iexists _; isplitr; swap; · iexact H0
      ipureintro
      exact harg2.read_unread _
    isplitl [H1]
    · iexists _; isplitr; swap; · iexact H1
      ipureintro
      exact harg3.read_unread _
    isplitl [H2]
    · iexists _; isplitr; swap; · iexact H2
      ipureintro
      exact harg4.read_unread _
    isplitl [H3]
    · iexists _; isplitr; swap; · iexact H3
      ipureintro
      exact harg5.read_unread _
    isplitl [H4]
    · iexists _; isplitr; swap; · iexact H4
      ipureintro
      exact harg6.read_unread _
    isplitl [H5]
    · iexists _; isplitr; swap; · iexact H5
      ipureintro
      exact harg7.read_unread _
    isplitl [H6]
    · iexists _; isplitr; swap; · iexact H6
      ipureintro
      exact (read_codes arg8.view _ ((pc0 _ _).trans (congrArg₂ k0_pay10 (congrArg k0_pay7 ((readAt_unread harg3 x1 _).trans (View.ld_unit_zero z2 _ _))) (readAt_unread harg2 x0 (rC 0)))) ((pc1 _ _).trans (congrArg₂ k0_pay10 (congrArg k0_pay7 ((readAt_unread harg3 x1 _).trans (View.ld_unit_zero z2 _ _))) (readAt_unread harg2 x0 (rC 1)))) ((pc2 _ _).trans (congrArg₂ k0_pay10 (congrArg k0_pay7 ((readAt_unread harg3 x1 _).trans (View.ld_unit_zero z2 _ _))) (readAt_unread harg2 x0 (rC 2)))) ((pc3 _ _).trans (congrArg₂ k0_pay10 (congrArg k0_pay7 ((readAt_unread harg3 x1 _).trans (View.ld_unit_zero z2 _ _))) (readAt_unread harg2 x0 (rC 3)))) ((pc4 _ _).trans (congrArg₂ k0_pay10 (congrArg k0_pay7 ((readAt_unread harg3 x1 _).trans (View.ld_unit_zero z2 _ _))) (readAt_unread harg2 x0 (rC 4)))) ((pc5 _ _).trans (congrArg₂ k0_pay10 (congrArg k0_pay7 ((readAt_unread harg3 x1 _).trans (View.ld_unit_zero z2 _ _))) (readAt_unread harg2 x0 (rC 5)))) ((pc6 _ _).trans (congrArg₂ k0_pay10 (congrArg k0_pay7 ((readAt_unread harg3 x1 _).trans (View.ld_unit_zero z2 _ _))) (readAt_unread harg2 x0 (rC 6)))) ((pc7 _ _).trans (congrArg₂ k0_pay10 (congrArg k0_pay7 ((readAt_unread harg3 x1 _).trans (View.ld_unit_zero z2 _ _))) (readAt_unread harg2 x0 (rC 7)))) ((pc8 _ _).trans (congrArg₂ k0_pay10 (congrArg k0_pay7 ((readAt_unread harg3 x1 _).trans (View.ld_unit_zero z2 _ _))) (readAt_unread harg2 x0 (rC 8)))) ((pc9 _ _).trans (congrArg₂ k0_pay10 (congrArg k0_pay7 ((readAt_unread harg3 x1 _).trans (View.ld_unit_zero z2 _ _))) (readAt_unread harg2 x0 (rC 9)))) ((pc10 _ _).trans (congrArg₂ k0_pay10 (congrArg k0_pay7 ((readAt_unread harg3 x1 _).trans (View.ld_unit_zero z2 _ _))) (readAt_unread harg2 x0 (rC 10)))) ((pc11 _ _).trans (congrArg₂ k0_pay10 (congrArg k0_pay7 ((readAt_unread harg3 x1 _).trans (View.ld_unit_zero z2 _ _))) (readAt_unread harg2 x0 (rC 11)))) ((pc12 _ _).trans (congrArg₂ k0_pay10 (congrArg k0_pay7 ((readAt_unread harg3 x1 _).trans (View.ld_unit_zero z2 _ _))) (readAt_unread harg2 x0 (rC 12)))) ((pc13 _ _).trans (congrArg₂ k0_pay10 (congrArg k0_pay7 ((readAt_unread harg3 x1 _).trans (View.ld_unit_zero z2 _ _))) (readAt_unread harg2 x0 (rC 13)))) ((pc14 _ _).trans (congrArg₂ k0_pay10 (congrArg k0_pay7 ((readAt_unread harg3 x1 _).trans (View.ld_unit_zero z2 _ _))) (readAt_unread harg2 x0 (rC 14)))))
    isplitl [H7]
    · iexists _; isplitr; swap; · iexact H7
      ipureintro
      exact (read_whole arg9.view _ z3 _ _ _).trans (congrArg msOf ((readAt_unread harg3 x1 _).trans (View.ld_unit_zero z2 _ _)))
    isplitl [H8]
    · iexists _; isplitr; swap; · iexact H8
      ipureintro
      exact harg10.read_unread _
    isplitl [H9]
    · iexists _; isplitr; swap; · iexact H9
      ipureintro
      exact harg11.read_unread _
    isplitl [H10]
    · iexists _; isplitr; swap; · iexact H10
      ipureintro
      exact harg12.read_unread _
    iexists _; isplitr; swap; · iexact H11
    ipureintro
    refine (read_tile arg13.view _ i _).trans ((congrArg (hmPut i _) (harg13.read_unread _)).trans (congrArg (fun P => hmPut i P h) ?_))
    exact congr4 k0_pay5 ((readAt_unread harg4 x2 _).trans (View.ld_unit_zero z2 _ _)) ((View.readAt_eq_ld ..).trans ((View.ld_unit_zero z2 _ _).trans (read_codes arg8.view _ ((pc0 _ _).trans (congrArg₂ k0_pay10 (congrArg k0_pay7 ((readAt_unread harg3 x1 _).trans (View.ld_unit_zero z2 _ _))) (readAt_unread harg2 x0 (rC 0)))) ((pc1 _ _).trans (congrArg₂ k0_pay10 (congrArg k0_pay7 ((readAt_unread harg3 x1 _).trans (View.ld_unit_zero z2 _ _))) (readAt_unread harg2 x0 (rC 1)))) ((pc2 _ _).trans (congrArg₂ k0_pay10 (congrArg k0_pay7 ((readAt_unread harg3 x1 _).trans (View.ld_unit_zero z2 _ _))) (readAt_unread harg2 x0 (rC 2)))) ((pc3 _ _).trans (congrArg₂ k0_pay10 (congrArg k0_pay7 ((readAt_unread harg3 x1 _).trans (View.ld_unit_zero z2 _ _))) (readAt_unread harg2 x0 (rC 3)))) ((pc4 _ _).trans (congrArg₂ k0_pay10 (congrArg k0_pay7 ((readAt_unread harg3 x1 _).trans (View.ld_unit_zero z2 _ _))) (readAt_unread harg2 x0 (rC 4)))) ((pc5 _ _).trans (congrArg₂ k0_pay10 (congrArg k0_pay7 ((readAt_unread harg3 x1 _).trans (View.ld_unit_zero z2 _ _))) (readAt_unread harg2 x0 (rC 5)))) ((pc6 _ _).trans (congrArg₂ k0_pay10 (congrArg k0_pay7 ((readAt_unread harg3 x1 _).trans (View.ld_unit_zero z2 _ _))) (readAt_unread harg2 x0 (rC 6)))) ((pc7 _ _).trans (congrArg₂ k0_pay10 (congrArg k0_pay7 ((readAt_unread harg3 x1 _).trans (View.ld_unit_zero z2 _ _))) (readAt_unread harg2 x0 (rC 7)))) ((pc8 _ _).trans (congrArg₂ k0_pay10 (congrArg k0_pay7 ((readAt_unread harg3 x1 _).trans (View.ld_unit_zero z2 _ _))) (readAt_unread harg2 x0 (rC 8)))) ((pc9 _ _).trans (congrArg₂ k0_pay10 (congrArg k0_pay7 ((readAt_unread harg3 x1 _).trans (View.ld_unit_zero z2 _ _))) (readAt_unread harg2 x0 (rC 9)))) ((pc10 _ _).trans (congrArg₂ k0_pay10 (congrArg k0_pay7 ((readAt_unread harg3 x1 _).trans (View.ld_unit_zero z2 _ _))) (readAt_unread harg2 x0 (rC 10)))) ((pc11 _ _).trans (congrArg₂ k0_pay10 (congrArg k0_pay7 ((readAt_unread harg3 x1 _).trans (View.ld_unit_zero z2 _ _))) (readAt_unread harg2 x0 (rC 11)))) ((pc12 _ _).trans (congrArg₂ k0_pay10 (congrArg k0_pay7 ((readAt_unread harg3 x1 _).trans (View.ld_unit_zero z2 _ _))) (readAt_unread harg2 x0 (rC 12)))) ((pc13 _ _).trans (congrArg₂ k0_pay10 (congrArg k0_pay7 ((readAt_unread harg3 x1 _).trans (View.ld_unit_zero z2 _ _))) (readAt_unread harg2 x0 (rC 13)))) ((pc14 _ _).trans (congrArg₂ k0_pay10 (congrArg k0_pay7 ((readAt_unread harg3 x1 _).trans (View.ld_unit_zero z2 _ _))) (readAt_unread harg2 x0 (rC 14))))))) ((View.readAt_eq_ld ..).trans ((View.ld_unit_zero z3 _ _).trans ((read_whole arg9.view _ z3 _ _ _).trans (congrArg msOf ((readAt_unread harg3 x1 _).trans (View.ld_unit_zero z2 _ _)))))) (readAt_unread harg11 w (rW i))

-- (the run's proof term is large: checking it walks past the default budget)
set_option maxHeartbeats 4000000 in
/-- The body's run at a middle point of a batch entry. -/
theorem runC (c : Dev nD) (i : grid0.Coords) (arg2 : Memref sig .tc .vmem S256x7680 .f32) (harg2 : arg2.IsWhole) (arg3 : Memref sig .tc .vmem S256x128 .f32) (harg3 : arg3.IsWhole) (arg4 : Memref sig .tc .vmem S576x7680 .fp8e4m3) (harg4 : arg4.IsWhole) (arg5 : Memref sig .tc .vmem S1x2880 .f32) (harg5 : arg5.IsWhole) (arg6 : Memref sig .tc .vmem S1x2880 .f32) (harg6 : arg6.IsWhole) (arg7 : Memref sig .tc .vmem S1x2880x256 .f32) (harg7 : arg7.IsWhole) (arg8 : Memref sig .tc .vmem S256x7680 .fp8e4m3) (harg8 : arg8.IsWhole) (arg9 : Memref sig .tc .vmem S1x1x256 .f32) (harg9 : arg9.IsWhole) (arg10 : Memref sig .tc .vmem S1x2880x256 .bf16) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x256 .f32) (harg13 : arg13.IsWhole)
    (hc1 : ¬ cond1 i) (hc2 : ¬ k0_cond2 i = 1#1) (hc3 : ¬ k0_cond3 i = 1#1)
    (x0 : Vec F S256x7680 .f32) (x1 : Vec F S256x128 .f32) (x2 : Vec F S576x7680 .fp8e4m3) (x3 : Vec F S1x2880 .f32) (x4 : Vec F S1x2880 .f32) (x5 : Vec F S1x2880x256 .f32) (y6 : Vec F S256x7680 .fp8e4m3) (y7 : Vec F S1x1x256 .f32) (y8 : Vec F S1x2880x256 .bf16) (w : Vec F S2880x128 .f32) (a : Vec F S2880x128 .f32) (h : Vec F S2880x256 .f32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (y6) ∗ owns (c : Thread nD τ) arg9 fullShare (y7) ∗ owns (c : Thread nD τ) arg10 fullShare (y8) ∗ owns (c : Thread nD τ) arg11 fullShare (w) ∗ owns (c : Thread nD τ) arg12 fullShare (a) ∗ owns (c : Thread nD τ) arg13 fullShare (h)
            ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (y6) ∗ owns (c : Thread nD τ) arg9 fullShare (y7) ∗ owns (c : Thread nD τ) arg10 fullShare (y8) ∗ owns (c : Thread nD τ) arg11 fullShare (w) ∗ owns (c : Thread nD τ) arg12 fullShare (a) ∗ owns (c : Thread nD τ) arg13 fullShare (hmPut i (k0_pay5 x2 (y6) (y7) (View.ld (w) (rW i))) h)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13) K := by
    intro E K
    simp only [cc0_down_eq_skeleton]; unfold cc0_down_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc1 | sl_exact hc2 | sl_exact hc3)
    sl_step
    iapply Hk
    isplitl [H0]
    · iexists _; isplitr; swap; · iexact H0
      ipureintro
      exact harg2.read_unread _
    isplitl [H1]
    · iexists _; isplitr; swap; · iexact H1
      ipureintro
      exact harg3.read_unread _
    isplitl [H2]
    · iexists _; isplitr; swap; · iexact H2
      ipureintro
      exact harg4.read_unread _
    isplitl [H3]
    · iexists _; isplitr; swap; · iexact H3
      ipureintro
      exact harg5.read_unread _
    isplitl [H4]
    · iexists _; isplitr; swap; · iexact H4
      ipureintro
      exact harg6.read_unread _
    isplitl [H5]
    · iexists _; isplitr; swap; · iexact H5
      ipureintro
      exact harg7.read_unread _
    isplitl [H6]
    · iexists _; isplitr; swap; · iexact H6
      ipureintro
      exact harg8.read_unread _
    isplitl [H7]
    · iexists _; isplitr; swap; · iexact H7
      ipureintro
      exact harg9.read_unread _
    isplitl [H8]
    · iexists _; isplitr; swap; · iexact H8
      ipureintro
      exact harg10.read_unread _
    isplitl [H9]
    · iexists _; isplitr; swap; · iexact H9
      ipureintro
      exact harg11.read_unread _
    isplitl [H10]
    · iexists _; isplitr; swap; · iexact H10
      ipureintro
      exact harg12.read_unread _
    iexists _; isplitr; swap; · iexact H11
    ipureintro
    refine (read_tile arg13.view _ i _).trans ((congrArg (hmPut i _) (harg13.read_unread _)).trans (congrArg (fun P => hmPut i P h) ?_))
    exact congr4 k0_pay5 ((readAt_unread harg4 x2 _).trans (View.ld_unit_zero z2 _ _)) ((readAt_unread harg8 y6 _).trans (View.ld_unit_zero z2 _ _)) ((readAt_unread harg9 y7 _).trans (View.ld_unit_zero z3 _ _)) (readAt_unread harg11 w (rW i))

-- (the run's proof term is large: checking it walks past the default budget)
set_option maxHeartbeats 4000000 in
/-- The body's run at a batch entry's last point. -/
theorem runD (c : Dev nD) (i : grid0.Coords) (arg2 : Memref sig .tc .vmem S256x7680 .f32) (harg2 : arg2.IsWhole) (arg3 : Memref sig .tc .vmem S256x128 .f32) (harg3 : arg3.IsWhole) (arg4 : Memref sig .tc .vmem S576x7680 .fp8e4m3) (harg4 : arg4.IsWhole) (arg5 : Memref sig .tc .vmem S1x2880 .f32) (harg5 : arg5.IsWhole) (arg6 : Memref sig .tc .vmem S1x2880 .f32) (harg6 : arg6.IsWhole) (arg7 : Memref sig .tc .vmem S1x2880x256 .f32) (harg7 : arg7.IsWhole) (arg8 : Memref sig .tc .vmem S256x7680 .fp8e4m3) (harg8 : arg8.IsWhole) (arg9 : Memref sig .tc .vmem S1x1x256 .f32) (harg9 : arg9.IsWhole) (arg10 : Memref sig .tc .vmem S1x2880x256 .bf16) (harg10 : arg10.IsWhole) (arg11 : Memref sig .tc .vmem S2880x128 .f32) (harg11 : arg11.IsWhole) (arg12 : Memref sig .tc .vmem S2880x128 .f32) (harg12 : arg12.IsWhole) (arg13 : Memref sig .tc .vmem S2880x256 .f32) (harg13 : arg13.IsWhole)
    (hc1 : ¬ cond1 i) (hc2 : ¬ k0_cond2 i = 1#1) (hc3 : k0_cond3 i = 1#1)
    (x0 : Vec F S256x7680 .f32) (x1 : Vec F S256x128 .f32) (x2 : Vec F S576x7680 .fp8e4m3) (x3 : Vec F S1x2880 .f32) (x4 : Vec F S1x2880 .f32) (x5 : Vec F S1x2880x256 .f32) (y6 : Vec F S256x7680 .fp8e4m3) (y7 : Vec F S1x1x256 .f32) (y8 : Vec F S1x2880x256 .bf16) (w : Vec F S2880x128 .f32) (a : Vec F S2880x128 .f32) (h : Vec F S2880x256 .f32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (y6) ∗ owns (c : Thread nD τ) arg9 fullShare (y7) ∗ owns (c : Thread nD τ) arg10 fullShare (y8) ∗ owns (c : Thread nD τ) arg11 fullShare (w) ∗ owns (c : Thread nD τ) arg12 fullShare (a) ∗ owns (c : Thread nD τ) arg13 fullShare (h)
            ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (y6) ∗ owns (c : Thread nD τ) arg9 fullShare (y7) ∗ owns (c : Thread nD τ) arg10 fullShare (k0_pay6 (hmPut i (k0_pay5 x2 (y6) (y7) (View.ld (w) (rW i))) h) x5 a) ∗ owns (c : Thread nD τ) arg11 fullShare (w) ∗ owns (c : Thread nD τ) arg12 fullShare (a) ∗ owns (c : Thread nD τ) arg13 fullShare (hmPut i (k0_pay5 x2 (y6) (y7) (View.ld (w) (rW i))) h)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13) K := by
    intro E K
    simp only [cc0_down_eq_skeleton]; unfold cc0_down_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc1 | sl_exact hc2 | sl_exact hc3)
    sl_step
    iapply Hk
    isplitl [H0]
    · iexists _; isplitr; swap; · iexact H0
      ipureintro
      exact harg2.read_unread _
    isplitl [H1]
    · iexists _; isplitr; swap; · iexact H1
      ipureintro
      exact harg3.read_unread _
    isplitl [H2]
    · iexists _; isplitr; swap; · iexact H2
      ipureintro
      exact harg4.read_unread _
    isplitl [H3]
    · iexists _; isplitr; swap; · iexact H3
      ipureintro
      exact harg5.read_unread _
    isplitl [H4]
    · iexists _; isplitr; swap; · iexact H4
      ipureintro
      exact harg6.read_unread _
    isplitl [H5]
    · iexists _; isplitr; swap; · iexact H5
      ipureintro
      exact harg7.read_unread _
    isplitl [H6]
    · iexists _; isplitr; swap; · iexact H6
      ipureintro
      exact harg8.read_unread _
    isplitl [H7]
    · iexists _; isplitr; swap; · iexact H7
      ipureintro
      exact harg9.read_unread _
    isplitl [H8]
    · iexists _; isplitr; swap; · iexact H8
      ipureintro
      refine (read_whole arg10.view _ z3 _ _ _).trans (congr3 k0_pay6 ?_ ((readAt_unread harg7 x5 _).trans (View.ld_unit_zero z3 _ _)) ((readAt_unread harg12 a _).trans (View.ld_unit_zero z2 _ _)))
      refine (View.readAt_eq_ld ..).trans ((View.ld_unit_zero z2 _ _).trans ?_)
      refine (read_tile arg13.view _ i _).trans ((congrArg (hmPut i _) (harg13.read_unread _)).trans (congrArg (fun P => hmPut i P h) ?_))
      exact congr4 k0_pay5 ((readAt_unread harg4 x2 _).trans (View.ld_unit_zero z2 _ _)) ((readAt_unread harg8 y6 _).trans (View.ld_unit_zero z2 _ _)) ((readAt_unread harg9 y7 _).trans (View.ld_unit_zero z3 _ _)) (readAt_unread harg11 w (rW i))
    isplitl [H9]
    · iexists _; isplitr; swap; · iexact H9
      ipureintro
      exact harg11.read_unread _
    isplitl [H10]
    · iexists _; isplitr; swap; · iexact H10
      ipureintro
      exact harg12.read_unread _
    iexists _; isplitr; swap; · iexact H11
    ipureintro
    refine (read_tile arg13.view _ i _).trans ((congrArg (hmPut i _) (harg13.read_unread _)).trans (congrArg (fun P => hmPut i P h) ?_))
    exact congr4 k0_pay5 ((readAt_unread harg4 x2 _).trans (View.ld_unit_zero z2 _ _)) ((readAt_unread harg8 y6 _).trans (View.ld_unit_zero z2 _ _)) ((readAt_unread harg9 y7 _).trans (View.ld_unit_zero z3 _ _)) (readAt_unread harg11 w (rW i))

end Cert.KernelDIdeal.Hand

end
-- ==== Proof.DData.lean ====
/-
  The pipeline's proof data of the down projection for any reading of the floats, exact: what the three scratch arrays hold
  before every point and what every point leaves in the results' buffers; the body's obligation, the run and the frame.
-/
module

public import proofs.«01_k».proof.Proof.DRun
public import Idealize.ShloMosaic.Lib.Pipeline.DatRel
public import Idealize.ShloMosaic.Lib.Claim

@[expose] public section

set_option maxRecDepth 16384

noncomputable section

namespace Cert.KernelDIdeal.Hand

open Cert.KernelDIdeal Cert.KernelDIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem hN (t : Fin cfg0.N) : t.val < 30 := lt_of_lt_of_eq t.isLt (show cfg0.N = 30 from N_0)

theorem hcond1 : ∀ t : Fin cfg0.N, cond1 (grid0.coords t) ↔ t.val = 0 := by decide +kernel
theorem hcond2 : ∀ t : Fin cfg0.N, k0_cond2 (grid0.coords t) = 1#1 ↔ t.val % 5 = 0 := by decide +kernel
theorem hcond3 : ∀ t : Fin cfg0.N, k0_cond3 (grid0.coords t) = 1#1 ↔ t.val % 5 = 4 := by decide +kernel
theorem coords_tile : ∀ t : Fin cfg0.N, (grid0.coords t 1).val = t.val % 5 := by decide +kernel

theorem index0 : ∀ t : Fin cfg0.N, win0_0.index t = ![t.val / 5, 0] := by decide +kernel
theorem index1 : ∀ t : Fin cfg0.N, win0_1.index t = ![t.val / 5, 0] := by decide +kernel
theorem index2 : ∀ t : Fin cfg0.N, win0_2.index t = ![t.val % 5, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![t.val / 5, 0, 0] := by decide +kernel

/-- The batch entry of a point, -/
def entry (t : Fin cfg0.N) : Fin 6 := ⟨t.val / 5, by have := hN t; omega⟩
/-- its tile of rows, -/
def tileOf (t : Fin cfg0.N) : Fin 5 := ⟨t.val % 5, Nat.mod_lt _ (by norm_num)⟩
/-- a token's row among all, -/
def row (b : Fin 6) (s : Fin 256) : Fin 1536 := ⟨b.val * 256 + s.val, by have := b.isLt; have := s.isLt; omega⟩
/-- an output channel of a tile. -/
def chan (e : Fin 5) (r : Fin 576) : Fin 2880 := ⟨e.val * 576 + r.val, by have := e.isLt; have := r.isLt; omega⟩

theorem iblk0_apply (c : Dev nD) (t : Fin cfg0.N) (s : Fin 256) (k : Fin 7680) :
    (iblk m c 0 t : Vec F S256x7680 .f32) (ix2 s k) = (V m c main_arg0 : Vec F S1536x7680 .f32) (ix2 (row (entry t) s) k) := by
  blk_ext [iblk, index0 t, row, entry]
theorem iblk1_apply (c : Dev nD) (t : Fin cfg0.N) (s : Fin 256) (k : Fin 128) :
    (iblk m c 1 t : Vec F S256x128 .f32) (ix2 s k) = (V m c main_arg1 : Vec F S1536x128 .f32) (ix2 (row (entry t) s) k) := by
  blk_ext [iblk, index1 t, row, entry]
theorem iblk2_apply (c : Dev nD) (t : Fin cfg0.N) (r : Fin 576) (k : Fin 7680) :
    (iblk m c 2 t : Vec F S576x7680 .fp8e4m3) (ix2 r k) = (V m c main_arg2 : Vec F S2880x7680 .fp8e4m3) (ix2 (chan (tileOf t) r) k) := by
  blk_ext [iblk, index2 t, chan, tileOf]
theorem iblk3_eq (c : Dev nD) (t : Fin cfg0.N) : (iblk m c 3 t : Vec F S1x2880 .f32) = V m c main_v0 := by
  funext y; blk_simp [iblk]; refine congrArg _ ?_; blk_ext [index3 t]
theorem iblk4_eq (c : Dev nD) (t : Fin cfg0.N) : (iblk m c 4 t : Vec F S1x2880 .f32) = V m c main_v1 := by
  funext y; blk_simp [iblk]; refine congrArg _ ?_; blk_ext [index4 t]
theorem iblk5_apply (c : Dev nD) (t : Fin cfg0.N) (d : Fin 2880) (s : Fin 256) :
    (iblk m c 5 t : Vec F S1x2880x256 .f32) (ix3 (0 : Fin 1) d s) = (V m c main_arg5 : Vec F S6x2880x256 .f32) (ix3 (entry t) d s) := by
  blk_ext [iblk, index5 t, entry]

theorem eta2 {n0 n1 : ℕ} (j : (⟨2, ![n0, n1]⟩ : Shape).Idx) : j = ix2 (j 0 : Fin n0) (j 1 : Fin n1) := by
  funext a; fin_cases a <;> rfl

theorem iblk0_congr (c : Dev nD) {t u : Fin cfg0.N} (h : t.val / 5 = u.val / 5) :
    (iblk m c 0 t : Vec F S256x7680 .f32) = iblk m c 0 u := by
  funext y
  rw [eta2 y]
  exact (iblk0_apply m c t _ _).trans ((congrArg (fun b => (V m c main_arg0 : Vec F S1536x7680 .f32) (ix2 (row b _) _)) (Fin.ext h)).trans (iblk0_apply m c u _ _).symm)
theorem iblk1_congr (c : Dev nD) {t u : Fin cfg0.N} (h : t.val / 5 = u.val / 5) :
    (iblk m c 1 t : Vec F S256x128 .f32) = iblk m c 1 u := by
  funext y
  rw [eta2 y]
  exact (iblk1_apply m c t _ _).trans ((congrArg (fun b => (V m c main_arg1 : Vec F S1536x128 .f32) (ix2 (row b _) _)) (Fin.ext h)).trans (iblk1_apply m c u _ _).symm)

/-! ## What the buffers hold -/

/-- The point's codes, -/
def codes (c : Dev nD) (t : Fin cfg0.N) : Vec F S256x7680 .fp8e4m3 := mcOf (iblk m c 0 t) (iblk m c 1 t)
/-- its scales, -/
def scales (c : Dev nD) (t : Fin cfg0.N) : Vec F S1x1x256 .f32 := msOf (iblk m c 1 t)
/-- and its tile of the product. -/
def tileP (c : Dev nD) (t : Fin cfg0.N) : Vec F S576x256 .f32 :=
  k0_pay5 (iblk m c 2 t) (codes m c t) (scales m c t) (View.ld (k0_pay1 (V m c main_v0 : Vec F S1x2880 .f32)) (rW (grid0.coords t)))

/-- The point of a number. -/
def pt (n : ℕ) : Fin cfg0.N := ⟨n % 30, lt_of_lt_of_eq (Nat.mod_lt _ (by norm_num)) (show 30 = cfg0.N from N_0.symm)⟩
theorem pt_val (t : Fin cfg0.N) {n : ℕ} (h : n = t.val) : pt n = t := by
  subst h; exact Fin.ext (Nat.mod_eq_of_lt (hN t))

/-- The product of the batch entry `b`, all tiles. -/
def hmF (c : Dev nD) (b : ℕ) : Vec F S2880x256 .f32 := fun ix =>
  tileP m c (pt (5 * b + (ix 0).val / 576)) (ix2 (inTile (ix 0)) (ix 1 : Fin 256))

/-- The result's block. -/
def outY (c : Dev nD) (t : Fin cfg0.N) : Vec F S1x2880x256 .bf16 :=
  k0_pay6 (hmF m c (t.val / 5)) (iblk m c 5 t) (k0_pay2 (V m c main_v1 : Vec F S1x2880 .f32))

theorem codes_congr (c : Dev nD) {t u : Fin cfg0.N} (h : t.val / 5 = u.val / 5) : codes m c t = codes m c u := by
  unfold codes; rw [iblk0_congr m c h, iblk1_congr m c h]
theorem scales_congr (c : Dev nD) {t u : Fin cfg0.N} (h : t.val / 5 = u.val / 5) : scales m c t = scales m c u := by
  unfold scales; rw [iblk1_congr m c h]

/-- What the scratch arrays hold before point `n`: the columns from the first point on, and the tiles the current batch
    entry's points have stored. -/
def PS (c : Dev nD) (n : ℕ) (w a : Vec F S2880x128 .f32) (h : Vec F S2880x256 .f32) : Prop :=
  n ≠ 0 → w = k0_pay1 (V m c main_v0 : Vec F S1x2880 .f32) ∧ a = k0_pay2 (V m c main_v1 : Vec F S1x2880 .f32)
    ∧ ∀ ix, (ix 0).val / 576 ≤ (n - 1) % 5 → h ix = hmF m c ((n - 1) / 5) ix

/-- Storing the point's tile extends the product by it. -/
theorem put_tile (c : Dev nD) (t : Fin cfg0.N) (h : Vec F S2880x256 .f32)
    (hp : t.val % 5 ≠ 0 → ∀ ix, (ix 0).val / 576 ≤ (t.val - 1) % 5 → h ix = hmF m c ((t.val - 1) / 5) ix) (ix : S2880x256.Idx)
    (hx : (ix 0).val / 576 ≤ t.val % 5) : hmPut (grid0.coords t) (tileP m c t) h ix = hmF m c (t.val / 5) ix := by
  unfold hmPut
  by_cases he : (ix 0).val / 576 = (grid0.coords t 1).val
  · rw [if_pos he]
    unfold hmF
    rw [pt_val t (by rw [he, coords_tile t]; omega)]
  · rw [if_neg he]
    rw [coords_tile t] at he
    have h1 : t.val % 5 ≠ 0 := by omega
    rw [hp h1 ix (by omega), show (t.val - 1) / 5 = t.val / 5 by omega]

theorem put_full (c : Dev nD) (t : Fin cfg0.N) (h : Vec F S2880x256 .f32)
    (hp : t.val % 5 ≠ 0 → ∀ ix, (ix 0).val / 576 ≤ (t.val - 1) % 5 → h ix = hmF m c ((t.val - 1) / 5) ix) (h4 : t.val % 5 = 4) :
    hmPut (grid0.coords t) (tileP m c t) h = hmF m c (t.val / 5) := by
  funext ix
  have : (ix 0).val < 2880 := (ix 0).isLt
  exact put_tile m c t h hp ix (by omega)

theorem ps_succ (c : Dev nD) (t : Fin cfg0.N) (h : Vec F S2880x256 .f32)
    (hp : t.val % 5 ≠ 0 → ∀ ix, (ix 0).val / 576 ≤ (t.val - 1) % 5 → h ix = hmF m c ((t.val - 1) / 5) ix)
    {w a : Vec F S2880x128 .f32} (hw : w = k0_pay1 (V m c main_v0 : Vec F S1x2880 .f32)) (ha : a = k0_pay2 (V m c main_v1 : Vec F S1x2880 .f32)) :
    PS m c (t.val + 1) w a (hmPut (grid0.coords t) (tileP m c t) h) := fun _ =>
  ⟨hw, ha, fun ix hx => put_tile m c t h hp ix hx⟩

/-! ## The scratch arrays -/

abbrev scM0_0 : Memref sig .tc .vmem S2880x128 .f32 := Memref.whole cc0_scratch0
abbrev scM0_1 : Memref sig .tc .vmem S2880x128 .f32 := Memref.whole cc0_scratch1
abbrev scM0_2 : Memref sig .tc .vmem S2880x256 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What the core holds of them before point `n`. -/
def Inv (c : Dev nD) (n : ℕ) : sProp 𝕄 :=
  iprop(∃ w, ∃ a, ∃ h, ⌜PS m c n w a h⌝ ∗ owns (c : Thread nD τ) scM0_0 fullShare w ∗ owns (c : Thread nD τ) scM0_1 fullShare a
    ∗ owns (c : Thread nD τ) scM0_2 fullShare h ∗ (∃ r, prngReg c r))

theorem inv_in (c : Dev nD) : (Pipeline.ΦA spec0 c : sProp 𝕄) ⊢ Inv m c 0 := by
  rw [PhiA0_eq]; unfold Inv
  iintro ⟨⟨⟨%w, Hw⟩, ⟨%a, Ha⟩, ⟨%h, Hh⟩⟩, Hr⟩
  iexists w; iexists a; iexists h
  isplitr
  · ipureintro; exact fun h => absurd rfl h
  isplitl [Hw]; · iexact Hw
  isplitl [Ha]; · iexact Ha
  isplitl [Hh]; · iexact Hh
  iexact Hr

theorem inv_out (c : Dev nD) (n : ℕ) : Inv m c n ⊢ (Pipeline.ΦA spec0 c : sProp 𝕄) := by
  rw [PhiA0_eq]; unfold Inv
  iintro ⟨%w, %a, %h, %hp, Hw, Ha, Hh, Hr⟩
  isplitl [Hw Ha Hh]
  · isplitl [Hw]; · iexists w; iexact Hw
    isplitl [Ha]; · iexists a; iexact Ha
    iexists h; iexact Hh
  iexact Hr

/-! ## The pipeline's proof data -/

/-- The output windows, each held to what the body leaves there. -/
def forgets0 : Fin 9 → Bool := fun w => w.val == 6 || w.val == 7 || w.val == 8

/-- The proof data of the pipeline on core `c`: the arrays as the region finds them, the inputs' buffers at their blocks, the
    scratch arrays at `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-- What each output buffer holds after point `t`: the codes and scales at every point, the result at the batch entry's last. -/
def rel (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => X = codes m c t
  | ⟨7, _⟩ => fun X => X = scales m c t
  | ⟨8, _⟩ => fun X => t.val % 5 = 4 → X = outY m c t

/-- The proof data with the outputs held to `rel`. -/
def rdat (c : Dev nD) : Pipeline.RDat τ (Elt F) Unit ℕ (UR sig nD τ) ℕ cfg0 c := (dats m 0 c).toRRel forgets0 (rel m c)

theorem nofetch6 : ∀ t : Fin cfg0.N, (cfg0.win 6).fetch t = false := by decide +kernel
theorem nofetch7 : ∀ t : Fin cfg0.N, (cfg0.win 7).fetch t = false := by decide +kernel

/-- The point before. -/
def prevPt (t : Fin cfg0.N) : Fin cfg0.N := ⟨t.val - 1, Nat.lt_of_le_of_lt (Nat.sub_le _ _) t.isLt⟩

/-- A window carried to `t` holds what the point before left. -/
theorem found (c : Dev nD) (w : Fin cfg0.W) (t : Fin cfg0.N) (ht : t.val % 5 ≠ 0) (hm : forgets0 w = true) (hn : (cfg0.win w).fetch t = false)
    (hf : ∀ u : Fin cfg0.N, (cfg0.win w).flush u = true ↔ u.val % 5 = 4) {X} (h : (rdat m c).Finds w t X) : rel m c w (prevPt t) X := by
  rcases ((rdat m c).finds_of_pos hn (by omega) X).mp h with hfl | hl
  · have := (hf _).mp hfl
    dsimp only at this
    omega
  · exact (dats m 0 c).toRRel_leaves hm hl

theorem found6 (c : Dev nD) (t : Fin cfg0.N) (ht : t.val % 5 ≠ 0) {X : Vec F S256x7680 .fp8e4m3} (h : (rdat m c).Finds 6 t X) : X = codes m c t :=
  (show X = codes m c (prevPt t) from found m c 6 t ht rfl (nofetch6 t) flush0_6 h).trans
    (codes_congr m c (by show (t.val - 1) / 5 = t.val / 5; omega))
theorem found7 (c : Dev nD) (t : Fin cfg0.N) (ht : t.val % 5 ≠ 0) {X : Vec F S1x1x256 .f32} (h : (rdat m c).Finds 7 t X) : X = scales m c t :=
  (show X = scales m c (prevPt t) from found m c 7 t ht rfl (nofetch7 t) flush0_7 h).trans
    (scales_congr m c (by show (t.val - 1) / 5 = t.val / 5; omega))

/-! ## The body obligation -/

set_option maxHeartbeats 1600000 in
/-- A point from what it finds to what it leaves, whichever way its branches go. -/
theorem step (c : Dev nD) (t : Fin cfg0.N) (d6 : Vec F S256x7680 .fp8e4m3) (d7 : Vec F S1x1x256 .f32) (d8 : Vec F S1x2880x256 .bf16) (w a : Vec F S2880x128 .f32) (h : Vec F S2880x256 .f32)
    (h6 : t.val % 5 ≠ 0 → d6 = codes m c t) (h7 : t.val % 5 ≠ 0 → d7 = scales m c t) (hp : PS m c t.val w a h) :
    ∃ (e6 : Vec F S256x7680 .fp8e4m3) (e7 : Vec F S1x1x256 .f32) (e8 : Vec F S1x2880x256 .bf16) (w' a' : Vec F S2880x128 .f32) (h' : Vec F S2880x256 .f32),
      e6 = codes m c t ∧ e7 = scales m c t ∧ (t.val % 5 = 4 → e8 = outY m c t) ∧ PS m c (t.val + 1) w' a' h' ∧
      ∀ (E : Set ℕ) (K : PUnit → sProp 𝕄),
        iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare d6 ∗ owns (c : Thread nD τ) (ms0_7 t) fullShare d7 ∗ owns (c : Thread nD τ) (ms0_8 t) fullShare d8 ∗ owns (c : Thread nD τ) scM0_0 fullShare w ∗ owns (c : Thread nD τ) scM0_1 fullShare a ∗ owns (c : Thread nD τ) scM0_2 fullShare h
            ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare e6 ∗ owns (c : Thread nD τ) (ms0_7 t) fullShare e7 ∗ owns (c : Thread nD τ) (ms0_8 t) fullShare e8 ∗ owns (c : Thread nD τ) scM0_0 fullShare w' ∗ owns (c : Thread nD τ) scM0_1 fullShare a' ∗ owns (c : Thread nD τ) scM0_2 fullShare h') -∗ K ⟨⟩))
          ⊢ wp frame (wpE (defs₀ (F := F)) Variants.none c none) E (bodyAt0 t) K := by
  have hn := hN t
  by_cases h0 : t.val % 5 = 0
  · have hP : ∀ w : Vec F S2880x128 .f32, w = k0_pay1 (V m c main_v0 : Vec F S1x2880 .f32) →
        hmPut (grid0.coords t) (k0_pay5 (iblk m c 2 t) (mcOf (iblk m c 0 t) (iblk m c 1 t)) (msOf (iblk m c 1 t)) (View.ld w (rW (grid0.coords t)))) h
          = hmPut (grid0.coords t) (tileP m c t) h := fun w hw => by subst hw; rfl
    have c3 : ¬ k0_cond3 (grid0.coords t) = 1#1 := fun hc => by have := (hcond3 t).mp hc; omega
    by_cases hz : t.val = 0
    · refine ⟨codes m c t, scales m c t, d8, k0_pay1 (iblk m c 3 t), k0_pay2 (iblk m c 4 t), _, rfl, rfl, fun h4 => absurd h4 (by omega),
        ?_, fun E K => (runA (F := F) c (grid0.coords t) _ _ _ _ _ _ _ _ _ _ _ _ _ _ _ _ _ _ _ _ _ _ _ _ ((hcond1 t).mpr hz) ((hcond2 t).mpr h0) c3 (iblk m c 0 t) (iblk m c 1 t) (iblk m c 2 t) (iblk m c 3 t) (iblk m c 4 t) (iblk m c 5 t) d6 d7 d8 w a h) E K⟩
      rw [hP _ (congrArg k0_pay1 (iblk3_eq m c t))]
      exact ps_succ m c t h (fun hne => absurd h0 hne) (congrArg k0_pay1 (iblk3_eq m c t)) (congrArg k0_pay2 (iblk4_eq m c t))
    · obtain ⟨hw, ha, hh⟩ := hp hz
      refine ⟨codes m c t, scales m c t, d8, w, a, _, rfl, rfl, fun h4 => absurd h4 (by omega),
        ?_, fun E K => (runB (F := F) c (grid0.coords t) _ _ _ _ _ _ _ _ _ _ _ _ _ _ _ _ _ _ _ _ _ _ _ _ (fun hc => hz ((hcond1 t).mp hc)) ((hcond2 t).mpr h0) c3 (iblk m c 0 t) (iblk m c 1 t) (iblk m c 2 t) (iblk m c 3 t) (iblk m c 4 t) (iblk m c 5 t) d6 d7 d8 w a h) E K⟩
      rw [hP _ hw]
      exact ps_succ m c t h (fun hne => absurd h0 hne) hw ha
  · obtain ⟨hw, ha, hh⟩ := hp (by omega)
    have c1 : ¬ cond1 (grid0.coords t) := fun hc => by have := (hcond1 t).mp hc; omega
    have c2 : ¬ k0_cond2 (grid0.coords t) = 1#1 := fun hc => h0 ((hcond2 t).mp hc)
    have hP : hmPut (grid0.coords t) (k0_pay5 (iblk m c 2 t) d6 d7 (View.ld w (rW (grid0.coords t)))) h
          = hmPut (grid0.coords t) (tileP m c t) h := by rw [h6 h0, h7 h0, hw]; rfl
    by_cases h4 : t.val % 5 = 4
    · refine ⟨d6, d7, _, w, a, _, h6 h0, h7 h0, fun _ => ?_,
        ?_, fun E K => (runD (F := F) c (grid0.coords t) _ _ _ _ _ _ _ _ _ _ _ _ _ _ _ _ _ _ _ _ _ _ _ _ c1 c2 ((hcond3 t).mpr h4) (iblk m c 0 t) (iblk m c 1 t) (iblk m c 2 t) (iblk m c 3 t) (iblk m c 4 t) (iblk m c 5 t) d6 d7 d8 w a h) E K⟩
      · rw [hP, put_full m c t h (fun _ => hh) h4, ha]; rfl
      · rw [hP]; exact ps_succ m c t h (fun _ => hh) hw ha
    · refine ⟨d6, d7, d8, w, a, _, h6 h0, h7 h0, fun h4' => absurd h4' h4,
        ?_, fun E K => (runC (F := F) c (grid0.coords t) _ _ _ _ _ _ _ _ _ _ _ _ _ _ _ _ _ _ _ _ _ _ _ _ c1 c2 (fun hc => h4 ((hcond3 t).mp hc)) (iblk m c 0 t) (iblk m c 1 t) (iblk m c 2 t) (iblk m c 3 t) (iblk m c 4 t) (iblk m c 5 t) d6 d7 d8 w a h) E K⟩
      rw [hP]; exact ps_succ m c t h (fun _ => hh) hw ha

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, ⌜(rdat m c).Finds 6 t d⌝ ∗ owns (c : Thread nD τ) (ms0_6 t) fullShare d)
    ∗ (∃ d, ⌜(rdat m c).Finds 7 t d⌝ ∗ owns (c : Thread nD τ) (ms0_7 t) fullShare d)
    ∗ (∃ d, ⌜(rdat m c).Finds 8 t d⌝ ∗ owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, ⌜rel m c 6 t d⌝ ∗ owns (c : Thread nD τ) (ms0_6 t) fullShare d)
    ∗ (∃ d, ⌜rel m c 7 t d⌝ ∗ owns (c : Thread nD τ) (ms0_7 t) fullShare d)
    ∗ (∃ d, ⌜rel m c 8 t d⌝ ∗ owns (c : Thread nD τ) (ms0_8 t) fullShare d))

theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The body at any point. -/
theorem body_runs (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = Inv m c (t.val + 1) from rfl, show (dats m 0 c).Φ t.castSucc = Inv m c t.val from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  unfold Inv
  iintro ⟨⟨%w, %a, %h, %hp, Hw, Ha, Hh, Hr⟩, Ho, ⟨%d0, H0⟩, ⟨%d1, H1⟩, ⟨%d2, H2⟩, ⟨%d3, H3⟩, ⟨%d4, H4⟩, ⟨%d5, H5⟩, ⟨%d6, %f6, H6⟩, ⟨%d7, %f7, H7⟩, ⟨%d8, %f8, H8⟩⟩
  obtain ⟨e6, e7, e8, w', a', h', g6, g7, g8, gp, hrun⟩ := step m c t d6 d7 d8 w a h (fun ht => found6 m c t ht f6) (fun ht => found7 m c t ht f7) hp
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hw]; · iexact Hw
  isplitl [Ha]; · iexact Ha
  isplitl [Hh]; · iexact Hh
  iintro ⟨H0, H1, H2, H3, H4, H5, H6, H7, H8, Hw, Ha, Hh⟩
  isplitl [Hw Ha Hh Hr]
  · iexists w'; iexists a'; iexists h'
    isplitr
    · ipureintro; exact gp
    isplitl [Hw]; · iexact Hw
    isplitl [Ha]; · iexact Ha
    isplitl [Hh]; · iexact Hh
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists e6; isplitr
    · ipureintro; exact g6
    · iexact H6
  isplitl [H7]
  · iexists e7; isplitr
    · ipureintro; exact g7
    · iexact H7
  iexists e8; isplitr
  · ipureintro; exact g8
  · iexact H8

/-- The body obligation at every point. -/
theorem bodyRuns (c : Dev nD) : Pipeline.BodyObligationRel (dats m 0 c) (defs₀ (F := F)) Variants.none () Set.univ forgets0 (rel m c) := by
  intro t
  rw [bigSep_W0, bigSep_W0, defs₀_row]
  exact triple_restated (body_runs m c t) rfl .rfl fun _ => .rfl

/-! ## The run and the frame -/

set_option backward.isDefEq.respectTransparency.types false in
theorem run_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (bodyRuns m c).toRRel) (hshare := fun c => (dats m 0 c).share_full fun _ => rfl)
    (howed := fun _ _ => rfl) (V := V m) (hmain := hmain m Variants.none) (hA := A_eq m) (hin := fun c => inv_in m c) (hout := fun c => inv_out m c _)

/-- The run without the counters. -/
theorem run_main : θ_run defs (onTc (τ := τ) (main (F := F))) (s₀ m ρ) (Pipeline.RDat.FramePost (cfgs 0) (rdat m) (V m)) :=
  (θ_run defs _ _).mono (fun _ h => h.1) (run_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.RDat.FramePost (cfgs 0) (rdat m) (V m) r) c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((A_eq m c 5).trans (V_main_arg5 m c))⟩) (run_main m ρ)

/-- THE FRAME: they do, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiescent m ρ))

end Cert.KernelDIdeal.Hand

end
-- ==== Proof.DKFrame.lean ====
/-
  The frame of the third call as it is printed: the program the idealized call is, operation for operation, so the frame
  proved of that one for any reading of the floats is its own.
-/
module

public import proofs.«01_k».proof.Defs
public import proofs.«01_k».proof.Proof.Gen.KernelD
public import proofs.«01_k».proof.Proof.DData
public import Idealize.ShloMosaic.Lib.Pipeline.Regions

@[expose] public section

noncomputable section

namespace Cert.KernelD.Hand

open Idealize.ShloMosaic Idealize.ShloMosaic.TcCoe

/-- The idealized call's frame at the bit patterns. -/
def idealFrame : Prop :=
  ∀ (m : (ℓ : Loc Cert.KernelDIdeal.nD Cert.KernelDIdeal.τ Cert.KernelDIdeal.sig) → Buf (Elt Bits) ℓ) (g : Dev Cert.KernelDIdeal.nD → PrngReg), True →
    θ_run (Cert.KernelDIdeal.defs (F := Bits)) (onTc (τ := Cert.KernelDIdeal.τ) (Cert.KernelDIdeal.main (F := Bits))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
      ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5))
      ∧ r.2.sem = fun _ => 0)

theorem same : @Cert.quiescent_KernelD Cert.KernelD.Gen.facts = idealFrame := by
  chain_rfl

theorem frame : @Cert.quiescent_KernelD Cert.KernelD.Gen.facts :=
  same.mpr fun m ρ _ => Cert.KernelDIdeal.Hand.frame (F := Bits) m ρ

end Cert.KernelD.Hand

end
-- ==== Proof.DSpec.lean ====
/-
  The mathematics of the third call: every row quantised with the greatest of its given maxima, projected down, normalised,
  mixed into the residual and normalised again, and its results' arrays.
-/
module

public import proofs.«01_k».proof.Proof.OSpec

@[expose] public section

noncomputable section

namespace Cert.DSpec

open Idealize.ShloMosaic Cert.Spec Cert.OSpec

/-- The greatest of a row's given maxima. -/
def rmax {n : ℕ} (v : Fin n → EReal) : EReal :=
  (Finset.univ : Finset (Fin n)).fold max (Ideal.ofBits .f32 4286578688#32) v

/-- A token's row among all. -/
def tok (b : Fin 6) (s : Fin 256) : Fin 1536 := ⟨b.val * 256 + s.val, by have := b.isLt; have := s.isLt; omega⟩

/-- The call's inputs: the hidden rows and their maxima, the projection's codes and scales, the mixing coefficients, the
    residual. -/
structure DIn where
  x : Fin 1536 → Fin 7680 → EReal
  xa : Fin 1536 → Fin 128 → EReal
  w : Fin 2880 → Fin 7680 → EReal
  ws : Fin 2880 → EReal
  al : Fin 2880 → EReal
  r : Fin 6 → Fin 256 → Fin 2880 → EReal

variable (I : DIn)

/-- The row's codes, -/
def cd (n : Fin 1536) (k : Fin 7680) : EReal := gcode (I.x n k) (rmax (I.xa n))
/-- its scale, -/
def sc (n : Fin 1536) : EReal := gscale (rmax (I.xa n))
/-- the projected row, -/
def pr (b : Fin 6) (s : Fin 256) (e : Fin 2880) : EReal := proj (cd I (tok b s)) (sc I (tok b s)) (I.w e) (I.ws e)
/-- and the new residual. -/
def out (b : Fin 6) (s : Fin 256) : Fin 2880 → EReal := over (mixed (I.r b s) I.al (pr I b s))

/-! ## The results' arrays -/

abbrev TC : Shape := ⟨2, ![1536, 7680]⟩

def arrMc (j : TC.Idx) : EReal := cd I (j 0 : Fin 1536) (j 1 : Fin 7680)
def arrMs (j : T1.Idx) : EReal := sc I (tok (j 0 : Fin 6) (j 2 : Fin 256))
def arrY (j : T3.Idx) : EReal := out I (j 0 : Fin 6) (j 2 : Fin 256) (j 1 : Fin 2880)

end Cert.DSpec

end
-- ==== Proof.DKRead.lean ====
/-
  The third call's values read at an index, over the extended reals.
-/
module

public import proofs.«01_k».proof.Proof.DRun
public import proofs.«01_k».proof.Proof.DSpec
public import proofs.«01_k».proof.Proof.OKRead
public import Idealize.ShloMosaic.Lib.Pointwise

@[expose] public section

set_option maxRecDepth 16384

noncomputable section

namespace Cert.KernelDIdeal.Hand

open Cert.KernelDIdeal Cert.KernelDIdeal.Gen
open Idealize.ShloMosaic
open Cert.Spec Cert.OSpec Cert.DSpec
open Cert.KernelOIdeal.Hand (overV overV_apply)

/-! ## The codes and scales -/

set_option maxHeartbeats 1000000 in
theorem pay7_apply (xa : Vec Ideal S256x128 .f32) (s : Fin 256) :
    k0_pay7 (F := Ideal) xa (ix2 s (0 : Fin 1))
      = Ideal.exp2 (0 - Cert.Expo.expo (rmax (fun l : Fin 128 => xa (ix2 s l)) * Ideal.ofBits .f32 991054117#32)) := by
  have e := Cert.Expo.inv_eq' (rmax (fun l : Fin 128 => xa (ix2 s l)) * Ideal.ofBits .f32 991054117#32)
  rw [← e]
  unfold rmax
  pointwise [k0_pay7]
  rfl

set_option maxHeartbeats 1000000 in
theorem ms_apply (xa : Vec Ideal S256x128 .f32) (s : Fin 256) :
    msOf (F := Ideal) xa (ix3 (0 : Fin 1) (0 : Fin 1) s) = gscale (rmax (fun l : Fin 128 => xa (ix2 s l))) := by
  have e := Cert.Expo.scale_eq' (rmax (fun l : Fin 128 => xa (ix2 s l)) * Ideal.ofBits .f32 991054117#32)
  unfold gscale
  rw [← e]
  unfold rmax msOf
  pointwise [k0_pay9, k0_pay8]
  rfl

theorem pay10_apply (v : FVec Ideal S256x1 .f32) (x : Vec Ideal S256x512 .f32) (s : Fin 256) (k : Fin 512) :
    k0_pay10 (F := Ideal) v x (ix2 s k)
      = min (Ideal.ofBits .f32 1138753536#32) (max (Ideal.ofBits .f32 3286237184#32) (x (ix2 s k) * v (ix2 s (0 : Fin 1)))) := by
  pointwise [k0_pay10]

theorem mc_apply (x : Vec Ideal S256x7680 .f32) (xa : Vec Ideal S256x128 .f32) (s : Fin 256) (k : Fin 7680) :
    mcOf (F := Ideal) x xa (ix2 s k) = gcode (x (ix2 s k)) (rmax (fun l : Fin 128 => xa (ix2 s l))) := by
  have hx : View.ld (Val := Elt Ideal) (e' := .f32) x (rC (chunkOf k)) (ix2 s (inChunk k)) = x (ix2 s k) :=
    View.ld_unit_apply_of x _ _ _ _ _ fun a => by
      fin_cases a
      · show s.val = 0 + s.val; omega
      · show k.val = 512 * (k.val / 512) + k.val % 512; omega
  unfold gcode mcOf
  rw [← pay7_apply, ← hx]
  exact pay10_apply (k0_pay7 xa) (View.ld x (rC (chunkOf k))) s (inChunk k)

/-! ## The projection -/

theorem pay1_apply (v : Vec Ideal S1x2880 .f32) (d : Fin 2880) (l : Fin 128) : k0_pay1 (F := Ideal) v (ix2 d l) = v (ix2 (0 : Fin 1) d) := by
  pointwise [k0_pay1]
theorem pay2_apply (v : Vec Ideal S1x2880 .f32) (d : Fin 2880) (l : Fin 128) : k0_pay2 (F := Ideal) v (ix2 d l) = v (ix2 (0 : Fin 1) d) := by
  pointwise [k0_pay2]

theorem twice_apply (v : FVec Ideal S576x128 .f32) (z : Fin 576 → EReal) (hz : ∀ r l, v (ix2 r l) = z r) (r : Fin 576) (s : Fin 256) :
    concatenate S576x256 1 [⟨S576x128, v⟩, ⟨S576x128, v⟩] concatenates_S576x128_S576x128_S576x256_d1 (ix2 r s) = z r := by
  pointwise []
  split <;> exact hz _ _

theorem twiceAl_apply (v : Vec Ideal S1x2880 .f32) (d : Fin 2880) (s : Fin 256) :
    concatenate S2880x256 1 [⟨S2880x128, k0_pay2 v⟩, ⟨S2880x128, k0_pay2 v⟩] concatenates_S2880x128_S2880x128_S2880x256_d1 (ix2 d s)
      = v (ix2 (0 : Fin 1) d) := by
  pointwise [k0_pay2]
  split <;> rfl

/-- The projection's value, one tile. -/
def prodV (w : FVec Ideal S576x7680 .fp8e4m3) (mc : FVec Ideal S256x7680 .fp8e4m3) (ms : FVec Ideal S1x1x256 .f32) (z : FVec Ideal S576x256 .f32) :
    FVec Ideal S576x256 .f32 :=
  mulf (mulf (matmul dot_S576x7680_S256x7680_S576x256_1_1_0_0_n_n none w (shapeCast S256x7680 mc shapeCasts_S256x7680_S256x7680) (constant S576x256 .f32 0x00000000#32))
    (broadcastTo S576x256 (shapeCast S1x256 ms shapeCasts_S1x1x256_S1x256) broadcasts_S1x256_S576x256)) z

theorem prodV_apply (w : FVec Ideal S576x7680 .fp8e4m3) (mc : FVec Ideal S256x7680 .fp8e4m3) (ms : FVec Ideal S1x1x256 .f32) (z : FVec Ideal S576x256 .f32)
    (r : Fin 576) (s : Fin 256) :
    prodV w mc ms z (ix2 r s) = proj (fun k => mc (ix2 s k)) (ms (ix3 (0 : Fin 1) (0 : Fin 1) s)) (fun k => w (ix2 r k)) (z (ix2 r s)) := by
  have e : proj (fun k => mc (ix2 s k)) (ms (ix3 (0 : Fin 1) (0 : Fin 1) s)) (fun k => w (ix2 r k)) (z (ix2 r s))
      = (∑ k : Fin 7680, (w (ix2 r k) : EReal) * mc (ix2 s k)) * ms (ix3 (0 : Fin 1) (0 : Fin 1) s) * z (ix2 r s) :=
    congrArg (fun y : EReal => y * ms (ix3 (0 : Fin 1) (0 : Fin 1) s) * z (ix2 r s)) (Finset.sum_congr rfl fun k _ => mul_comm _ _)
  rw [e]
  pointwise [prodV]

theorem cast_self (v : FVec Ideal S576x256 .f32) : shapeCast S576x256 v shapeCasts_S576x256_S576x256 = v := by
  funext y
  have : y = ix2 (y 0 : Fin 576) (y 1 : Fin 256) := by funext a; fin_cases a <;> rfl
  rw [this]
  pointwise []

theorem pay5_apply (w : Vec Ideal S576x7680 .fp8e4m3) (mc : Vec Ideal S256x7680 .fp8e4m3) (ms : Vec Ideal S1x1x256 .f32) (v : Vec Ideal S576x128 .f32)
    (z : Fin 576 → EReal) (hz : ∀ r l, v (ix2 r l) = z r) (r : Fin 576) (s : Fin 256) :
    k0_pay5 (F := Ideal) w mc ms v (ix2 r s) = proj (fun k => mc (ix2 s k)) (ms (ix3 (0 : Fin 1) (0 : Fin 1) s)) (fun k => w (ix2 r k)) (z r) := by
  have e : k0_pay5 (F := Ideal) w mc ms v = shapeCast S576x256 (prodV w mc ms
      (concatenate S576x256 1 [⟨S576x128, v⟩, ⟨S576x128, v⟩] concatenates_S576x128_S576x128_S576x256_d1)) shapeCasts_S576x256_S576x256 := rfl
  rw [e, cast_self, prodV_apply, twice_apply v z hz]

/-! ## The residual -/

/-- The mix. -/
def mixV (x : Vec Ideal S1x2880x256 .f32) (al y : FVec Ideal S2880x256 .f32) : FVec Ideal S2880x256 .f32 :=
  have v38 : FVec Ideal S2880x256 .f32 := shapeCast S2880x256 x shapeCasts_S1x2880x256_S2880x256
  addf v38 (mulf al (subf y v38))

theorem mixV_apply (x : Vec Ideal S1x2880x256 .f32) (al y : FVec Ideal S2880x256 .f32) (d : Fin 2880) (s : Fin 256) :
    mixV x al y (ix2 d s) = x (ix3 (0 : Fin 1) d s) + al (ix2 d s) * (y (ix2 d s) - x (ix3 (0 : Fin 1) d s)) := by
  pointwise [mixV]

theorem last_apply (v : FVec Ideal S2880x256 .f32) (d : Fin 2880) (s : Fin 256) :
    shapeCast S1x2880x256 (truncf .bf16 v bitsLt_bf16_f32) shapeCasts_S2880x256_S1x2880x256 (ix3 (0 : Fin 1) d s) = v (ix2 d s) := by
  pointwise []

theorem pay6_apply (hm : Vec Ideal S2880x256 .f32) (x : Vec Ideal S1x2880x256 .f32) (al : Vec Ideal S1x2880 .f32) (d : Fin 2880) (s : Fin 256) :
    k0_pay6 (F := Ideal) hm x (k0_pay2 al) (ix3 (0 : Fin 1) d s)
      = over (mixed (fun k => x (ix3 (0 : Fin 1) k s)) (fun k => al (ix2 (0 : Fin 1) k)) (fun k => hm (ix2 k s))) d := by
  have e : k0_pay6 (F := Ideal) hm x (k0_pay2 al) = shapeCast S1x2880x256 (truncf .bf16 (overV (mixV x
      (concatenate S2880x256 1 [⟨S2880x128, k0_pay2 al⟩, ⟨S2880x128, k0_pay2 al⟩] concatenates_S2880x128_S2880x128_S2880x256_d1) (overV hm)))
      bitsLt_bf16_f32) shapeCasts_S2880x256_S1x2880x256 := rfl
  rw [e, last_apply, overV_apply]
  refine congrFun (congrArg over (funext fun k => ?_)) d
  rw [mixV_apply, twiceAl_apply, overV_apply]
  rfl

end Cert.KernelDIdeal.Hand

end
-- ==== Proof.DKFinal.lean ====
/-
  What the third call's results hold after a run.
-/
module

public import proofs.«01_k».proof.Proof.DData
public import proofs.«01_k».proof.Proof.DKRead
public import proofs.«01_k».proof.Proof.Arrays
public import Idealize.ShloMosaic.Lib.Pipeline.ArrRel

@[expose] public section

set_option maxRecDepth 16384

noncomputable section

namespace Cert.KernelDIdeal.Hand

open Cert.KernelDIdeal Cert.KernelDIdeal.Gen
open Idealize.ShloMosaic Idealize.ShloMosaic.TcCoe Idealize.ShloMosaic.Tactic
open Idealize.ShloMosaic.Pipeline (Dat Cfg Window)
open Cert.Spec Cert.OSpec Cert.DSpec

variable (m : (ℓ : Loc nD τ sig) → Buf (Elt Ideal) ℓ) (ρ : Dev nD → PrngReg)

/-- The call's inputs. -/
def inputs (c : Dev nD) : DIn where
  x n k := (V m c main_arg0 : Vec Ideal S1536x7680 .f32) (ix2 n k)
  xa n l := (V m c main_arg1 : Vec Ideal S1536x128 .f32) (ix2 n l)
  w e k := (V m c main_arg2 : Vec Ideal S2880x7680 .fp8e4m3) (ix2 e k)
  ws e := (V m c main_v0 : Vec Ideal S1x2880 .f32) (ix2 (0 : Fin 1) e)
  al e := (V m c main_v1 : Vec Ideal S1x2880 .f32) (ix2 (0 : Fin 1) e)
  r b s d := (V m c main_arg5 : Vec Ideal S6x2880x256 .f32) (ix3 b d s)

local notation "J" => inputs m

/-! ## The buffers' contents -/

theorem codes_apply (c : Dev nD) (t : Fin cfg0.N) (s : Fin 256) (k : Fin 7680) : codes m c t (ix2 s k) = cd (J c) (tok (entry t) s) k := by
  refine (mc_apply (iblk m c 0 t) (iblk m c 1 t) s k).trans ?_
  rw [iblk0_apply, funext (iblk1_apply m c t s)]
  rfl

theorem scales_apply (c : Dev nD) (t : Fin cfg0.N) (s : Fin 256) :
    scales m c t (ix3 (0 : Fin 1) (0 : Fin 1) s) = sc (J c) (tok (entry t) s) := by
  refine (ms_apply (iblk m c 1 t) s).trans ?_
  rw [funext (iblk1_apply m c t s)]
  rfl

theorem weights_apply (c : Dev nD) (t : Fin cfg0.N) (r : Fin 576) (l : Fin 128) :
    View.ld (Val := Elt Ideal) (e' := .f32) (k0_pay1 (V m c main_v0 : Vec Ideal S1x2880 .f32)) (rW (grid0.coords t)) (ix2 r l)
      = (J c).ws (chan (tileOf t) r) := by
  refine (View.ld_unit_apply_of _ _ _ _ _ (ix2 (chan (tileOf t) r) l) fun a => ?_).trans (pay1_apply _ _ _)
  fin_cases a
  · show t.val % 5 * 576 + r.val = k0_off1 (grid0.coords t) 0 + r.val
    rw [k0_off1_eq]
    show t.val % 5 * 576 + r.val = 576 * (grid0.coords t 1).val + r.val
    rw [coords_tile]; omega
  · show l.val = k0_off1 (grid0.coords t) 1 + l.val
    rw [k0_off1_eq]
    show l.val = 0 + l.val
    omega

theorem tileP_apply (c : Dev nD) (t : Fin cfg0.N) (r : Fin 576) (s : Fin 256) :
    tileP m c t (ix2 r s) = pr (J c) (entry t) s (chan (tileOf t) r) := by
  unfold tileP
  rw [pay5_apply _ _ _ _ _ (weights_apply m c t), funext (codes_apply m c t s), scales_apply, funext (iblk2_apply m c t r)]
  rfl

theorem hmF_apply (c : Dev nD) (b : Fin 6) (d : Fin 2880) (s : Fin 256) : hmF m c b.val (ix2 d s) = pr (J c) b s d := by
  have hb := b.isLt
  have hd := d.isLt
  have e1 : entry (pt (5 * b.val + d.val / 576)) = b := Fin.ext (show (5 * b.val + d.val / 576) % 30 / 5 = b.val by omega)
  have e2 : chan (tileOf (pt (5 * b.val + d.val / 576))) (inTile d) = d :=
    Fin.ext (show (5 * b.val + d.val / 576) % 30 % 5 * 576 + d.val % 576 = d.val by omega)
  refine (tileP_apply m c (pt (5 * b.val + d.val / 576)) (inTile d) s).trans ?_
  rw [e1, e2]

theorem outY_apply (c : Dev nD) (t : Fin cfg0.N) (d : Fin 2880) (s : Fin 256) :
    outY m c t (ix3 (0 : Fin 1) d s) = out (J c) (entry t) s d := by
  refine (pay6_apply (hmF m c (entry t).val) (iblk m c 5 t) (V m c main_v1) d s).trans ?_
  rw [funext fun k => hmF_apply m c (entry t) k s, funext fun k => iblk5_apply m c t k s]
  rfl

/-! ## The results' arrays -/

theorem index6 : ∀ t : Fin cfg0.N, win0_6.index t = ![t.val / 5, 0] := by decide +kernel
theorem index7 : ∀ t : Fin cfg0.N, win0_7.index t = ![t.val / 5, 0, 0] := by decide +kernel
theorem index8 : ∀ t : Fin cfg0.N, win0_8.index t = ![t.val / 5, 0, 0] := by decide +kernel

theorem etaS (j : S1x1x256.Idx) : j = ix3 (0 : Fin 1) (0 : Fin 1) (j 2 : Fin 256) := by
  funext a; fin_cases a
  · exact Subsingleton.elim (α := Fin 1) _ _
  · exact Subsingleton.elim (α := Fin 1) _ _
  · rfl
theorem etaY (j : S1x2880x256.Idx) : j = ix3 (0 : Fin 1) (j 1 : Fin 2880) (j 2 : Fin 256) := by
  funext a; fin_cases a
  · exact Subsingleton.elim (α := Fin 1) _ _
  · rfl
  · rfl

theorem codes_at (c : Dev nD) (t : Fin cfg0.N) (j : S256x7680.Idx) :
    codes m c t j = arrMc (J c) (ix2 (tok (entry t) (j 0 : Fin 256)) (j 1 : Fin 7680)) :=
  (congrArg (codes m c t) (eta2 j)).trans (codes_apply m c t _ _)
theorem scales_at (c : Dev nD) (t : Fin cfg0.N) (j : S1x1x256.Idx) :
    scales m c t j = arrMs (J c) (ix3 (entry t) (0 : Fin 1) (j 2 : Fin 256)) :=
  (congrArg (scales m c t) (etaS j)).trans (scales_apply m c t _)
theorem outY_at (c : Dev nD) (t : Fin cfg0.N) (j : S1x2880x256.Idx) :
    outY m c t j = arrY (J c) (ix3 (entry t) (j 1 : Fin 2880) (j 2 : Fin 256)) :=
  (congrArg (outY m c t) (etaY j)).trans (outY_apply m c t _ _)

/-- A batch entry's last point. -/
def lastOf (b : Fin 6) : Fin cfg0.N := ⟨5 * b.val + 4, lt_of_lt_of_eq (by have := b.isLt; omega : 5 * b.val + 4 < 30) N_0.symm⟩

section Arr

variable {c : Dev nD} {after : (w' : Fin cfg0.W) → Fin cfg0.N → (cfg0.win w').block.Idx → Elt Ideal (cfg0.win w').elt}
  (hL : ∀ (w : Fin cfg0.W) (u : Fin cfg0.N), (cfg0.win w).flush u = true → (rdat m c).Leaves w u (after w u))

include hL

theorem arr6 : ((rdat m c).withAfter after).arrAt 6 cfg0.N = arrMc (J c) := by
  funext i
  have hi : ∀ a, (i a : ℕ) < S1536x7680.size a := fun a => (i a).isLt
  obtain ⟨b, hb⟩ : ∃ b : Fin 6, b.val = (i 0 : Fin 1536).val / 256 :=
    ⟨⟨(i 0 : Fin 1536).val / 256, Nat.div_lt_of_lt_mul (show (i 0 : Fin 1536).val < 256 * 6 from (i 0 : Fin 1536).isLt)⟩, rfl⟩
  refine Dat.arrAt_forall_of_flushed ((rdat m c).withAfter after) 6 (fun i v => v = arrMc (J c) i) (fun t hf y => ?_) cfg0.N
    (lastOf b) i (Fin.isLt _) ((flush0_6 _).mpr (show (5 * b.val + 4) % 5 = 4 by omega)) ?_
  · have hl : (after 6 t : Vec Ideal S256x7680 .fp8e4m3) = codes m c t := (dats m 0 c).toRRel_leaves (fgt := forgets0) rfl (hL 6 t hf)
    have hj : ∀ j : S256x7680.Idx, after 6 t j = arrMc (J c) (ix2 (tok (entry t) (j 0 : Fin 256)) (j 1 : Fin 7680)) :=
      fun j => (congrFun hl j).trans (codes_at m c t j)
    refine (hj y).trans (congrArg (arrMc (J c)) ?_)
    blk_ext [index6 t, tok, entry]
  · refine (Pipeline.Window.emb_mem_blk_iff win0_6 (lastOf b) i rfl).mpr ?_
    intro a
    have h := hi a
    have hv : (lastOf b).val / 5 = (i 0 : Fin 1536).val / 256 := by show (5 * b.val + 4) / 5 = _; omega
    fin_cases a <;> simp [Pipeline.Window.xsize, Pipeline.Clip.extent, index6, hv] at h ⊢ <;> omega

theorem arr7 : ((rdat m c).withAfter after).arrAt 7 cfg0.N = arrMs (J c) := by
  funext i
  have hi : ∀ a, (i a : ℕ) < S6x1x256.size a := fun a => (i a).isLt
  obtain ⟨b, hb⟩ : ∃ b : Fin 6, b.val = (i 0 : Fin 6).val := ⟨i 0, rfl⟩
  refine Dat.arrAt_forall_of_flushed ((rdat m c).withAfter after) 7 (fun i v => v = arrMs (J c) i) (fun t hf y => ?_) cfg0.N
    (lastOf b) i (Fin.isLt _) ((flush0_7 _).mpr (show (5 * b.val + 4) % 5 = 4 by omega)) ?_
  · have hl : (after 7 t : Vec Ideal S1x1x256 .f32) = scales m c t := (dats m 0 c).toRRel_leaves (fgt := forgets0) rfl (hL 7 t hf)
    have hj : ∀ j : S1x1x256.Idx, after 7 t j = arrMs (J c) (ix3 (entry t) (0 : Fin 1) (j 2 : Fin 256)) :=
      fun j => (congrFun hl j).trans (scales_at m c t j)
    refine (hj y).trans (congrArg (arrMs (J c)) ?_)
    blk_ext [index7 t, entry]
  · refine (Pipeline.Window.emb_mem_blk_iff win0_7 (lastOf b) i rfl).mpr ?_
    intro a
    have h := hi a
    have hv : (lastOf b).val / 5 = (i 0 : Fin 6).val := by show (5 * b.val + 4) / 5 = _; omega
    fin_cases a <;> simp [Pipeline.Window.xsize, index7, hv] at h ⊢ <;> omega

theorem arr8 : ((rdat m c).withAfter after).arrAt 8 cfg0.N = arrY (J c) := by
  funext i
  have hi : ∀ a, (i a : ℕ) < S6x2880x256.size a := fun a => (i a).isLt
  obtain ⟨b, hb⟩ : ∃ b : Fin 6, b.val = (i 0 : Fin 6).val := ⟨i 0, rfl⟩
  refine Dat.arrAt_forall_of_flushed ((rdat m c).withAfter after) 8 (fun i v => v = arrY (J c) i) (fun t hf y => ?_) cfg0.N
    (lastOf b) i (Fin.isLt _) ((flush0_8 _).mpr (show (5 * b.val + 4) % 5 = 4 by omega)) ?_
  · have hr : t.val % 5 = 4 → (after 8 t : Vec Ideal S1x2880x256 .bf16) = outY m c t := (dats m 0 c).toRRel_leaves (fgt := forgets0) rfl (hL 8 t hf)
    have hl := hr ((flush0_8 t).mp hf)
    have hj : ∀ j : S1x2880x256.Idx, after 8 t j = arrY (J c) (ix3 (entry t) (j 1 : Fin 2880) (j 2 : Fin 256)) :=
      fun j => (congrFun hl j).trans (outY_at m c t j)
    refine (hj y).trans (congrArg (arrY (J c)) ?_)
    blk_ext [index8 t, entry]
  · refine (Pipeline.Window.emb_mem_blk_iff win0_8 (lastOf b) i rfl).mpr ?_
    intro a
    have h := hi a
    have hv : (lastOf b).val / 5 = (i 0 : Fin 6).val := by show (5 * b.val + 4) / 5 = _; omega
    fin_cases a <;> simp [Pipeline.Window.xsize, index8, hv] at h ⊢ <;> omega

end Arr

/-- THE RESULTS of a run. -/
theorem results : θ_run defs (onTc (τ := τ) (main (F := Ideal))) (s₀ m ρ) (fun r => ∀ c : Dev nD,
      r.2.mem ((c.tc : Thread nD τ).loc main_v2_0) = arrMc (inputs m c)
      ∧ r.2.mem ((c.tc : Thread nD τ).loc main_v2_1) = arrMs (inputs m c)
      ∧ r.2.mem ((c.tc : Thread nD τ).loc main_v2_2) = arrY (inputs m c)) := by
  refine (θ_run defs _ _).mono (fun r (hr : Pipeline.RDat.FramePost (cfgs 0) (rdat m) (V m) r) c => ?_) (run_main m ρ)
  obtain ⟨after, hL, hA⟩ := hr.exists_exact c
  exact ⟨(hA 6).trans (arr6 m hL), (hA 7).trans (arr7 m hL), (hA 8).trans (arr8 m hL)⟩

end Cert.KernelDIdeal.Hand

end
-- ==== Proof.DRead.lean ====
/-
  The third call's reference values read at an index, over the extended reals.
-/
module

public import proofs.«01_k».proof.Proof.Gen.ReferenceDIdeal.Skeleton
public import proofs.«01_k».proof.Proof.ORead
public import proofs.«01_k».proof.Proof.DSpec

@[expose] public section

set_option maxRecDepth 16384

noncomputable section

namespace Cert.ReferenceDIdeal.Hand

open Cert.ReferenceDIdeal Cert.ReferenceDIdeal.Gen
open Idealize.ShloMosaic
open Cert.Spec Cert.OSpec Cert.DSpec
open Cert.ReferenceIdeal.Hand (expo_apply clip clip_apply scaled_apply down_zero exp2_sub_apply)
open Cert.ReferenceOIdeal.Hand (overV overV_apply swap1'_apply swap_apply swap'_apply)

/-! ## The codes and scales -/

theorem rmax_apply (v : Vec Ideal S1536x128 .f32) (n : Fin 1536) :
    (shapeCast S1536x1 (multiReduction .maximumf [1] S1536 v 0xFF800000#32 reduces_S1536x128_S1536 (.inl rfl) rfl : FVec Ideal S1536 .f32)
      shapeCasts_S1536_S1536x1 : FVec Ideal S1536x1 .f32) (ix2 n (0 : Fin 1)) = rmax (fun l : Fin 128 => v (ix2 n l)) := by
  have h' : rmax (fun l : Fin 128 => v (ix2 n l)) = Finset.fold max (Ideal.ofBits .f32 4286578688#32) (fun l : Fin 128 => v (ix2 n l)) Finset.univ := rfl
  generalize rmax (fun l : Fin 128 => v (ix2 n l)) = R at h' ⊢
  pointwise []
  exact h'.symm

theorem pay2_apply (xa : Vec Ideal S1536x128 .f32) (n : Fin 1536) :
    k0_pay2 (F := Ideal) xa (ix2 n (0 : Fin 1)) = Cert.Expo.expo (rmax (fun l : Fin 128 => xa (ix2 n l)) * Ideal.ofBits .f32 991054117#32) := by
  refine (expo_apply _ _).trans (congrArg Cert.Expo.expo ?_)
  exact (scaled_apply _ _ _).trans (congrArg (· * Ideal.ofBits .f32 991054117#32) (rmax_apply xa n))

theorem down_apply (u : FVec Ideal S1536x7680 .f32) (w : FVec Ideal S1536x1 .f32) (n : Fin 1536) (k : Fin 7680) :
    mulf u (broadcastTo S1536x7680 (exp2 (subf (broadcast S1536x1 (Scalar.ofBits (F := Ideal) .f32 0x00000000#32)) w)) broadcasts_S1536x1_S1536x7680) (ix2 n k)
      = u (ix2 n k) * Ideal.exp2 (0 - w (ix2 n (0 : Fin 1))) := by
  rw [← down_zero, ← exp2_sub_apply]
  generalize exp2 (subf (broadcast S1536x1 (Scalar.ofBits (F := Ideal) .f32 0x00000000#32)) w) = z
  pointwise []

theorem pay3_apply (x : Vec Ideal S1536x7680 .f32) (xa : Vec Ideal S1536x128 .f32) (n : Fin 1536) (k : Fin 7680) :
    k0_pay3 (F := Ideal) x xa (ix2 n k) = gcode (x (ix2 n k)) (rmax (fun l : Fin 128 => xa (ix2 n l))) := by
  unfold gcode
  rw [← pay2_apply]
  refine (clip_apply _ _).trans (congrArg clip ?_)
  generalize k0_pay2 xa = w
  exact down_apply x w n k

theorem rows1_apply (v : FVec Ideal S1536x1 .f32) (b : Fin 6) (s : Fin 256) :
    shapeCast S6x256x1 v shapeCasts_S1536x1_S6x256x1 (ix3 b s (0 : Fin 1)) = v (ix2 (tok b s) (0 : Fin 1)) := by
  unfold tok
  pointwise []
theorem rows_apply (v : FVec Ideal S1536x2880 .f32) (b : Fin 6) (s : Fin 256) (d : Fin 2880) :
    shapeCast S6x256x2880 v shapeCasts_S1536x2880_S6x256x2880 (ix3 b s d) = v (ix2 (tok b s) d) := by
  unfold tok
  pointwise []

theorem pay4_apply (xa : Vec Ideal S1536x128 .f32) (b : Fin 6) (s : Fin 256) :
    k0_pay4 (F := Ideal) xa (ix3 b s (0 : Fin 1)) = gscale (rmax (fun l : Fin 128 => xa (ix2 (tok b s) l))) := by
  unfold gscale
  rw [← pay2_apply]
  refine (rows1_apply (exp2 (k0_pay2 xa)) b s).trans ?_
  exact Cert.ReferenceIdeal.Hand.exp2_apply (k0_pay2 xa) _

theorem pay5_apply (xa : Vec Ideal S1536x128 .f32) (b : Fin 6) (s : Fin 256) :
    k0_pay5 (F := Ideal) xa (ix3 b (0 : Fin 1) s) = gscale (rmax (fun l : Fin 128 => xa (ix2 (tok b s) l))) :=
  (swap1'_apply (k0_pay4 xa) b s).trans (pay4_apply xa b s)

/-! ## The projection -/

theorem dot_apply (c : FVec Ideal S1536x7680 .fp8e4m3) (w : FVec Ideal S2880x7680 .fp8e4m3) (n : Fin 1536) (d : Fin 2880) :
    matmul dot_S1536x7680_S2880x7680_S1536x2880_1_1_0_0_n_n none c w (constant S1536x2880 .f32 0x00000000#32) (ix2 n d)
      = ∑ k : Fin 7680, (c (ix2 n k) : EReal) * w (ix2 d k) := by
  pointwise []

/-- The projection's value. -/
def prodV (v31 : FVec Ideal S6x256x1 .f32) (v35 : FVec Ideal S1536x2880 .f32) (v39 : Vec Ideal S2880 .f32) : FVec Ideal S6x256x2880 .f32 :=
  mulf (mulf (shapeCast S6x256x2880 v35 shapeCasts_S1536x2880_S6x256x2880) (broadcastTo S6x256x2880 v31 broadcasts_S6x256x1_S6x256x2880))
    (broadcastTo S6x256x2880 (shapeCast S1x1x2880 v39 shapeCasts_S2880_S1x1x2880) broadcasts_S1x1x2880_S6x256x2880)

theorem prodV_apply (v31 : FVec Ideal S6x256x1 .f32) (v35 : FVec Ideal S1536x2880 .f32) (v39 : Vec Ideal S2880 .f32) (b : Fin 6) (s : Fin 256) (d : Fin 2880) :
    prodV v31 v35 v39 (ix3 b s d) = v35 (ix2 (tok b s) d) * v31 (ix3 b s (0 : Fin 1)) * v39 (ix1 d) := by
  rw [← rows_apply v35]
  unfold prodV
  generalize shapeCast S6x256x2880 v35 shapeCasts_S1536x2880_S6x256x2880 = z
  pointwise []

/-- The mix. -/
def mixV (x : FVec Ideal S6x256x2880 .f32) (al : Vec Ideal S2880 .f32) (y : FVec Ideal S6x256x2880 .f32) : FVec Ideal S6x256x2880 .f32 :=
  addf x (mulf (broadcastTo S6x256x2880 (shapeCast S1x1x2880 al shapeCasts_S2880_S1x1x2880) broadcasts_S1x1x2880_S6x256x2880) (subf y x))

theorem mixV_apply (x : FVec Ideal S6x256x2880 .f32) (al : Vec Ideal S2880 .f32) (y : FVec Ideal S6x256x2880 .f32) (b : Fin 6) (s : Fin 256) (d : Fin 2880) :
    mixV x al y (ix3 b s d) = x (ix3 b s d) + al (ix1 d) * (y (ix3 b s d) - x (ix3 b s d)) := by
  pointwise [mixV]

theorem trunc_apply (v : FVec Ideal S6x256x2880 .f32) (b : Fin 6) (s : Fin 256) (d : Fin 2880) :
    (truncf .bf16 v bitsLt_bf16_f32 : FVec Ideal S6x256x2880 .bf16) (ix3 b s d) = v (ix3 b s d) := by
  pointwise []

theorem pay1_apply (v31 : FVec Ideal S6x256x1 .f32) (v35 : FVec Ideal S1536x2880 .f32) (v39 : Vec Ideal S2880 .f32) (v43 : Vec Ideal S6x2880x256 .f32)
    (v45 : Vec Ideal S2880 .f32) (b : Fin 6) (s : Fin 256) (d : Fin 2880) :
    k0_pay1 (F := Ideal) v31 v35 v39 v43 v45 (ix3 b d s)
      = over (mixed (fun k => v43 (ix3 b k s)) (fun k => v45 (ix1 k)) (fun k => v35 (ix2 (tok b s) k) * v31 (ix3 b s (0 : Fin 1)) * v39 (ix1 k))) d := by
  refine (swap'_apply (φ := .bf16) (truncf .bf16 (overV (mixV (transpose S6x256x2880 [0, 2, 1] v43 transposes_S6x2880x256_p0_2_1_S6x256x2880) v45
    (overV (prodV v31 v35 v39)))) bitsLt_bf16_f32) b s d).trans ((trunc_apply _ b s d).trans ?_)
  rw [overV_apply]
  refine congrFun (congrArg over (funext fun k => ?_)) d
  rw [mixV_apply, overV_apply, swap_apply, funext (prodV_apply v31 v35 v39 b s)]
  rfl

end Cert.ReferenceDIdeal.Hand

end
-- ==== Proof.DRFinal.lean ====
/-
  What the third call's reference leaves in its results after a run.
-/
module

public import proofs.«01_k».proof.Proof.Gen.ReferenceDIdeal.Frame
public import proofs.«01_k».proof.Proof.DRead
public import proofs.«01_k».proof.Proof.Arrays
public import Idealize.ShloMosaic.Lib.Pipeline.Value
public import Idealize.ShloMosaic.Lib.Pipeline.ValueKit.Geometry

@[expose] public section

set_option maxRecDepth 16384

noncomputable section

namespace Cert.ReferenceDIdeal.Hand

open Cert.ReferenceDIdeal Cert.ReferenceDIdeal.Gen
open Idealize.ShloMosaic Idealize.ShloMosaic.TcCoe Idealize.ShloMosaic.Tactic
open Idealize.ShloMosaic.Pipeline (Dat Cfg Window)
open Cert.Spec Cert.OSpec Cert.DSpec

/-- Six arrays read as the call's inputs. -/
def inputsOf (x0 : S1536x7680.Idx → EReal) (x1 : S1536x128.Idx → EReal) (x2 : S2880x7680.Idx → EReal) (x3 x4 : S2880.Idx → EReal)
    (x5 : S6x2880x256.Idx → EReal) : DIn where
  x n k := x0 (ix2 n k)
  xa n l := x1 (ix2 n l)
  w e k := x2 (ix2 e k)
  ws e := x3 (ix1 e)
  al e := x4 (ix1 e)
  r b s d := x5 (ix3 b d s)

theorem eta2 {n0 n1 : ℕ} (j : (⟨2, ![n0, n1]⟩ : Shape).Idx) : j = ix2 (j 0 : Fin n0) (j 1 : Fin n1) := by
  funext a; fin_cases a <;> rfl

section Values

variable (x0 : Vec Ideal S1536x7680 .f32) (x1 : Vec Ideal S1536x128 .f32) (x2 : Vec Ideal S2880x7680 .fp8e4m3) (x3 x4 : Vec Ideal S2880 .f32)
  (x5 : Vec Ideal S6x2880x256 .f32)

local notation "J" => inputsOf x0 x1 x2 x3 x4 x5

theorem z1 : (![0] : Fin 1 → ℕ) = fun _ => 0 := by decide
theorem z2 : (![0, 0] : Fin 2 → ℕ) = fun _ => 0 := by decide
theorem z3 : (![0, 0, 0] : Fin 3 → ℕ) = fun _ => 0 := by decide

theorem xld : View.ld (Val := Elt Ideal) x0 r0_0 = x0 := View.ld_unit_zero z2 _ _
theorem xald : View.ld (Val := Elt Ideal) x1 r0_1 = x1 := View.ld_unit_zero z2 _ _
theorem wld : View.ld (Val := Elt Ideal) x2 r0_3 = x2 := View.ld_unit_zero z2 _ _
theorem vld (x : Vec Ideal S2880 .f32) : View.ld (Val := Elt Ideal) x r0_4 = x := View.ld_unit_zero z1 _ _
theorem rld : View.ld (Val := Elt Ideal) x5 r0_5 = x5 := View.ld_unit_zero z3 _ _

theorem pay6_apply (n : Fin 1536) (d : Fin 2880) :
    k0_pay6 (F := Ideal) x0 x1 x2 (ix2 n d) = ∑ k : Fin 7680, cd J n k * x2 (ix2 d k) := by
  refine (dot_apply (k0_pay3 x0 x1) x2 n d).trans ?_
  exact Finset.sum_congr rfl fun k _ => congrArg (fun z : EReal => z * x2 (ix2 d k)) (pay3_apply x0 x1 n k)

theorem y_apply (b : Fin 6) (s : Fin 256) (d : Fin 2880) :
    k0_pay1 (F := Ideal) (k0_pay4 x1) (k0_pay6 x0 x1 x2) x3 x5 x4 (ix3 b d s) = out J b s d := by
  rw [pay1_apply, pay4_apply]
  unfold out
  refine congrFun (congrArg over (congrArg (mixed _ _) (funext fun k => ?_))) d
  rw [pay6_apply x0 x1 x2 x3 x4 x5]
  rfl

theorem out6_apply (j : S1536x7680.Idx) : out0_6 x0 x1 x2 x3 x4 x5 j = arrMc J j := by
  unfold out0_6
  rw [View.canon_unit_zero z2, xld, xald]
  exact (congrArg _ (eta2 j)).trans (pay3_apply x0 x1 _ _)

theorem out7_apply (j : S6x1x256.Idx) : out0_7 x0 x1 x2 x3 x4 x5 j = arrMs J j := by
  unfold out0_7
  rw [View.canon_unit_zero z3, xald]
  exact (congrArg _ (eta31 j)).trans (pay5_apply x1 _ _)

theorem out8_apply (j : S6x2880x256.Idx) : out0_8 x0 x1 x2 x3 x4 x5 j = arrY J j := by
  unfold out0_8
  rw [View.canon_unit_zero z3, xld, xald, wld, vld, vld, rld]
  exact (congrArg _ (eta3 j)).trans (y_apply x0 x1 x2 x3 x4 x5 _ _ _)

end Values

/-! ## The run -/

variable (m : (ℓ : Loc nD τ sig) → Buf (Elt Ideal) ℓ) (ρ : Dev nD → PrngReg)

/-- The reference's inputs. -/
def inputs (c : Dev nD) : DIn :=
  inputsOf (V m c main_arg0) (V m c main_arg1) (V m c main_arg2) (V m c main_arg3) (V m c main_arg4) (V m c main_arg5)

/-- The one point. -/
def pt : Fin cfg0.N := ⟨0, by decide +kernel⟩

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0] := by decide +kernel
theorem index4 : ∀ t : Fin cfg0.N, win0_4.index t = ![0] := by decide +kernel
theorem index5 : ∀ t : Fin cfg0.N, win0_5.index t = ![0, 0, 0] := by decide +kernel
theorem index6 : ∀ t : Fin cfg0.N, win0_6.index t = ![0, 0] := by decide +kernel
theorem index7 : ∀ t : Fin cfg0.N, win0_7.index t = ![0, 0, 0] := by decide +kernel
theorem index8 : ∀ t : Fin cfg0.N, win0_8.index t = ![0, 0, 0] := by decide +kernel

theorem iblk0_eq (c : Dev nD) (t : Fin cfg0.N) : iblk m c 0 t = V m c main_arg0 := by
  funext y; blk_simp [iblk]; refine congrArg _ ?_; blk_ext [index0 t]
theorem iblk1_eq (c : Dev nD) (t : Fin cfg0.N) : iblk m c 1 t = V m c main_arg1 := by
  funext y; blk_simp [iblk]; refine congrArg _ ?_; blk_ext [index1 t]
theorem iblk2_eq (c : Dev nD) (t : Fin cfg0.N) : iblk m c 2 t = V m c main_arg2 := by
  funext y; blk_simp [iblk]; refine congrArg _ ?_; blk_ext [index2 t]
theorem iblk3_eq (c : Dev nD) (t : Fin cfg0.N) : iblk m c 3 t = V m c main_arg3 := by
  funext y; blk_simp [iblk]; refine congrArg _ ?_; blk_ext [index3 t]
theorem iblk4_eq (c : Dev nD) (t : Fin cfg0.N) : iblk m c 4 t = V m c main_arg4 := by
  funext y; blk_simp [iblk]; refine congrArg _ ?_; blk_ext [index4 t]
theorem iblk5_eq (c : Dev nD) (t : Fin cfg0.N) : iblk m c 5 t = V m c main_arg5 := by
  funext y; blk_simp [iblk]; refine congrArg _ ?_; blk_ext [index5 t]

theorem arr6 (c : Dev nD) : (dats m 0 c).arrAt 6 cfg0.N = arrMc (inputs m c) := by
  funext i
  have hi : ∀ a, (i a : ℕ) < S1536x7680.size a := fun a => (i a).isLt
  refine Dat.arrAt_forall_of_flushed (dats m 0 c) 6 (fun i v => v = arrMc (inputs m c) i) (fun t hf y => ?_) cfg0.N pt i (Fin.isLt _) (flush0_6 _) ?_
  · have hl : ∀ j : S1536x7680.Idx, (dats m 0 c).after 6 t j = arrMc (inputs m c) j := fun j => by
      rw [after0_6, iblk0_eq, iblk1_eq, iblk2_eq, iblk3_eq, iblk4_eq, iblk5_eq]
      exact out6_apply _ _ _ _ _ _ j
    refine (hl y).trans (congrArg (arrMc (inputs m c)) ?_)
    blk_ext [index6 t]
  · refine (Pipeline.Window.emb_mem_blk_iff win0_6 pt i rfl).mpr ?_
    intro a
    have h := hi a
    fin_cases a <;> simp [Pipeline.Window.xsize, index6] at h ⊢ <;> omega

theorem arr7 (c : Dev nD) : (dats m 0 c).arrAt 7 cfg0.N = arrMs (inputs m c) := by
  funext i
  have hi : ∀ a, (i a : ℕ) < S6x1x256.size a := fun a => (i a).isLt
  refine Dat.arrAt_forall_of_flushed (dats m 0 c) 7 (fun i v => v = arrMs (inputs m c) i) (fun t hf y => ?_) cfg0.N pt i (Fin.isLt _) (flush0_7 _) ?_
  · have hl : ∀ j : S6x1x256.Idx, (dats m 0 c).after 7 t j = arrMs (inputs m c) j := fun j => by
      rw [after0_7, iblk0_eq, iblk1_eq, iblk2_eq, iblk3_eq, iblk4_eq, iblk5_eq]
      exact out7_apply _ _ _ _ _ _ j
    refine (hl y).trans (congrArg (arrMs (inputs m c)) ?_)
    blk_ext [index7 t]
  · refine (Pipeline.Window.emb_mem_blk_iff win0_7 pt i rfl).mpr ?_
    intro a
    have h := hi a
    fin_cases a <;> simp [Pipeline.Window.xsize, index7] at h ⊢ <;> omega

theorem arr8 (c : Dev nD) : (dats m 0 c).arrAt 8 cfg0.N = arrY (inputs m c) := by
  funext i
  have hi : ∀ a, (i a : ℕ) < S6x2880x256.size a := fun a => (i a).isLt
  refine Dat.arrAt_forall_of_flushed (dats m 0 c) 8 (fun i v => v = arrY (inputs m c) i) (fun t hf y => ?_) cfg0.N pt i (Fin.isLt _) (flush0_8 _) ?_
  · have hl : ∀ j : S6x2880x256.Idx, (dats m 0 c).after 8 t j = arrY (inputs m c) j := fun j => by
      rw [after0_8, iblk0_eq, iblk1_eq, iblk2_eq, iblk3_eq, iblk4_eq, iblk5_eq]
      exact out8_apply _ _ _ _ _ _ j
    refine (hl y).trans (congrArg (arrY (inputs m c)) ?_)
    blk_ext [index8 t]
  · refine (Pipeline.Window.emb_mem_blk_iff win0_8 pt i rfl).mpr ?_
    intro a
    have h := hi a
    fin_cases a <;> simp [Pipeline.Window.xsize, index8] at h ⊢ <;> omega

/-- THE RESULTS of a run. -/
theorem results : θ_run defs (onTc (τ := τ) (main (F := Ideal))) (s₀ m ρ) (fun r => ∀ c : Dev nD,
      r.2.mem ((c.tc : Thread nD τ).loc main_v0_0) = arrMc (inputs m c)
      ∧ r.2.mem ((c.tc : Thread nD τ).loc main_v0_1) = arrMs (inputs m c)
      ∧ r.2.mem ((c.tc : Thread nD τ).loc main_v0_2) = arrY (inputs m c)) := by
  refine (θ_run defs _ _).mono (fun r h c => ?_) (run_main m ρ)
  exact ⟨((h c).1 6).trans (arr6 m c), ((h c).1 7).trans (arr7 m c), ((h c).1 8).trans (arr8 m c)⟩

end Cert.ReferenceDIdeal.Hand

end
-- ==== Proof.DHost.lean ====
/-
  From equal arguments both programs of the third call read equal inputs: the scales and coefficients as rows or as vectors.
-/
module

public import proofs.«01_k».proof.Proof.DKFinal
public import proofs.«01_k».proof.Proof.DRFinal
public import proofs.«01_k».proof.Proof.OHost
public import Idealize.ShloMosaic.Lib.StableHlo.ReadAt
public import Idealize.ShloMosaic.Lib.Claim

@[expose] public section

noncomputable section

namespace Cert.KernelDIdeal.Hand

open Cert.KernelDIdeal Cert.KernelDIdeal.Gen
open Idealize.ShloMosaic Idealize.ShloMosaic.TcCoe Idealize.ShloMosaic.Tactic

variable (m : (ℓ : Loc nD τ sig) → Buf (Elt Ideal) ℓ)

theorem V_ws (c : Dev nD) : V m c main_v0 = broadcastInDim S1x2880 ![1] bcast_S2880_S1x2880_1 (m ((c : Thread nD τ).loc main_arg3) : S2880.Idx → Elt Ideal .f32) := by
  unfold_abbrev_sides
  after_results

theorem V_al (c : Dev nD) : V m c main_v1 = broadcastInDim S1x2880 ![1] bcast_S2880_S1x2880_1 (m ((c : Thread nD τ).loc main_arg4) : S2880.Idx → Elt Ideal .f32) := by
  unfold_abbrev_sides
  after_results

end Cert.KernelDIdeal.Hand

namespace Cert.Hand

open Idealize.ShloMosaic Idealize.ShloMosaic.TcCoe

/-- EQUAL ARGUMENTS GIVE EQUAL INPUTS. -/
theorem inputsD_eq (m : (ℓ : Loc Cert.KernelDIdeal.nD Cert.KernelDIdeal.τ Cert.KernelDIdeal.sig) → Buf (Elt Ideal) ℓ)
    (m' : (ℓ : Loc Cert.ReferenceDIdeal.nD Cert.ReferenceDIdeal.τ Cert.ReferenceDIdeal.sig) → Buf (Elt Ideal) ℓ) (c : Dev Cert.KernelDIdeal.nD)
    (h0 : m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0))
    (h1 : m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1))
    (h2 : m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2))
    (h3 : m' ((c.tc : Thread Cert.ReferenceDIdeal.nD Cert.ReferenceDIdeal.τ).loc Cert.ReferenceDIdeal.main_arg3) = m ((c.tc : Thread Cert.KernelDIdeal.nD Cert.KernelDIdeal.τ).loc Cert.KernelDIdeal.main_arg3))
    (h4 : m' ((c.tc : Thread Cert.ReferenceDIdeal.nD Cert.ReferenceDIdeal.τ).loc Cert.ReferenceDIdeal.main_arg4) = m ((c.tc : Thread Cert.KernelDIdeal.nD Cert.KernelDIdeal.τ).loc Cert.KernelDIdeal.main_arg4))
    (h5 : m' ((c.tc : Thread Cert.ReferenceDIdeal.nD Cert.ReferenceDIdeal.τ).loc Cert.ReferenceDIdeal.main_arg5) = m ((c.tc : Thread Cert.KernelDIdeal.nD Cert.KernelDIdeal.τ).loc Cert.KernelDIdeal.main_arg5)) :
    Cert.ReferenceDIdeal.Hand.inputs m' c = Cert.KernelDIdeal.Hand.inputs m c := by
  have e0 := ((Cert.ReferenceDIdeal.Gen.V_main_arg0 m' c).trans h0).trans (Cert.KernelDIdeal.Gen.V_main_arg0 m c).symm
  have e1 := ((Cert.ReferenceDIdeal.Gen.V_main_arg1 m' c).trans h1).trans (Cert.KernelDIdeal.Gen.V_main_arg1 m c).symm
  have e2 := ((Cert.ReferenceDIdeal.Gen.V_main_arg2 m' c).trans h2).trans (Cert.KernelDIdeal.Gen.V_main_arg2 m c).symm
  have e3 := (Cert.ReferenceDIdeal.Gen.V_main_arg3 m' c).trans h3
  have e4 := (Cert.ReferenceDIdeal.Gen.V_main_arg4 m' c).trans h4
  have e5 := ((Cert.ReferenceDIdeal.Gen.V_main_arg5 m' c).trans h5).trans (Cert.KernelDIdeal.Gen.V_main_arg5 m c).symm
  unfold Cert.ReferenceDIdeal.Hand.inputs Cert.ReferenceDIdeal.Hand.inputsOf Cert.KernelDIdeal.Hand.inputs
  rw [Cert.DSpec.DIn.mk.injEq]
  refine ⟨?_, ?_, ?_, ?_, ?_, ?_⟩
  · funext n k
    exact congrFun e0 (ix2 n k)
  · funext n l
    exact congrFun e1 (ix2 n l)
  · funext e k
    exact congrFun e2 (ix2 e k)
  · funext e
    exact (congrFun e3 (ix1 e)).trans ((Cert.KernelOIdeal.Hand.row_apply _ e).symm.trans (congrFun (Cert.KernelDIdeal.Hand.V_ws m c) (ix2 (0 : Fin 1) e)).symm)
  · funext e
    exact (congrFun e4 (ix1 e)).trans ((Cert.KernelOIdeal.Hand.row_apply _ e).symm.trans (congrFun (Cert.KernelDIdeal.Hand.V_al m c) (ix2 (0 : Fin 1) e)).symm)
  · funext b s d
    exact congrFun e5 (ix3 b d s)

end Cert.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KFrame
public import proofs.«01_k».proof.Proof.FrameT
public import proofs.«01_k».proof.Proof.KFinal
public import proofs.«01_k».proof.Proof.RFinal
public import proofs.«01_k».proof.Proof.Host
public import proofs.«01_k».proof.Proof.OKFrame
public import proofs.«01_k».proof.Proof.OKFinal
public import proofs.«01_k».proof.Proof.ORFinal
public import proofs.«01_k».proof.Proof.OHost
public import proofs.«01_k».proof.Proof.DKFrame
public import proofs.«01_k».proof.Proof.DKFinal
public import proofs.«01_k».proof.Proof.DRFinal
public import proofs.«01_k».proof.Proof.DHost
public import proofs.«01_k».proof.Proof.Gen.KernelO
public import proofs.«01_k».proof.Proof.Gen.KernelOIdeal
public import proofs.«01_k».proof.Proof.Gen.KernelOIdeal.Frame
public import proofs.«01_k».proof.Proof.Gen.ReferenceOIdeal
public import proofs.«01_k».proof.Proof.Gen.ReferenceOIdeal.Frame
public import proofs.«01_k».proof.Proof.Gen.KernelD
public import proofs.«01_k».proof.Proof.Gen.KernelDIdeal
public import proofs.«01_k».proof.Proof.Gen.KernelDIdeal.Frame
public import proofs.«01_k».proof.Proof.Gen.KernelDIdeal.Skeleton
public import proofs.«01_k».proof.Proof.Gen.ReferenceDIdeal
public import proofs.«01_k».proof.Proof.Gen.ReferenceDIdeal.Frame
public import Idealize.ShloMosaic.Adequacy
public import Idealize.ShloMosaic.Init

@[expose] public section

noncomputable section

namespace Cert.Proof

open Idealize.ShloMosaic Idealize.SL.Sem Cert.Spec

/-- From equal arguments the idealized kernel and the idealized reference end with equal results. -/
theorem algebraic : @Cert.algebraic_KernelIdeal_ReferenceIdeal Cert.KernelIdeal.Gen.facts Cert.ReferenceIdeal.Gen.facts := by
  intro m g m' g' _ hargs
  refine ⟨fun c => arrX (Cert.KernelIdeal.Hand.inputs m c), fun c => arrXs (Cert.KernelIdeal.Hand.inputs m c),
    fun c => arrC (qv (Cert.KernelIdeal.Hand.inputs m c)), fun c => arrS (qv (Cert.KernelIdeal.Hand.inputs m c)),
    fun c => arrC (kv (Cert.KernelIdeal.Hand.inputs m c)), fun c => arrS (kv (Cert.KernelIdeal.Hand.inputs m c)),
    fun c => arrO (Cert.KernelIdeal.Hand.inputs m c), fun c => arrM (Cert.KernelIdeal.Hand.inputs m c), ?_, ?_⟩
  · refine (θ_run _ _ _).mono (fun r h c => ?_) (θ_run_and (Cert.KernelIdeal.Hand.results m g) (Cert.KernelIdeal.Hand.unchanged m g))
    obtain ⟨h0, h1, h2, h3, h4, h5, h6, h7⟩ := h.1 c
    exact ⟨h0, h1, h2, h3, h4, h5, h6, h7, h.2 c⟩
  · refine (θ_run _ _ _).mono (fun r h c => ?_) (θ_run_and (Cert.ReferenceIdeal.Hand.results m' g') (Cert.ReferenceIdeal.Gen.unchanged m' g'))
    have e := Cert.Hand.inputs_eq m m' c (hargs c).1 (hargs c).2.1 (hargs c).2.2.1 (hargs c).2.2.2
    obtain ⟨h0, h1, h2, h3, h4, h5, h6, h7⟩ := h.1 c
    exact ⟨h0.trans (congrArg arrX e), h1.trans (congrArg arrXs e), h2.trans (congrArg (fun I => arrC (qv I)) e),
      h3.trans (congrArg (fun I => arrS (qv I)) e), h4.trans (congrArg (fun I => arrC (kv I)) e),
      h5.trans (congrArg (fun I => arrS (kv I)) e), h6.trans (congrArg arrO e), h7.trans (congrArg arrM e), h.2 c⟩

open Cert.OSpec in
/-- The same of the second call. -/
theorem algebraic_o : @Cert.algebraic_KernelOIdeal_ReferenceOIdeal Cert.KernelOIdeal.Gen.facts Cert.ReferenceOIdeal.Gen.facts := by
  intro m g m' g' _ hargs
  refine ⟨fun c => arrOc (Cert.KernelOIdeal.Hand.inputs m c), fun c => arrOs (Cert.KernelOIdeal.Hand.inputs m c),
    fun c => arrHc (Cert.KernelOIdeal.Hand.inputs m c), fun c => arrHs (Cert.KernelOIdeal.Hand.inputs m c),
    fun c => arrHt (Cert.KernelOIdeal.Hand.inputs m c), fun c => arrH1 (Cert.KernelOIdeal.Hand.inputs m c), ?_, ?_⟩
  · refine (θ_run _ _ _).mono (fun r h c => ?_) (θ_run_and (Cert.KernelOIdeal.Hand.results m g) (Cert.KernelOIdeal.Gen.unchanged m g))
    obtain ⟨h0, h1, h2, h3, h4, h5⟩ := h.1 c
    exact ⟨h0, h1, h2, h3, h4, h5, h.2 c⟩
  · refine (θ_run _ _ _).mono (fun r h c => ?_) (θ_run_and (Cert.ReferenceOIdeal.Hand.results m' g') (Cert.ReferenceOIdeal.Gen.unchanged m' g'))
    have e := Cert.Hand.inputsO_eq m m' c (hargs c).1 (hargs c).2.1 (hargs c).2.2.1 (hargs c).2.2.2.1 (hargs c).2.2.2.2.1 (hargs c).2.2.2.2.2
    obtain ⟨h0, h1, h2, h3, h4, h5⟩ := h.1 c
    exact ⟨h0.trans (congrArg arrOc e), h1.trans (congrArg arrOs e), h2.trans (congrArg arrHc e),
      h3.trans (congrArg arrHs e), h4.trans (congrArg arrHt e), h5.trans (congrArg arrH1 e), h.2 c⟩

open Cert.DSpec in
/-- The same of the third call. -/
theorem algebraic_d : @Cert.algebraic_KernelDIdeal_ReferenceDIdeal Cert.KernelDIdeal.Gen.facts Cert.ReferenceDIdeal.Gen.facts := by
  intro m g m' g' _ hargs
  refine ⟨fun c => arrMc (Cert.KernelDIdeal.Hand.inputs m c), fun c => arrMs (Cert.KernelDIdeal.Hand.inputs m c),
    fun c => arrY (Cert.KernelDIdeal.Hand.inputs m c), ?_, ?_⟩
  · refine (θ_run _ _ _).mono (fun r h c => ?_) (θ_run_and (Cert.KernelDIdeal.Hand.results m g) (Cert.KernelDIdeal.Hand.unchanged m g))
    obtain ⟨h0, h1, h2⟩ := h.1 c
    exact ⟨h0, h1, h2, h.2 c⟩
  · refine (θ_run _ _ _).mono (fun r h c => ?_) (θ_run_and (Cert.ReferenceDIdeal.Hand.results m' g') (Cert.ReferenceDIdeal.Gen.unchanged m' g'))
    have e := Cert.Hand.inputsD_eq m m' c (hargs c).1 (hargs c).2.1 (hargs c).2.2.1 (hargs c).2.2.2.1 (hargs c).2.2.2.2.1 (hargs c).2.2.2.2.2
    obtain ⟨h0, h1, h2⟩ := h.1 c
    exact ⟨h0.trans (congrArg arrMc e), h1.trans (congrArg arrMs e), h2.trans (congrArg arrY e), h.2 c⟩

theorem claim : Cert.Claim := ⟨Cert.Kernel.Gen.facts, Cert.KernelIdeal.Gen.facts, Cert.ReferenceIdeal.Gen.facts,
  Cert.KernelO.Gen.facts, Cert.KernelOIdeal.Gen.facts, Cert.ReferenceOIdeal.Gen.facts,
  Cert.KernelD.Gen.facts, Cert.KernelDIdeal.Gen.facts, Cert.ReferenceDIdeal.Gen.facts,
  Cert.Kernel.Hand.frame,
  fun m ρ _ => Cert.KernelIdeal.Hand.frame (F := Ideal) m ρ,
  fun m ρ _ => Cert.ReferenceIdeal.Gen.frame m ρ,
  Cert.KernelO.Hand.frame,
  fun m ρ _ => Cert.KernelOIdeal.Gen.frame (F := Ideal) m ρ,
  fun m ρ _ => Cert.ReferenceOIdeal.Gen.frame m ρ,
  Cert.KernelD.Hand.frame,
  fun m ρ _ => Cert.KernelDIdeal.Hand.frame (F := Ideal) m ρ,
  fun m ρ _ => Cert.ReferenceDIdeal.Gen.frame m ρ,
  trivial,
  algebraic,
  trivial,
  algebraic_o,
  trivial,
  algebraic_d⟩

end Cert.Proof

end
